-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  IdealRules.named_const.Statement Cert.KernelIdeal.κ "w25_71" .f32 0x3EB4481D#32 ((25 / 71 : ℝ) : EReal)
  ∧ IdealRules.named_const.Statement Cert.KernelIdeal.κ "w46_71" .f32 0x3F25DBF2#32 ((46 / 71 : ℝ) : EReal)
  ∧ IdealRules.named_const.Statement Cert.KernelIdeal.κ "w14_71" .f32 0x3E49EA5E#32 ((14 / 71 : ℝ) : EReal)
  ∧ IdealRules.named_const.Statement Cert.KernelIdeal.κ "w57_71" .f32 0x3F4D8569#32 ((57 / 71 : ℝ) : EReal)
  ∧ IdealRules.named_const.Statement Cert.KernelIdeal.κ "w44_71" .f32 0x3F1EA5DC#32 ((44 / 71 : ℝ) : EReal)
  ∧ IdealRules.named_const.Statement Cert.KernelIdeal.κ "w27_71" .f32 0x3EC2B448#32 ((27 / 71 : ℝ) : EReal)
  ∧ IdealRules.named_const.Statement Cert.KernelIdeal.κ "w18_71" .f32 0x3E81CD85#32 ((18 / 71 : ℝ) : EReal)
  ∧ IdealRules.named_const.Statement Cert.KernelIdeal.κ "w53_71" .f32 0x3F3F193D#32 ((53 / 71 : ℝ) : EReal)
  ∧ IdealRules.named_const.Statement Cert.KernelIdeal.κ "w47_71" .f32 0x3F2976FC#32 ((47 / 71 : ℝ) : EReal)
  ∧ IdealRules.named_const.Statement Cert.KernelIdeal.κ "w24_71" .f32 0x3EAD1207#32 ((24 / 71 : ℝ) : EReal)
  ∧ IdealRules.named_const.Statement Cert.KernelIdeal.κ "w26_71" .f32 0x3EBB7E32#32 ((26 / 71 : ℝ) : EReal)
  ∧ IdealRules.named_const.Statement Cert.KernelIdeal.κ "w45_71" .f32 0x3F2240E7#32 ((45 / 71 : ℝ) : EReal)
  ∧ IdealRules.named_const.Statement Cert.KernelIdeal.κ "w11_71" .f32 0x3E1EA5DC#32 ((11 / 71 : ℝ) : EReal)
  ∧ IdealRules.named_const.Statement Cert.KernelIdeal.κ "w60_71" .f32 0x3F585689#32 ((60 / 71 : ℝ) : EReal)
  ∧ IdealRules.named_const.Statement Cert.KernelIdeal.κ "w9_71" .f32 0x3E01CD85#32 ((9 / 71 : ℝ) : EReal)
  ∧ IdealRules.named_const.Statement Cert.KernelIdeal.κ "w62_71" .f32 0x3F5F8C9F#32 ((62 / 71 : ℝ) : EReal)
  ∧ IdealRules.named_const.Statement Cert.KernelIdeal.κ "w8_71" .f32 0x3DE6C2B4#32 ((8 / 71 : ℝ) : EReal)
  ∧ IdealRules.named_const.Statement Cert.KernelIdeal.κ "w63_71" .f32 0x3F6327A9#32 ((63 / 71 : ℝ) : EReal)
  ∧ IdealRules.named_const.Statement Cert.KernelIdeal.κ "w4_71" .f32 0x3D66C2B4#32 ((4 / 71 : ℝ) : EReal)
  ∧ IdealRules.named_const.Statement Cert.KernelIdeal.κ "w67_71" .f32 0x3F7193D5#32 ((67 / 71 : ℝ) : EReal)
  ∧ IdealRules.named_const.Statement Cert.KernelIdeal.κ "w42_71" .f32 0x3F176FC6#32 ((42 / 71 : ℝ) : EReal)
  ∧ IdealRules.named_const.Statement Cert.KernelIdeal.κ "w29_71" .f32 0x3ED12073#32 ((29 / 71 : ℝ) : EReal)
  ∧ IdealRules.named_const.Statement Cert.KernelIdeal.κ "w61_71" .f32 0x3F5BF194#32 ((61 / 71 : ℝ) : EReal)
  ∧ IdealRules.named_const.Statement Cert.KernelIdeal.κ "w10_71" .f32 0x3E1039B1#32 ((10 / 71 : ℝ) : EReal)
  ∧ IdealRules.named_const.Statement Cert.KernelIdeal.κ "w68_71" .f32 0x3F752EE0#32 ((68 / 71 : ℝ) : EReal)
  ∧ IdealRules.named_const.Statement Cert.KernelIdeal.κ "w3_71" .f32 0x3D2D1207#32 ((3 / 71 : ℝ) : EReal)
  ∧ IdealRules.named_const.Statement Cert.KernelIdeal.κ "w43_71" .f32 0x3F1B0AD1#32 ((43 / 71 : ℝ) : EReal)
  ∧ IdealRules.named_const.Statement Cert.KernelIdeal.κ "w28_71" .f32 0x3EC9EA5E#32 ((28 / 71 : ℝ) : EReal)
  ∧ IdealRules.named_const.Statement Cert.KernelIdeal.κ "w37_71" .f32 0x3F056890#32 ((37 / 71 : ℝ) : EReal)
  ∧ IdealRules.named_const.Statement Cert.KernelIdeal.κ "w34_71" .f32 0x3EF52EE0#32 ((34 / 71 : ℝ) : EReal)
  ∧ IdealRules.named_const.Statement Cert.KernelIdeal.κ "w54_71" .f32 0x3F42B448#32 ((54 / 71 : ℝ) : EReal)
  ∧ IdealRules.named_const.Statement Cert.KernelIdeal.κ "w17_71" .f32 0x3E752EE0#32 ((17 / 71 : ℝ) : EReal)
  ∧ IdealRules.named_const.Statement Cert.KernelIdeal.κ "w70_71" .f32 0x3F7C64F5#32 ((70 / 71 : ℝ) : EReal)
  ∧ IdealRules.named_const.Statement Cert.KernelIdeal.κ "w1_71" .f32 0x3C66C2B4#32 ((1 / 71 : ℝ) : EReal)
  ∧ IdealRules.named_const.Statement Cert.KernelIdeal.κ "w7_71" .f32 0x3DC9EA5E#32 ((7 / 71 : ℝ) : EReal)
  ∧ IdealRules.named_const.Statement Cert.KernelIdeal.κ "w64_71" .f32 0x3F66C2B4#32 ((64 / 71 : ℝ) : EReal)
  ∧ IdealRules.named_const.Statement Cert.KernelIdeal.κ "w32_71" .f32 0x3EE6C2B4#32 ((32 / 71 : ℝ) : EReal)
  ∧ IdealRules.named_const.Statement Cert.KernelIdeal.κ "w39_71" .f32 0x3F0C9EA6#32 ((39 / 71 : ℝ) : EReal)
  ∧ IdealRules.named_const.Statement Cert.KernelIdeal.κ "w40_71" .f32 0x3F1039B1#32 ((40 / 71 : ℝ) : EReal)
  ∧ IdealRules.named_const.Statement Cert.KernelIdeal.κ "w31_71" .f32 0x3EDF8C9F#32 ((31 / 71 : ℝ) : EReal)
  ∧ IdealRules.named_const.Statement Cert.KernelIdeal.κ "w65_71" .f32 0x3F6A5DBF#32 ((65 / 71 : ℝ) : EReal)
  ∧ IdealRules.named_const.Statement Cert.KernelIdeal.κ "w6_71" .f32 0x3DAD1207#32 ((6 / 71 : ℝ) : EReal)
  ∧ IdealRules.named_const.Statement Cert.KernelIdeal.κ "w33_71" .f32 0x3EEDF8CA#32 ((33 / 71 : ℝ) : EReal)
  ∧ IdealRules.named_const.Statement Cert.KernelIdeal.κ "w38_71" .f32 0x3F09039B#32 ((38 / 71 : ℝ) : EReal)
  ∧ IdealRules.named_const.Statement Cert.KernelIdeal.κ "w19_71" .f32 0x3E89039B#32 ((19 / 71 : ℝ) : EReal)
  ∧ IdealRules.named_const.Statement Cert.KernelIdeal.κ "w52_71" .f32 0x3F3B7E32#32 ((52 / 71 : ℝ) : EReal)
  ∧ IdealRules.named_const.Statement Cert.KernelIdeal.κ "w22_71" .f32 0x3E9EA5DC#32 ((22 / 71 : ℝ) : EReal)
  ∧ IdealRules.named_const.Statement Cert.KernelIdeal.κ "w49_71" .f32 0x3F30AD12#32 ((49 / 71 : ℝ) : EReal)
  ∧ IdealRules.named_const.Statement Cert.KernelIdeal.κ "w59_71" .f32 0x3F54BB7E#32 ((59 / 71 : ℝ) : EReal)
  ∧ IdealRules.named_const.Statement Cert.KernelIdeal.κ "w12_71" .f32 0x3E2D1207#32 ((12 / 71 : ℝ) : EReal)
  ∧ IdealRules.named_const.Statement Cert.KernelIdeal.κ "w55_71" .f32 0x3F464F53#32 ((55 / 71 : ℝ) : EReal)
  ∧ IdealRules.named_const.Statement Cert.KernelIdeal.κ "w16_71" .f32 0x3E66C2B4#32 ((16 / 71 : ℝ) : EReal)
  ∧ IdealRules.named_const.Statement Cert.KernelIdeal.κ "w41_71" .f32 0x3F13D4BB#32 ((41 / 71 : ℝ) : EReal)
  ∧ IdealRules.named_const.Statement Cert.KernelIdeal.κ "w30_71" .f32 0x3ED85689#32 ((30 / 71 : ℝ) : EReal)
  ∧ IdealRules.named_const.Statement Cert.KernelIdeal.κ "w5_71" .f32 0x3D9039B1#32 ((5 / 71 : ℝ) : EReal)
  ∧ IdealRules.named_const.Statement Cert.KernelIdeal.κ "w66_71" .f32 0x3F6DF8CA#32 ((66 / 71 : ℝ) : EReal)
  ∧ IdealRules.named_const.Statement Cert.KernelIdeal.κ "w23_71" .f32 0x3EA5DBF2#32 ((23 / 71 : ℝ) : EReal)
  ∧ IdealRules.named_const.Statement Cert.KernelIdeal.κ "w48_71" .f32 0x3F2D1207#32 ((48 / 71 : ℝ) : EReal)
  ∧ IdealRules.named_const.Statement Cert.KernelIdeal.κ "w69_71" .f32 0x3F78C9EA#32 ((69 / 71 : ℝ) : EReal)
  ∧ IdealRules.named_const.Statement Cert.KernelIdeal.κ "w2_71" .f32 0x3CE6C2B4#32 ((2 / 71 : ℝ) : EReal)
  ∧ IdealRules.named_const.Statement Cert.KernelIdeal.κ "w50_71" .f32 0x3F34481D#32 ((50 / 71 : ℝ) : EReal)
  ∧ IdealRules.named_const.Statement Cert.KernelIdeal.κ "w21_71" .f32 0x3E976FC6#32 ((21 / 71 : ℝ) : EReal)
  ∧ IdealRules.named_const.Statement Cert.KernelIdeal.κ "w58_71" .f32 0x3F512073#32 ((58 / 71 : ℝ) : EReal)
  ∧ IdealRules.named_const.Statement Cert.KernelIdeal.κ "w13_71" .f32 0x3E3B7E32#32 ((13 / 71 : ℝ) : EReal)
  ∧ IdealRules.named_const.Statement Cert.KernelIdeal.κ "w35_71" .f32 0x3EFC64F5#32 ((35 / 71 : ℝ) : EReal)
  ∧ IdealRules.named_const.Statement Cert.KernelIdeal.κ "w36_71" .f32 0x3F01CD85#32 ((36 / 71 : ℝ) : EReal)
  ∧ IdealRules.named_const.Statement Cert.KernelIdeal.κ "w20_71" .f32 0x3E9039B1#32 ((20 / 71 : ℝ) : EReal)
  ∧ IdealRules.named_const.Statement Cert.KernelIdeal.κ "w51_71" .f32 0x3F37E328#32 ((51 / 71 : ℝ) : EReal)
  ∧ IdealRules.named_const.Statement Cert.KernelIdeal.κ "w56_71" .f32 0x3F49EA5E#32 ((56 / 71 : ℝ) : EReal)
  ∧ IdealRules.named_const.Statement Cert.KernelIdeal.κ "w15_71" .f32 0x3E585689#32 ((15 / 71 : ℝ) : EReal)
  ∧ IdealRules.named_const.Statement Cert.KernelIdeal.κ "scale_log2e" .f32 0x3E8293EE#32 (((11863283 / 67108864) * (Real.log 2)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v806) = v0 c
          ∧ r.2.mem ((c.tc : Thread Cert.ReferenceIdeal.nD Cert.ReferenceIdeal.τ).loc Cert.ReferenceIdeal.main_v779) = v1 c
          ∧ r.2.mem ((c.tc : Thread Cert.ReferenceIdeal.nD Cert.ReferenceIdeal.τ).loc Cert.ReferenceIdeal.main_v763) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16x64x40x100 : Shape := ⟨4, ![16, 64, 40, 100]⟩
abbrev S16x64x20x50 : Shape := ⟨4, ![16, 64, 20, 50]⟩
abbrev S16x64x10x25 : Shape := ⟨4, ![16, 64, 10, 25]⟩
abbrev S16x512x76 : Shape := ⟨3, ![16, 512, 76]⟩
abbrev S36 : Shape := ⟨1, ![36]⟩
abbrev S192x6x64 : Shape := ⟨3, ![192, 6, 64]⟩
abbrev S192 : Shape := ⟨1, ![192]⟩
abbrev S32x192 : Shape := ⟨2, ![32, 192]⟩
abbrev S192x192 : Shape := ⟨2, ![192, 192]⟩
abbrev S384x192 : Shape := ⟨2, ![384, 192]⟩
abbrev S384 : Shape := ⟨1, ![384]⟩
abbrev S192x384 : Shape := ⟨2, ![192, 384]⟩
abbrev S2x192 : Shape := ⟨2, ![2, 192]⟩
abbrev S2 : Shape := ⟨1, ![2]⟩
abbrev S74x192 : Shape := ⟨2, ![74, 192]⟩
abbrev S74 : Shape := ⟨1, ![74]⟩
abbrev S_ : Shape := ⟨0, ![]⟩

class Facts : Prop where
  bcast_S_S16x64x40x100 : S_.BroadcastsInDim S16x64x40x100 (![] : Fin 0 → Fin S16x64x40x100.rank)
  bcast_S_S16x64x20x50 : S_.BroadcastsInDim S16x64x20x50 (![] : Fin 0 → Fin S16x64x20x50.rank)
  bcast_S_S16x64x10x25 : S_.BroadcastsInDim S16x64x10x25 (![] : Fin 0 → Fin S16x64x10x25.rank)
  bcast_S_S36 : S_.BroadcastsInDim S36 (![] : Fin 0 → Fin S36.rank)
  bcast_S_S192x6x64 : S_.BroadcastsInDim S192x6x64 (![] : Fin 0 → Fin S192x6x64.rank)
  bcast_S_S192 : S_.BroadcastsInDim S192 (![] : Fin 0 → Fin S192.rank)
  bcast_S_S32x192 : S_.BroadcastsInDim S32x192 (![] : Fin 0 → Fin S32x192.rank)
  bcast_S_S192x192 : S_.BroadcastsInDim S192x192 (![] : Fin 0 → Fin S192x192.rank)

variable [Facts]

def fn_part1 {F : FTy → Type} [FloatOps F] (main_arg7 : FVec F S32x192 .f32) (main_arg8 : FVec F S192x192 .f32) (main_v2 : IVec S16x64x40x100 1) (main_v5 : IVec S16x64x20x50 1) (main_v8 : IVec S16x64x10x25 1) (main_v11 : IVec S36 1) (main_v14 : IVec S192x6x64 1) (main_v17 : IVec S192 1) : IVec S16x64x40x100 1 × IVec S16x64x20x50 1 × IVec S16x64x10x25 1 × IVec S36 1 × IVec S192x6x64 1 × IVec S192 1 × IVec S32x192 1 × IVec S192x192 1 :=
  let main_v18 : FVec F S32x192 .f32 := Host.absf main_arg7
  let main_cst_5 : FVec F S_ .f32 := constant S_ .f32 0x7F800000#32
  let main_v19 : FVec F S32x192 .f32 := broadcastInDim S32x192 ![] bcast_S_S32x192 main_cst_5
  let main_v20 : IVec S32x192 1 := cmpf .olt main_v18 main_v19
  let main_v21 : FVec F S192x192 .f32 := Host.absf main_arg8
  let main_cst_6 : FVec F S_ .f32 := constant S_ .f32 0x7F800000#32
  let main_v22 : FVec F S192x192 .f32 := broadcastInDim S192x192 ![] bcast_S_S192x192 main_cst_6
  let main_v23 : IVec S192x192 1 := cmpf .olt main_v21 main_v22
  (main_v2, main_v5, main_v8, main_v11, main_v14, main_v17, main_v20, main_v23)

def fn {F : FTy → Type} [FloatOps F] (main_arg0 : FVec F S16x64x40x100 .f32) (main_arg1 : FVec F S16x64x20x50 .f32) (main_arg2 : FVec F S16x64x10x25 .f32) (main_arg3 : FVec F S16x512x76 .f32) (main_arg4 : FVec F S36 .f32) (main_arg5 : FVec F S192x6x64 .f32) (main_arg6 : FVec F S192 .f32) (main_arg7 : FVec F S32x192 .f32) (main_arg8 : FVec F S192x192 .f32) (main_arg9 : FVec F S192x192 .f32) (main_arg10 : FVec F S384x192 .f32) (main_arg11 : FVec F S384 .f32) (main_arg12 : FVec F S192x384 .f32) (main_arg13 : FVec F S192 .f32) (main_arg14 : FVec F S192x192 .f32) (main_arg15 : FVec F S192 .f32) (main_arg16 : FVec F S2x192 .f32) (main_arg17 : FVec F S2 .f32) (main_arg18 : FVec F S192x192 .f32) (main_arg19 : FVec F S192 .f32) (main_arg20 : FVec F S74x192 .f32) (main_arg21 : FVec F S74 .f32) : IVec S16x64x40x100 1 × IVec S16x64x20x50 1 × IVec S16x64x10x25 1 × IVec S36 1 × IVec S192x6x64 1 × IVec S192 1 × IVec S32x192 1 × IVec S192x192 1 :=
  let main_v0 : FVec F S16x64x40x100 .f32 := Host.absf main_arg0
  let main_cst : FVec F S_ .f32 := constant S_ .f32 0x7F800000#32
  let main_v1 : FVec F S16x64x40x100 .f32 := broadcastInDim S16x64x40x100 ![] bcast_S_S16x64x40x100 main_cst
  let main_v2 : IVec S16x64x40x100 1 := cmpf .olt main_v0 main_v1
  let main_v3 : FVec F S16x64x20x50 .f32 := Host.absf main_arg1
  let main_cst_0 : FVec F S_ .f32 := constant S_ .f32 0x7F800000#32
  let main_v4 : FVec F S16x64x20x50 .f32 := broadcastInDim S16x64x20x50 ![] bcast_S_S16x64x20x50 main_cst_0
  let main_v5 : IVec S16x64x20x50 1 := cmpf .olt main_v3 main_v4
  let main_v6 : FVec F S16x64x10x25 .f32 := Host.absf main_arg2
  let main_cst_1 : FVec F S_ .f32 := constant S_ .f32 0x7F800000#32
  let main_v7 : FVec F S16x64x10x25 .f32 := broadcastInDim S16x64x10x25 ![] bcast_S_S16x64x10x25 main_cst_1
  let main_v8 : IVec S16x64x10x25 1 := cmpf .olt main_v6 main_v7
  let main_v9 : FVec F S36 .f32 := Host.absf main_arg4
  let main_cst_2 : FVec F S_ .f32 := constant S_ .f32 0x7F800000#32
  let main_v10 : FVec F S36 .f32 := broadcastInDim S36 ![] bcast_S_S36 main_cst_2
  let main_v11 : IVec S36 1 := cmpf .olt main_v9 main_v10
  let main_v12 : FVec F S192x6x64 .f32 := Host.absf main_arg5
  let main_cst_3 : FVec F S_ .f32 := constant S_ .f32 0x7F800000#32
  let main_v13 : FVec F S192x6x64 .f32 := broadcastInDim S192x6x64 ![] bcast_S_S192x6x64 main_cst_3
  let main_v14 : IVec S192x6x64 1 := cmpf .olt main_v12 main_v13
  let main_v15 : FVec F S192 .f32 := Host.absf main_arg6
  let main_cst_4 : FVec F S_ .f32 := constant S_ .f32 0x7F800000#32
  let main_v16 : FVec F S192 .f32 := broadcastInDim S192 ![] bcast_S_S192 main_cst_4
  let main_v17 : IVec S192 1 := cmpf .olt main_v15 main_v16
  fn_part1 (F := F) main_arg7 main_arg8 main_v2 main_v5 main_v8 main_v11 main_v14 main_v17
-- ==== Kernel.lean ====
abbrev S16x64x40x100 : Shape := ⟨4, ![16, 64, 40, 100]⟩
abbrev S16x64x20x50 : Shape := ⟨4, ![16, 64, 20, 50]⟩
abbrev S16x64x10x25 : Shape := ⟨4, ![16, 64, 10, 25]⟩
abbrev S16x512x76 : Shape := ⟨3, ![16, 512, 76]⟩
abbrev S36 : Shape := ⟨1, ![36]⟩
abbrev S192x6x64 : Shape := ⟨3, ![192, 6, 64]⟩
abbrev S192 : Shape := ⟨1, ![192]⟩
abbrev S32x192 : Shape := ⟨2, ![32, 192]⟩
abbrev S192x192 : Shape := ⟨2, ![192, 192]⟩
abbrev S384x192 : Shape := ⟨2, ![384, 192]⟩
abbrev S384 : Shape := ⟨1, ![384]⟩
abbrev S192x384 : Shape := ⟨2, ![192, 384]⟩
abbrev S2x192 : Shape := ⟨2, ![2, 192]⟩
abbrev S2 : Shape := ⟨1, ![2]⟩
abbrev S74x192 : Shape := ⟨2, ![74, 192]⟩
abbrev S74 : Shape := ⟨1, ![74]⟩
abbrev S36x1 : Shape := ⟨2, ![36, 1]⟩
abbrev S1x192 : Shape := ⟨2, ![1, 192]⟩
abbrev S1x384 : Shape := ⟨2, ![1, 384]⟩
abbrev S1x2 : Shape := ⟨2, ![1, 2]⟩
abbrev S1x74 : Shape := ⟨2, ![1, 74]⟩
abbrev S8192x192 : Shape := ⟨2, ![8192, 192]⟩
abbrev S16x6x512x512 : Shape := ⟨4, ![16, 6, 512, 512]⟩
abbrev S1x64x40x100 : Shape := ⟨4, ![1, 64, 40, 100]⟩
abbrev S1x64x20x50 : Shape := ⟨4, ![1, 64, 20, 50]⟩
abbrev S1x64x10x25 : Shape := ⟨4, ![1, 64, 10, 25]⟩
abbrev S1x512x76 : Shape := ⟨3, ![1, 512, 76]⟩
abbrev S512x192 : Shape := ⟨2, ![512, 192]⟩
abbrev S1x6x512x512 : Shape := ⟨4, ![1, 6, 512, 512]⟩
abbrev S384x512 : Shape := ⟨2, ![384, 512]⟩
abbrev S192x512 : Shape := ⟨2, ![192, 512]⟩
abbrev S40x64x100 : Shape := ⟨3, ![40, 64, 100]⟩
abbrev S20x64x50 : Shape := ⟨3, ![20, 64, 50]⟩
abbrev S10x64x25 : Shape := ⟨3, ![10, 64, 25]⟩
abbrev S76x512 : Shape := ⟨2, ![76, 512]⟩
abbrev S64x40x100 : Shape := ⟨3, ![64, 40, 100]⟩
abbrev S64x20x50 : Shape := ⟨3, ![64, 20, 50]⟩
abbrev S64x10x25 : Shape := ⟨3, ![64, 10, 25]⟩
abbrev S512x76 : Shape := ⟨2, ![512, 76]⟩
abbrev S100x512 : Shape := ⟨2, ![100, 512]⟩
abbrev S50x512 : Shape := ⟨2, ![50, 512]⟩
abbrev S25x512 : Shape := ⟨2, ![25, 512]⟩
abbrev S1x512 : Shape := ⟨2, ![1, 512]⟩
abbrev S1x1 : Shape := ⟨2, ![1, 1]⟩
abbrev S1x64x100 : Shape := ⟨3, ![1, 64, 100]⟩
abbrev S64x100 : Shape := ⟨2, ![64, 100]⟩
abbrev S64x512 : Shape := ⟨2, ![64, 512]⟩
abbrev S1x64x50 : Shape := ⟨3, ![1, 64, 50]⟩
abbrev S64x50 : Shape := ⟨2, ![64, 50]⟩
abbrev S1x64x25 : Shape := ⟨3, ![1, 64, 25]⟩
abbrev S64x25 : Shape := ⟨2, ![64, 25]⟩
abbrev S32x384 : Shape := ⟨2, ![32, 384]⟩
abbrev S32x512 : Shape := ⟨2, ![32, 512]⟩
abbrev S512x32 : Shape := ⟨2, ![512, 32]⟩
abbrev S512x512 : Shape := ⟨2, ![512, 512]⟩
abbrev S512 : Shape := ⟨1, ![512]⟩
abbrev S512x1 : Shape := ⟨2, ![512, 1]⟩
abbrev S1x1x512x512 : Shape := ⟨4, ![1, 1, 512, 512]⟩
abbrev S512x384 : Shape := ⟨2, ![512, 384]⟩
abbrev S512x2 : Shape := ⟨2, ![512, 2]⟩
abbrev S512x74 : Shape := ⟨2, ![512, 74]⟩
abbrev S1x512x2 : Shape := ⟨3, ![1, 512, 2]⟩
abbrev S1x512x74 : Shape := ⟨3, ![1, 512, 74]⟩

abbrev nBuf : Space → Nat
  | .hbm => 34
  | .vmem => 41
  | .smem => 0
  | _ => 0

abbrev bufTy : (tb : Table) → Fin (tcTables nBuf tb) → BufTy
  | .hbm, ⟨0, _⟩ => ⟨S16x64x40x100, .f32⟩
  | .hbm, ⟨1, _⟩ => ⟨S16x64x20x50, .f32⟩
  | .hbm, ⟨2, _⟩ => ⟨S16x64x10x25, .f32⟩
  | .hbm, ⟨3, _⟩ => ⟨S16x512x76, .f32⟩
  | .hbm, ⟨4, _⟩ => ⟨S36, .f32⟩
  | .hbm, ⟨5, _⟩ => ⟨S192x6x64, .f32⟩
  | .hbm, ⟨6, _⟩ => ⟨S192, .f32⟩
  | .hbm, ⟨7, _⟩ => ⟨S32x192, .f32⟩
  | .hbm, ⟨8, _⟩ => ⟨S192x192, .f32⟩
  | .hbm, ⟨9, _⟩ => ⟨S192x192, .f32⟩
  | .hbm, ⟨10, _⟩ => ⟨S384x192, .f32⟩
  | .hbm, ⟨11, _⟩ => ⟨S384, .f32⟩
  | .hbm, ⟨12, _⟩ => ⟨S192x384, .f32⟩
  | .hbm, ⟨13, _⟩ => ⟨S192, .f32⟩
  | .hbm, ⟨14, _⟩ => ⟨S192x192, .f32⟩
  | .hbm, ⟨15, _⟩ => ⟨S192, .f32⟩
  | .hbm, ⟨16, _⟩ => ⟨S2x192, .f32⟩
  | .hbm, ⟨17, _⟩ => ⟨S2, .f32⟩
  | .hbm, ⟨18, _⟩ => ⟨S192x192, .f32⟩
  | .hbm, ⟨19, _⟩ => ⟨S192, .f32⟩
  | .hbm, ⟨20, _⟩ => ⟨S74x192, .f32⟩
  | .hbm, ⟨21, _⟩ => ⟨S74, .f32⟩
  | .hbm, ⟨22, _⟩ => ⟨S36x1, .f32⟩
  | .hbm, ⟨23, _⟩ => ⟨S192x384, .f32⟩
  | .hbm, ⟨24, _⟩ => ⟨S1x192, .f32⟩
  | .hbm, ⟨25, _⟩ => ⟨S1x384, .f32⟩
  | .hbm, ⟨26, _⟩ => ⟨S1x192, .f32⟩
  | .hbm, ⟨27, _⟩ => ⟨S1x192, .f32⟩
  | .hbm, ⟨28, _⟩ => ⟨S1x2, .f32⟩
  | .hbm, ⟨29, _⟩ => ⟨S1x192, .f32⟩
  | .hbm, ⟨30, _⟩ => ⟨S1x74, .f32⟩
  | .hbm, ⟨31, _⟩ => ⟨S16x512x76, .f32⟩
  | .hbm, ⟨32, _⟩ => ⟨S8192x192, .f32⟩
  | .hbm, ⟨33, _⟩ => ⟨S16x6x512x512, .f32⟩
  | .local _ .vmem, ⟨0, _⟩ => ⟨S1x64x40x100, .f32⟩
  | .local _ .vmem, ⟨1, _⟩ => ⟨S1x64x40x100, .f32⟩
  | .local _ .vmem, ⟨2, _⟩ => ⟨S1x64x20x50, .f32⟩
  | .local _ .vmem, ⟨3, _⟩ => ⟨S1x64x20x50, .f32⟩
  | .local _ .vmem, ⟨4, _⟩ => ⟨S1x64x10x25, .f32⟩
  | .local _ .vmem, ⟨5, _⟩ => ⟨S1x64x10x25, .f32⟩
  | .local _ .vmem, ⟨6, _⟩ => ⟨S1x512x76, .f32⟩
  | .local _ .vmem, ⟨7, _⟩ => ⟨S1x512x76, .f32⟩
  | .local _ .vmem, ⟨8, _⟩ => ⟨S36x1, .f32⟩
  | .local _ .vmem, ⟨9, _⟩ => ⟨S192x384, .f32⟩
  | .local _ .vmem, ⟨10, _⟩ => ⟨S1x192, .f32⟩
  | .local _ .vmem, ⟨11, _⟩ => ⟨S32x192, .f32⟩
  | .local _ .vmem, ⟨12, _⟩ => ⟨S192x192, .f32⟩
  | .local _ .vmem, ⟨13, _⟩ => ⟨S192x192, .f32⟩
  | .local _ .vmem, ⟨14, _⟩ => ⟨S384x192, .f32⟩
  | .local _ .vmem, ⟨15, _⟩ => ⟨S1x384, .f32⟩
  | .local _ .vmem, ⟨16, _⟩ => ⟨S192x384, .f32⟩
  | .local _ .vmem, ⟨17, _⟩ => ⟨S1x192, .f32⟩
  | .local _ .vmem, ⟨18, _⟩ => ⟨S192x192, .f32⟩
  | .local _ .vmem, ⟨19, _⟩ => ⟨S1x192, .f32⟩
  | .local _ .vmem, ⟨20, _⟩ => ⟨S2x192, .f32⟩
  | .local _ .vmem, ⟨21, _⟩ => ⟨S1x2, .f32⟩
  | .local _ .vmem, ⟨22, _⟩ => ⟨S192x192, .f32⟩
  | .local _ .vmem, ⟨23, _⟩ => ⟨S1x192, .f32⟩
  | .local _ .vmem, ⟨24, _⟩ => ⟨S74x192, .f32⟩
  | .local _ .vmem, ⟨25, _⟩ => ⟨S1x74, .f32⟩
  | .local _ .vmem, ⟨26, _⟩ => ⟨S1x512x76, .f32⟩
  | .local _ .vmem, ⟨27, _⟩ => ⟨S1x512x76, .f32⟩
  | .local _ .vmem, ⟨28, _⟩ => ⟨S512x192, .f32⟩
  | .local _ .vmem, ⟨29, _⟩ => ⟨S512x192, .f32⟩
  | .local _ .vmem, ⟨30, _⟩ => ⟨S1x6x512x512, .f32⟩
  | .local _ .vmem, ⟨31, _⟩ => ⟨S1x6x512x512, .f32⟩
  | .local _ .vmem, ⟨32, _⟩ => ⟨S384x512, .f32⟩
  | .local _ .vmem, ⟨33, _⟩ => ⟨S192x512, .f32⟩
  | .local _ .vmem, ⟨34, _⟩ => ⟨S512x192, .f32⟩
  | .local _ .vmem, ⟨35, _⟩ => ⟨S512x192, .f32⟩
  | .local _ .vmem, ⟨36, _⟩ => ⟨S512x192, .f32⟩
  | .local _ .vmem, ⟨37, _⟩ => ⟨S40x64x100, .f32⟩
  | .local _ .vmem, ⟨38, _⟩ => ⟨S20x64x50, .f32⟩
  | .local _ .vmem, ⟨39, _⟩ => ⟨S10x64x25, .f32⟩
  | .local _ .vmem, ⟨40, _⟩ => ⟨S76x512, .f32⟩
  | _, _ => ⟨S16x64x40x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_v0_0 : Ref sig .tc := ⟨.hbm, 31, rfl⟩
abbrev main_v0_1 : Ref sig .tc := ⟨.hbm, 32, rfl⟩
abbrev main_v0_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg22_1 : Ref sig .tc := ⟨.vmem, 27, rfl⟩
abbrev cc0_stg23_0 : Ref sig .tc := ⟨.vmem, 28, rfl⟩
abbrev cc0_stg23_1 : Ref sig .tc := ⟨.vmem, 29, rfl⟩
abbrev cc0_stg24_0 : Ref sig .tc := ⟨.vmem, 30, rfl⟩
abbrev cc0_stg24_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_scratch7 : Ref sig .tc := ⟨.vmem, 39, rfl⟩
abbrev cc0_scratch8 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem22_1 : DmaSem sig := 27
abbrev cc0_sem23_0 : DmaSem sig := 28
abbrev cc0_sem23_1 : DmaSem sig := 29
abbrev cc0_sem24_0 : DmaSem sig := 30
abbrev cc0_sem24_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x40x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x20x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x10x25 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x76 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S36x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S192x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S192x192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384x192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S192x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x192 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S192x192 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x192 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x192 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S192x192 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x192 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S74x192 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x74 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S1x512x76 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x192 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x6x512x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== KernelIdeal.lean ====
abbrev S16x64x40x100 : Shape := ⟨4, ![16, 64, 40, 100]⟩
abbrev S16x64x20x50 : Shape := ⟨4, ![16, 64, 20, 50]⟩
abbrev S16x64x10x25 : Shape := ⟨4, ![16, 64, 10, 25]⟩
abbrev S16x512x76 : Shape := ⟨3, ![16, 512, 76]⟩
abbrev S36 : Shape := ⟨1, ![36]⟩
abbrev S192x6x64 : Shape := ⟨3, ![192, 6, 64]⟩
abbrev S192 : Shape := ⟨1, ![192]⟩
abbrev S32x192 : Shape := ⟨2, ![32, 192]⟩
abbrev S192x192 : Shape := ⟨2, ![192, 192]⟩
abbrev S384x192 : Shape := ⟨2, ![384, 192]⟩
abbrev S384 : Shape := ⟨1, ![384]⟩
abbrev S192x384 : Shape := ⟨2, ![192, 384]⟩
abbrev S2x192 : Shape := ⟨2, ![2, 192]⟩
abbrev S2 : Shape := ⟨1, ![2]⟩
abbrev S74x192 : Shape := ⟨2, ![74, 192]⟩
abbrev S74 : Shape := ⟨1, ![74]⟩
abbrev S36x1 : Shape := ⟨2, ![36, 1]⟩
abbrev S1x192 : Shape := ⟨2, ![1, 192]⟩
abbrev S1x384 : Shape := ⟨2, ![1, 384]⟩
abbrev S1x2 : Shape := ⟨2, ![1, 2]⟩
abbrev S1x74 : Shape := ⟨2, ![1, 74]⟩
abbrev S8192x192 : Shape := ⟨2, ![8192, 192]⟩
abbrev S16x6x512x512 : Shape := ⟨4, ![16, 6, 512, 512]⟩
abbrev S1x64x40x100 : Shape := ⟨4, ![1, 64, 40, 100]⟩
abbrev S1x64x20x50 : Shape := ⟨4, ![1, 64, 20, 50]⟩
abbrev S1x64x10x25 : Shape := ⟨4, ![1, 64, 10, 25]⟩
abbrev S1x512x76 : Shape := ⟨3, ![1, 512, 76]⟩
abbrev S512x192 : Shape := ⟨2, ![512, 192]⟩
abbrev S1x6x512x512 : Shape := ⟨4, ![1, 6, 512, 512]⟩
abbrev S384x512 : Shape := ⟨2, ![384, 512]⟩
abbrev S192x512 : Shape := ⟨2, ![192, 512]⟩
abbrev S40x64x100 : Shape := ⟨3, ![40, 64, 100]⟩
abbrev S20x64x50 : Shape := ⟨3, ![20, 64, 50]⟩
abbrev S10x64x25 : Shape := ⟨3, ![10, 64, 25]⟩
abbrev S76x512 : Shape := ⟨2, ![76, 512]⟩
abbrev S64x40x100 : Shape := ⟨3, ![64, 40, 100]⟩
abbrev S64x20x50 : Shape := ⟨3, ![64, 20, 50]⟩
abbrev S64x10x25 : Shape := ⟨3, ![64, 10, 25]⟩
abbrev S512x76 : Shape := ⟨2, ![512, 76]⟩
abbrev S100x512 : Shape := ⟨2, ![100, 512]⟩
abbrev S50x512 : Shape := ⟨2, ![50, 512]⟩
abbrev S25x512 : Shape := ⟨2, ![25, 512]⟩
abbrev S1x512 : Shape := ⟨2, ![1, 512]⟩
abbrev S1x1 : Shape := ⟨2, ![1, 1]⟩
abbrev S1x64x100 : Shape := ⟨3, ![1, 64, 100]⟩
abbrev S64x100 : Shape := ⟨2, ![64, 100]⟩
abbrev S64x512 : Shape := ⟨2, ![64, 512]⟩
abbrev S1x64x50 : Shape := ⟨3, ![1, 64, 50]⟩
abbrev S64x50 : Shape := ⟨2, ![64, 50]⟩
abbrev S1x64x25 : Shape := ⟨3, ![1, 64, 25]⟩
abbrev S64x25 : Shape := ⟨2, ![64, 25]⟩
abbrev S32x384 : Shape := ⟨2, ![32, 384]⟩
abbrev S32x512 : Shape := ⟨2, ![32, 512]⟩
abbrev S512x32 : Shape := ⟨2, ![512, 32]⟩
abbrev S512x512 : Shape := ⟨2, ![512, 512]⟩
abbrev S512 : Shape := ⟨1, ![512]⟩
abbrev S512x1 : Shape := ⟨2, ![512, 1]⟩
abbrev S1x1x512x512 : Shape := ⟨4, ![1, 1, 512, 512]⟩
abbrev S512x384 : Shape := ⟨2, ![512, 384]⟩
abbrev S512x2 : Shape := ⟨2, ![512, 2]⟩
abbrev S512x74 : Shape := ⟨2, ![512, 74]⟩
abbrev S1x512x2 : Shape := ⟨3, ![1, 512, 2]⟩
abbrev S1x512x74 : Shape := ⟨3, ![1, 512, 74]⟩

abbrev nBuf : Space → Nat
  | .hbm => 34
  | .vmem => 41
  | .smem => 0
  | _ => 0

abbrev bufTy : (tb : Table) → Fin (tcTables nBuf tb) → BufTy
  | .hbm, ⟨0, _⟩ => ⟨S16x64x40x100, .f32⟩
  | .hbm, ⟨1, _⟩ => ⟨S16x64x20x50, .f32⟩
  | .hbm, ⟨2, _⟩ => ⟨S16x64x10x25, .f32⟩
  | .hbm, ⟨3, _⟩ => ⟨S16x512x76, .f32⟩
  | .hbm, ⟨4, _⟩ => ⟨S36, .f32⟩
  | .hbm, ⟨5, _⟩ => ⟨S192x6x64, .f32⟩
  | .hbm, ⟨6, _⟩ => ⟨S192, .f32⟩
  | .hbm, ⟨7, _⟩ => ⟨S32x192, .f32⟩
  | .hbm, ⟨8, _⟩ => ⟨S192x192, .f32⟩
  | .hbm, ⟨9, _⟩ => ⟨S192x192, .f32⟩
  | .hbm, ⟨10, _⟩ => ⟨S384x192, .f32⟩
  | .hbm, ⟨11, _⟩ => ⟨S384, .f32⟩
  | .hbm, ⟨12, _⟩ => ⟨S192x384, .f32⟩
  | .hbm, ⟨13, _⟩ => ⟨S192, .f32⟩
  | .hbm, ⟨14, _⟩ => ⟨S192x192, .f32⟩
  | .hbm, ⟨15, _⟩ => ⟨S192, .f32⟩
  | .hbm, ⟨16, _⟩ => ⟨S2x192, .f32⟩
  | .hbm, ⟨17, _⟩ => ⟨S2, .f32⟩
  | .hbm, ⟨18, _⟩ => ⟨S192x192, .f32⟩
  | .hbm, ⟨19, _⟩ => ⟨S192, .f32⟩
  | .hbm, ⟨20, _⟩ => ⟨S74x192, .f32⟩
  | .hbm, ⟨21, _⟩ => ⟨S74, .f32⟩
  | .hbm, ⟨22, _⟩ => ⟨S36x1, .f32⟩
  | .hbm, ⟨23, _⟩ => ⟨S192x384, .f32⟩
  | .hbm, ⟨24, _⟩ => ⟨S1x192, .f32⟩
  | .hbm, ⟨25, _⟩ => ⟨S1x384, .f32⟩
  | .hbm, ⟨26, _⟩ => ⟨S1x192, .f32⟩
  | .hbm, ⟨27, _⟩ => ⟨S1x192, .f32⟩
  | .hbm, ⟨28, _⟩ => ⟨S1x2, .f32⟩
  | .hbm, ⟨29, _⟩ => ⟨S1x192, .f32⟩
  | .hbm, ⟨30, _⟩ => ⟨S1x74, .f32⟩
  | .hbm, ⟨31, _⟩ => ⟨S16x512x76, .f32⟩
  | .hbm, ⟨32, _⟩ => ⟨S8192x192, .f32⟩
  | .hbm, ⟨33, _⟩ => ⟨S16x6x512x512, .f32⟩
  | .local _ .vmem, ⟨0, _⟩ => ⟨S1x64x40x100, .f32⟩
  | .local _ .vmem, ⟨1, _⟩ => ⟨S1x64x40x100, .f32⟩
  | .local _ .vmem, ⟨2, _⟩ => ⟨S1x64x20x50, .f32⟩
  | .local _ .vmem, ⟨3, _⟩ => ⟨S1x64x20x50, .f32⟩
  | .local _ .vmem, ⟨4, _⟩ => ⟨S1x64x10x25, .f32⟩
  | .local _ .vmem, ⟨5, _⟩ => ⟨S1x64x10x25, .f32⟩
  | .local _ .vmem, ⟨6, _⟩ => ⟨S1x512x76, .f32⟩
  | .local _ .vmem, ⟨7, _⟩ => ⟨S1x512x76, .f32⟩
  | .local _ .vmem, ⟨8, _⟩ => ⟨S36x1, .f32⟩
  | .local _ .vmem, ⟨9, _⟩ => ⟨S192x384, .f32⟩
  | .local _ .vmem, ⟨10, _⟩ => ⟨S1x192, .f32⟩
  | .local _ .vmem, ⟨11, _⟩ => ⟨S32x192, .f32⟩
  | .local _ .vmem, ⟨12, _⟩ => ⟨S192x192, .f32⟩
  | .local _ .vmem, ⟨13, _⟩ => ⟨S192x192, .f32⟩
  | .local _ .vmem, ⟨14, _⟩ => ⟨S384x192, .f32⟩
  | .local _ .vmem, ⟨15, _⟩ => ⟨S1x384, .f32⟩
  | .local _ .vmem, ⟨16, _⟩ => ⟨S192x384, .f32⟩
  | .local _ .vmem, ⟨17, _⟩ => ⟨S1x192, .f32⟩
  | .local _ .vmem, ⟨18, _⟩ => ⟨S192x192, .f32⟩
  | .local _ .vmem, ⟨19, _⟩ => ⟨S1x192, .f32⟩
  | .local _ .vmem, ⟨20, _⟩ => ⟨S2x192, .f32⟩
  | .local _ .vmem, ⟨21, _⟩ => ⟨S1x2, .f32⟩
  | .local _ .vmem, ⟨22, _⟩ => ⟨S192x192, .f32⟩
  | .local _ .vmem, ⟨23, _⟩ => ⟨S1x192, .f32⟩
  | .local _ .vmem, ⟨24, _⟩ => ⟨S74x192, .f32⟩
  | .local _ .vmem, ⟨25, _⟩ => ⟨S1x74, .f32⟩
  | .local _ .vmem, ⟨26, _⟩ => ⟨S1x512x76, .f32⟩
  | .local _ .vmem, ⟨27, _⟩ => ⟨S1x512x76, .f32⟩
  | .local _ .vmem, ⟨28, _⟩ => ⟨S512x192, .f32⟩
  | .local _ .vmem, ⟨29, _⟩ => ⟨S512x192, .f32⟩
  | .local _ .vmem, ⟨30, _⟩ => ⟨S1x6x512x512, .f32⟩
  | .local _ .vmem, ⟨31, _⟩ => ⟨S1x6x512x512, .f32⟩
  | .local _ .vmem, ⟨32, _⟩ => ⟨S384x512, .f32⟩
  | .local _ .vmem, ⟨33, _⟩ => ⟨S192x512, .f32⟩
  | .local _ .vmem, ⟨34, _⟩ => ⟨S512x192, .f32⟩
  | .local _ .vmem, ⟨35, _⟩ => ⟨S512x192, .f32⟩
  | .local _ .vmem, ⟨36, _⟩ => ⟨S512x192, .f32⟩
  | .local _ .vmem, ⟨37, _⟩ => ⟨S40x64x100, .f32⟩
  | .local _ .vmem, ⟨38, _⟩ => ⟨S20x64x50, .f32⟩
  | .local _ .vmem, ⟨39, _⟩ => ⟨S10x64x25, .f32⟩
  | .local _ .vmem, ⟨40, _⟩ => ⟨S76x512, .f32⟩
  | _, _ => ⟨S16x64x40x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_v0_0 : Ref sig .tc := ⟨.hbm, 31, rfl⟩
abbrev main_v0_1 : Ref sig .tc := ⟨.hbm, 32, rfl⟩
abbrev main_v0_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg22_1 : Ref sig .tc := ⟨.vmem, 27, rfl⟩
abbrev cc0_stg23_0 : Ref sig .tc := ⟨.vmem, 28, rfl⟩
abbrev cc0_stg23_1 : Ref sig .tc := ⟨.vmem, 29, rfl⟩
abbrev cc0_stg24_0 : Ref sig .tc := ⟨.vmem, 30, rfl⟩
abbrev cc0_stg24_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_scratch7 : Ref sig .tc := ⟨.vmem, 39, rfl⟩
abbrev cc0_scratch8 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem22_1 : DmaSem sig := 27
abbrev cc0_sem23_0 : DmaSem sig := 28
abbrev cc0_sem23_1 : DmaSem sig := 29
abbrev cc0_sem24_0 : DmaSem sig := 30
abbrev cc0_sem24_1 : DmaSem sig := 31

abbrev nD : Nat := 1
abbrev τ : Topo := Topo.v7x

variable {F : FTy → Type} [FloatOps F] [Named F]

def κ : String → Option EReal := fun
  | "scale_log2e" => some (((11863283 / 67108864) * (Real.log 2)⁻¹ : ℝ) : EReal)
  | "w10_71" => some ((10 / 71 : ℝ) : EReal)
  | "w11_71" => some ((11 / 71 : ℝ) : EReal)
  | "w12_71" => some ((12 / 71 : ℝ) : EReal)
  | "w13_71" => some ((13 / 71 : ℝ) : EReal)
  | "w14_71" => some ((14 / 71 : ℝ) : EReal)
  | "w15_71" => some ((15 / 71 : ℝ) : EReal)
  | "w16_71" => some ((16 / 71 : ℝ) : EReal)
  | "w17_71" => some ((17 / 71 : ℝ) : EReal)
  | "w18_71" => some ((18 / 71 : ℝ) : EReal)
  | "w19_71" => some ((19 / 71 : ℝ) : EReal)
  | "w1_71" => some ((1 / 71 : ℝ) : EReal)
  | "w20_71" => some ((20 / 71 : ℝ) : EReal)
  | "w21_71" => some ((21 / 71 : ℝ) : EReal)
  | "w22_71" => some ((22 / 71 : ℝ) : EReal)
  | "w23_71" => some ((23 / 71 : ℝ) : EReal)
  | "w24_71" => some ((24 / 71 : ℝ) : EReal)
  | "w25_71" => some ((25 / 71 : ℝ) : EReal)
  | "w26_71" => some ((26 / 71 : ℝ) : EReal)
  | "w27_71" => some ((27 / 71 : ℝ) : EReal)
  | "w28_71" => some ((28 / 71 : ℝ) : EReal)
  | "w29_71" => some ((29 / 71 : ℝ) : EReal)
  | "w2_71" => some ((2 / 71 : ℝ) : EReal)
  | "w30_71" => some ((30 / 71 : ℝ) : EReal)
  | "w31_71" => some ((31 / 71 : ℝ) : EReal)
  | "w32_71" => some ((32 / 71 : ℝ) : EReal)
  | "w33_71" => some ((33 / 71 : ℝ) : EReal)
  | "w34_71" => some ((34 / 71 : ℝ) : EReal)
  | "w35_71" => some ((35 / 71 : ℝ) : EReal)
  | "w36_71" => some ((36 / 71 : ℝ) : EReal)
  | "w37_71" => some ((37 / 71 : ℝ) : EReal)
  | "w38_71" => some ((38 / 71 : ℝ) : EReal)
  | "w39_71" => some ((39 / 71 : ℝ) : EReal)
  | "w3_71" => some ((3 / 71 : ℝ) : EReal)
  | "w40_71" => some ((40 / 71 : ℝ) : EReal)
  | "w41_71" => some ((41 / 71 : ℝ) : EReal)
  | "w42_71" => some ((42 / 71 : ℝ) : EReal)
  | "w43_71" => some ((43 / 71 : ℝ) : EReal)
  | "w44_71" => some ((44 / 71 : ℝ) : EReal)
  | "w45_71" => some ((45 / 71 : ℝ) : EReal)
  | "w46_71" => some ((46 / 71 : ℝ) : EReal)
  | "w47_71" => some ((47 / 71 : ℝ) : EReal)
  | "w48_71" => some ((48 / 71 : ℝ) : EReal)
  | "w49_71" => some ((49 / 71 : ℝ) : EReal)
  | "w4_71" => some ((4 / 71 : ℝ) : EReal)
  | "w50_71" => some ((50 / 71 : ℝ) : EReal)
  | "w51_71" => some ((51 / 71 : ℝ) : EReal)
  | "w52_71" => some ((52 / 71 : ℝ) : EReal)
  | "w53_71" => some ((53 / 71 : ℝ) : EReal)
  | "w54_71" => some ((54 / 71 : ℝ) : EReal)
  | "w55_71" => some ((55 / 71 : ℝ) : EReal)
  | "w56_71" => some ((56 / 71 : ℝ) : EReal)
  | "w57_71" => some ((57 / 71 : ℝ) : EReal)
  | "w58_71" => some ((58 / 71 : ℝ) : EReal)
  | "w59_71" => some ((59 / 71 : ℝ) : EReal)
  | "w5_71" => some ((5 / 71 : ℝ) : EReal)
  | "w60_71" => some ((60 / 71 : ℝ) : EReal)
  | "w61_71" => some ((61 / 71 : ℝ) : EReal)
  | "w62_71" => some ((62 / 71 : ℝ) : EReal)
  | "w63_71" => some ((63 / 71 : ℝ) : EReal)
  | "w64_71" => some ((64 / 71 : ℝ) : EReal)
  | "w65_71" => some ((65 / 71 : ℝ) : EReal)
  | "w66_71" => some ((66 / 71 : ℝ) : EReal)
  | "w67_71" => some ((67 / 71 : ℝ) : EReal)
  | "w68_71" => some ((68 / 71 : ℝ) : EReal)
  | "w69_71" => some ((69 / 71 : ℝ) : EReal)
  | "w6_71" => some ((6 / 71 : ℝ) : EReal)
  | "w70_71" => some ((70 / 71 : ℝ) : EReal)
  | "w7_71" => some ((7 / 71 : ℝ) : EReal)
  | "w8_71" => some ((8 / 71 : ℝ) : EReal)
  | "w9_71" => some ((9 / 71 : ℝ) : EReal)
  | _ => none

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x40x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x20x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x10x25 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x76 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S36x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S192x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S192x192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384x192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S192x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x192 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S192x192 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x192 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x192 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S192x192 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x192 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S74x192 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x74 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S1x512x76 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x192 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x6x512x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== ReferenceIdeal.lean ====
abbrev S16x64x40x100 : Shape := ⟨4, ![16, 64, 40, 100]⟩
abbrev S16x64x20x50 : Shape := ⟨4, ![16, 64, 20, 50]⟩
abbrev S16x64x10x25 : Shape := ⟨4, ![16, 64, 10, 25]⟩
abbrev S16x512x76 : Shape := ⟨3, ![16, 512, 76]⟩
abbrev S36 : Shape := ⟨1, ![36]⟩
abbrev S192x6x64 : Shape := ⟨3, ![192, 6, 64]⟩
abbrev S192 : Shape := ⟨1, ![192]⟩
abbrev S32x192 : Shape := ⟨2, ![32, 192]⟩
abbrev S192x192 : Shape := ⟨2, ![192, 192]⟩
abbrev S384x192 : Shape := ⟨2, ![384, 192]⟩
abbrev S384 : Shape := ⟨1, ![384]⟩
abbrev S192x384 : Shape := ⟨2, ![192, 384]⟩
abbrev S2x192 : Shape := ⟨2, ![2, 192]⟩
abbrev S2 : Shape := ⟨1, ![2]⟩
abbrev S74x192 : Shape := ⟨2, ![74, 192]⟩
abbrev S74 : Shape := ⟨1, ![74]⟩
abbrev S_ : Shape := ⟨0, ![]⟩
abbrev S35 : Shape := ⟨1, ![35]⟩
abbrev S1 : Shape := ⟨1, ![1]⟩
abbrev S36x1 : Shape := ⟨2, ![36, 1]⟩
abbrev S16x512x36 : Shape := ⟨3, ![16, 512, 36]⟩
abbrev S16x18432 : Shape := ⟨2, ![16, 18432]⟩
abbrev S1x1x36 : Shape := ⟨3, ![1, 1, 36]⟩
abbrev S3 : Shape := ⟨1, ![3]⟩
abbrev S1x3 : Shape := ⟨2, ![1, 3]⟩
abbrev S36x3 : Shape := ⟨2, ![36, 3]⟩
abbrev S16x512x36x64 : Shape := ⟨4, ![16, 512, 36, 64]⟩
abbrev S16 : Shape := ⟨1, ![16]⟩
abbrev S16x1 : Shape := ⟨2, ![16, 1]⟩
abbrev S16x18432x1 : Shape := ⟨3, ![16, 18432, 1]⟩
abbrev S16x18432x3 : Shape := ⟨3, ![16, 18432, 3]⟩
abbrev S16x18432x64 : Shape := ⟨3, ![16, 18432, 64]⟩
abbrev S1x1x36x1 : Shape := ⟨4, ![1, 1, 36, 1]⟩
abbrev S8192x6x6x64 : Shape := ⟨4, ![8192, 6, 6, 64]⟩
abbrev S6x32x6x64 : Shape := ⟨4, ![6, 32, 6, 64]⟩
abbrev S6x32x8192 : Shape := ⟨3, ![6, 32, 8192]⟩
abbrev S8192x6x32 : Shape := ⟨3, ![8192, 6, 32]⟩
abbrev S6x32 : Shape := ⟨2, ![6, 32]⟩
abbrev S1x6x32 : Shape := ⟨3, ![1, 6, 32]⟩
abbrev S16x512x192 : Shape := ⟨3, ![16, 512, 192]⟩
abbrev S192x32 : Shape := ⟨2, ![192, 32]⟩
abbrev S16x512x32 : Shape := ⟨3, ![16, 512, 32]⟩
abbrev S16x512x6x32 : Shape := ⟨4, ![16, 512, 6, 32]⟩
abbrev S16x512x6x512 : Shape := ⟨4, ![16, 512, 6, 512]⟩
abbrev S16x6x512x512 : Shape := ⟨4, ![16, 6, 512, 512]⟩
abbrev S16x6x512 : Shape := ⟨3, ![16, 6, 512]⟩
abbrev S16x6x512x1 : Shape := ⟨4, ![16, 6, 512, 1]⟩
abbrev S16x6x32x512 : Shape := ⟨4, ![16, 6, 32, 512]⟩
abbrev S16x512x384 : Shape := ⟨3, ![16, 512, 384]⟩
abbrev S1x1x384 : Shape := ⟨3, ![1, 1, 384]⟩
abbrev S1x1x192 : Shape := ⟨3, ![1, 1, 192]⟩
abbrev S8192x192 : Shape := ⟨2, ![8192, 192]⟩
abbrev S1x192 : Shape := ⟨2, ![1, 192]⟩
abbrev S192x2 : Shape := ⟨2, ![192, 2]⟩
abbrev S8192x2 : Shape := ⟨2, ![8192, 2]⟩
abbrev S1x2 : Shape := ⟨2, ![1, 2]⟩
abbrev S16x512x2 : Shape := ⟨3, ![16, 512, 2]⟩
abbrev S192x74 : Shape := ⟨2, ![192, 74]⟩
abbrev S8192x74 : Shape := ⟨2, ![8192, 74]⟩
abbrev S1x74 : Shape := ⟨2, ![1, 74]⟩
abbrev S16x512x74 : Shape := ⟨3, ![16, 512, 74]⟩

abbrev nBuf : Space → Nat
  | .hbm => 1206
  | .vmem => 0
  | .smem => 0
  | _ => 0

abbrev hbmTy0_0 (i : Nat) : BufTy := match i % 128 with
  | 0 => ⟨S16x64x40x100, .f32⟩
  | 1 => ⟨S16x64x20x50, .f32⟩
  | 2 => ⟨S16x64x10x25, .f32⟩
  | 3 => ⟨S16x512x76, .f32⟩
  | 4 => ⟨S36, .f32⟩
  | 5 => ⟨S192x6x64, .f32⟩
  | 6 => ⟨S192, .f32⟩
  | 7 => ⟨S32x192, .f32⟩
  | 8 => ⟨S192x192, .f32⟩
  | 9 => ⟨S192x192, .f32⟩
  | 10 => ⟨S384x192, .f32⟩
  | 11 => ⟨S384, .f32⟩
  | 12 => ⟨S192x384, .f32⟩
  | 13 => ⟨S192, .f32⟩
  | 14 => ⟨S192x192, .f32⟩
  | 15 => ⟨S192, .f32⟩
  | 16 => ⟨S2x192, .f32⟩
  | 17 => ⟨S2, .f32⟩
  | 18 => ⟨S192x192, .f32⟩
  | 19 => ⟨S192, .f32⟩
  | 20 => ⟨S74x192, .f32⟩
  | 21 => ⟨S74, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S35, .f32⟩
  | 30 => ⟨S_, .f32⟩
  | 31 => ⟨S35, .f32⟩
  | 32 => ⟨S35, .f32⟩
  | 33 => ⟨S1, .f32⟩
  | 34 => ⟨S_, .f32⟩
  | 35 => ⟨S35, .f32⟩
  | 36 => ⟨S35, .f32⟩
  | 37 => ⟨S35, .f32⟩
  | 38 => ⟨S35, .f32⟩
  | 39 => ⟨S1, .f32⟩
  | 40 => ⟨S35, .f32⟩
  | 41 => ⟨S35, .f32⟩
  | 42 => ⟨S35, .f32⟩
  | 43 => ⟨S1, .f32⟩
  | 44 => ⟨S36, .f32⟩
  | 45 => ⟨S_, .f32⟩
  | 46 => ⟨S36, .f32⟩
  | 47 => ⟨S36, .f32⟩
  | 48 => ⟨S36, .i32⟩
  | 49 => ⟨S36, .f32⟩
  | 50 => ⟨S_, .f32⟩
  | 51 => ⟨S36, .f32⟩
  | 52 => ⟨S36, .f32⟩
  | 53 => ⟨S_, .f32⟩
  | 54 => ⟨S36, .f32⟩
  | 55 => ⟨S36, .f32⟩
  | 56 => ⟨S36, .f32⟩
  | 57 => ⟨S_, .i32⟩
  | 58 => ⟨S36, .i32⟩
  | 59 => ⟨S36, .i32⟩
  | 60 => ⟨S_, .i32⟩
  | 61 => ⟨S36, .i32⟩
  | 62 => ⟨S36, .i1⟩
  | 63 => ⟨S_, .i32⟩
  | 64 => ⟨S36, .i32⟩
  | 65 => ⟨S36, .i32⟩
  | 66 => ⟨S36, .i32⟩
  | 67 => ⟨S36x1, .i32⟩
  | 68 => ⟨S16x512x36, .f32⟩
  | 69 => ⟨S16x512x36, .f32⟩
  | 70 => ⟨S_, .f32⟩
  | 71 => ⟨S16x512x36, .f32⟩
  | 72 => ⟨S16x512x36, .f32⟩
  | 73 => ⟨S_, .f32⟩
  | 74 => ⟨S16x512x36, .f32⟩
  | 75 => ⟨S16x512x36, .f32⟩
  | 76 => ⟨S16x18432, .f32⟩
  | 77 => ⟨S_, .f32⟩
  | 78 => ⟨S36, .f32⟩
  | 79 => ⟨S36, .f32⟩
  | 80 => ⟨S_, .f32⟩
  | 81 => ⟨S36, .f32⟩
  | 82 => ⟨S36, .f32⟩
  | 83 => ⟨S1x1x36, .f32⟩
  | 84 => ⟨S16x512x36, .f32⟩
  | 85 => ⟨S16x18432, .f32⟩
  | 86 => ⟨S36x1, .f32⟩
  | 87 => ⟨S3, .f32⟩
  | 88 => ⟨S1x3, .f32⟩
  | 89 => ⟨S36x3, .f32⟩
  | 90 => ⟨S36x3, .f32⟩
  | 91 => ⟨S36x3, .f32⟩
  | 92 => ⟨S36x3, .f32⟩
  | 93 => ⟨S36x3, .f32⟩
  | 94 => ⟨S_, .f32⟩
  | 95 => ⟨S36x3, .f32⟩
  | 96 => ⟨S36x3, .f32⟩
  | 97 => ⟨S_, .f32⟩
  | 98 => ⟨S36, .f32⟩
  | 99 => ⟨S_, .f32⟩
  | 100 => ⟨S36, .f32⟩
  | 101 => ⟨S36, .f32⟩
  | 102 => ⟨S36x1, .f32⟩
  | 103 => ⟨S36x3, .f32⟩
  | 104 => ⟨S36x3, .f32⟩
  | 105 => ⟨S36x3, .f32⟩
  | 106 => ⟨S_, .f32⟩
  | 107 => ⟨S36, .f32⟩
  | 108 => ⟨S36x1, .f32⟩
  | 109 => ⟨S36x3, .f32⟩
  | 110 => ⟨S36x3, .f32⟩
  | 111 => ⟨S_, .f32⟩
  | 112 => ⟨S16x512x36x64, .f32⟩
  | 113 => ⟨S_, .f32⟩
  | 114 => ⟨S16x18432, .f32⟩
  | 115 => ⟨S16x18432, .f32⟩
  | 116 => ⟨S_, .f32⟩
  | 117 => ⟨S16x18432, .f32⟩
  | 118 => ⟨S16x18432, .f32⟩
  | 119 => ⟨S_, .f32⟩
  | 120 => ⟨S16x18432, .f32⟩
  | 121 => ⟨S16x18432, .f32⟩
  | 122 => ⟨S_, .f32⟩
  | 123 => ⟨S16x18432, .f32⟩
  | 124 => ⟨S16x18432, .f32⟩
  | 125 => ⟨S_, .f32⟩
  | 126 => ⟨S16x18432, .f32⟩
  | 127 => ⟨S16x18432, .f32⟩
  | _ => ⟨S16x64x40x100, .f32⟩

abbrev hbmTy0_1 (i : Nat) : BufTy := match i % 128 with
  | 0 => ⟨S_, .f32⟩
  | 1 => ⟨S16x18432, .f32⟩
  | 2 => ⟨S16x18432, .f32⟩
  | 3 => ⟨S16x18432, .f32⟩
  | 4 => ⟨S16x18432, .f32⟩
  | 5 => ⟨S16x18432, .f32⟩
  | 6 => ⟨S16x18432, .f32⟩
  | 7 => ⟨S_, .f32⟩
  | 8 => ⟨S16x18432, .f32⟩
  | 9 => ⟨S16x18432, .i1⟩
  | 10 => ⟨S_, .f32⟩
  | 11 => ⟨S16x18432, .f32⟩
  | 12 => ⟨S16x18432, .i1⟩
  | 13 => ⟨S16x18432, .i1⟩
  | 14 => ⟨S_, .f32⟩
  | 15 => ⟨S16x18432, .f32⟩
  | 16 => ⟨S16x18432, .i1⟩
  | 17 => ⟨S16x18432, .i1⟩
  | 18 => ⟨S_, .f32⟩
  | 19 => ⟨S16x18432, .f32⟩
  | 20 => ⟨S16x18432, .i1⟩
  | 21 => ⟨S16x18432, .i1⟩
  | 22 => ⟨S_, .i32⟩
  | 23 => ⟨S_, .i32⟩
  | 24 => ⟨S_, .f32⟩
  | 25 => ⟨S16x18432, .f32⟩
  | 26 => ⟨S16x18432, .f32⟩
  | 27 => ⟨S_, .f32⟩
  | 28 => ⟨S16x18432, .f32⟩
  | 29 => ⟨S16x18432, .f32⟩
  | 30 => ⟨S16x18432, .i32⟩
  | 31 => ⟨S_, .i32⟩
  | 32 => ⟨S_, .i32⟩
  | 33 => ⟨S_, .f32⟩
  | 34 => ⟨S16x18432, .f32⟩
  | 35 => ⟨S16x18432, .f32⟩
  | 36 => ⟨S_, .f32⟩
  | 37 => ⟨S16x18432, .f32⟩
  | 38 => ⟨S16x18432, .f32⟩
  | 39 => ⟨S16x18432, .i32⟩
  | 40 => ⟨S16, .i32⟩
  | 41 => ⟨S16x1, .i32⟩
  | 42 => ⟨S_, .i32⟩
  | 43 => ⟨S16x1, .i32⟩
  | 44 => ⟨S16x1, .i1⟩
  | 45 => ⟨S_, .i32⟩
  | 46 => ⟨S16x1, .i32⟩
  | 47 => ⟨S16x1, .i32⟩
  | 48 => ⟨S16x1, .i32⟩
  | 49 => ⟨S_, .i32⟩
  | 50 => ⟨S16x18432, .i32⟩
  | 51 => ⟨S16x18432, .i1⟩
  | 52 => ⟨S_, .i32⟩
  | 53 => ⟨S16x18432, .i32⟩
  | 54 => ⟨S16x18432, .i32⟩
  | 55 => ⟨S16x18432, .i32⟩
  | 56 => ⟨S_, .i32⟩
  | 57 => ⟨S16x18432, .i32⟩
  | 58 => ⟨S16x18432, .i1⟩
  | 59 => ⟨S_, .i32⟩
  | 60 => ⟨S16x18432, .i32⟩
  | 61 => ⟨S16x18432, .i32⟩
  | 62 => ⟨S16x18432, .i32⟩
  | 63 => ⟨S16x18432, .i32⟩
  | 64 => ⟨S16x18432x1, .i32⟩
  | 65 => ⟨S16x18432x1, .i32⟩
  | 66 => ⟨S16x18432x1, .i32⟩
  | 67 => ⟨S16x18432x3, .i32⟩
  | 68 => ⟨S16x18432x64, .f32⟩
  | 69 => ⟨S16x18432x1, .i1⟩
  | 70 => ⟨S16x18432x1, .f32⟩
  | 71 => ⟨S16x18432x64, .f32⟩
  | 72 => ⟨S16x18432x64, .f32⟩
  | 73 => ⟨S_, .f32⟩
  | 74 => ⟨S16x18432, .f32⟩
  | 75 => ⟨S16x18432, .f32⟩
  | 76 => ⟨S_, .f32⟩
  | 77 => ⟨S16x18432, .f32⟩
  | 78 => ⟨S16x18432, .f32⟩
  | 79 => ⟨S16x18432, .f32⟩
  | 80 => ⟨S16x18432x1, .f32⟩
  | 81 => ⟨S16x18432x64, .f32⟩
  | 82 => ⟨S16x18432x64, .f32⟩
  | 83 => ⟨S_, .f32⟩
  | 84 => ⟨S16x18432, .f32⟩
  | 85 => ⟨S16x18432, .f32⟩
  | 86 => ⟨S_, .f32⟩
  | 87 => ⟨S16x18432, .f32⟩
  | 88 => ⟨S16x18432, .i1⟩
  | 89 => ⟨S_, .f32⟩
  | 90 => ⟨S16x18432, .f32⟩
  | 91 => ⟨S16x18432, .i1⟩
  | 92 => ⟨S16x18432, .i1⟩
  | 93 => ⟨S_, .f32⟩
  | 94 => ⟨S16x18432, .f32⟩
  | 95 => ⟨S16x18432, .i1⟩
  | 96 => ⟨S16x18432, .i1⟩
  | 97 => ⟨S_, .f32⟩
  | 98 => ⟨S16x18432, .f32⟩
  | 99 => ⟨S16x18432, .i1⟩
  | 100 => ⟨S16x18432, .i1⟩
  | 101 => ⟨S_, .i32⟩
  | 102 => ⟨S_, .i32⟩
  | 103 => ⟨S_, .f32⟩
  | 104 => ⟨S16x18432, .f32⟩
  | 105 => ⟨S16x18432, .f32⟩
  | 106 => ⟨S_, .f32⟩
  | 107 => ⟨S16x18432, .f32⟩
  | 108 => ⟨S16x18432, .f32⟩
  | 109 => ⟨S16x18432, .i32⟩
  | 110 => ⟨S_, .i32⟩
  | 111 => ⟨S_, .i32⟩
  | 112 => ⟨S_, .f32⟩
  | 113 => ⟨S16x18432, .f32⟩
  | 114 => ⟨S16x18432, .f32⟩
  | 115 => ⟨S_, .f32⟩
  | 116 => ⟨S16x18432, .f32⟩
  | 117 => ⟨S16x18432, .f32⟩
  | 118 => ⟨S16x18432, .i32⟩
  | 119 => ⟨S16, .i32⟩
  | 120 => ⟨S16x1, .i32⟩
  | 121 => ⟨S_, .i32⟩
  | 122 => ⟨S16x1, .i32⟩
  | 123 => ⟨S16x1, .i1⟩
  | 124 => ⟨S_, .i32⟩
  | 125 => ⟨S16x1, .i32⟩
  | 126 => ⟨S16x1, .i32⟩
  | 127 => ⟨S16x1, .i32⟩
  | _ => ⟨S16x64x40x100, .f32⟩

abbrev hbmTy0_2 (i : Nat) : BufTy := match i % 128 with
  | 0 => ⟨S_, .i32⟩
  | 1 => ⟨S16x18432, .i32⟩
  | 2 => ⟨S16x18432, .i1⟩
  | 3 => ⟨S_, .i32⟩
  | 4 => ⟨S16x18432, .i32⟩
  | 5 => ⟨S16x18432, .i32⟩
  | 6 => ⟨S16x18432, .i32⟩
  | 7 => ⟨S_, .i32⟩
  | 8 => ⟨S16x18432, .i32⟩
  | 9 => ⟨S16x18432, .i1⟩
  | 10 => ⟨S_, .i32⟩
  | 11 => ⟨S16x18432, .i32⟩
  | 12 => ⟨S16x18432, .i32⟩
  | 13 => ⟨S16x18432, .i32⟩
  | 14 => ⟨S16x18432, .i32⟩
  | 15 => ⟨S16x18432x1, .i32⟩
  | 16 => ⟨S16x18432x1, .i32⟩
  | 17 => ⟨S16x18432x1, .i32⟩
  | 18 => ⟨S16x18432x3, .i32⟩
  | 19 => ⟨S16x18432x64, .f32⟩
  | 20 => ⟨S16x18432x1, .i1⟩
  | 21 => ⟨S16x18432x1, .f32⟩
  | 22 => ⟨S16x18432x64, .f32⟩
  | 23 => ⟨S16x18432x64, .f32⟩
  | 24 => ⟨S_, .f32⟩
  | 25 => ⟨S16x18432, .f32⟩
  | 26 => ⟨S16x18432, .f32⟩
  | 27 => ⟨S16x18432, .f32⟩
  | 28 => ⟨S16x18432x1, .f32⟩
  | 29 => ⟨S16x18432x64, .f32⟩
  | 30 => ⟨S16x18432x64, .f32⟩
  | 31 => ⟨S16x18432x64, .f32⟩
  | 32 => ⟨S_, .f32⟩
  | 33 => ⟨S16x18432, .f32⟩
  | 34 => ⟨S16x18432, .f32⟩
  | 35 => ⟨S_, .f32⟩
  | 36 => ⟨S16x18432, .f32⟩
  | 37 => ⟨S16x18432, .i1⟩
  | 38 => ⟨S_, .f32⟩
  | 39 => ⟨S16x18432, .f32⟩
  | 40 => ⟨S16x18432, .i1⟩
  | 41 => ⟨S16x18432, .i1⟩
  | 42 => ⟨S_, .f32⟩
  | 43 => ⟨S16x18432, .f32⟩
  | 44 => ⟨S16x18432, .i1⟩
  | 45 => ⟨S16x18432, .i1⟩
  | 46 => ⟨S_, .f32⟩
  | 47 => ⟨S16x18432, .f32⟩
  | 48 => ⟨S16x18432, .i1⟩
  | 49 => ⟨S16x18432, .i1⟩
  | 50 => ⟨S_, .i32⟩
  | 51 => ⟨S_, .i32⟩
  | 52 => ⟨S_, .f32⟩
  | 53 => ⟨S16x18432, .f32⟩
  | 54 => ⟨S16x18432, .f32⟩
  | 55 => ⟨S_, .f32⟩
  | 56 => ⟨S16x18432, .f32⟩
  | 57 => ⟨S16x18432, .f32⟩
  | 58 => ⟨S16x18432, .i32⟩
  | 59 => ⟨S_, .i32⟩
  | 60 => ⟨S_, .i32⟩
  | 61 => ⟨S_, .f32⟩
  | 62 => ⟨S16x18432, .f32⟩
  | 63 => ⟨S16x18432, .f32⟩
  | 64 => ⟨S_, .f32⟩
  | 65 => ⟨S16x18432, .f32⟩
  | 66 => ⟨S16x18432, .f32⟩
  | 67 => ⟨S16x18432, .i32⟩
  | 68 => ⟨S16, .i32⟩
  | 69 => ⟨S16x1, .i32⟩
  | 70 => ⟨S_, .i32⟩
  | 71 => ⟨S16x1, .i32⟩
  | 72 => ⟨S16x1, .i1⟩
  | 73 => ⟨S_, .i32⟩
  | 74 => ⟨S16x1, .i32⟩
  | 75 => ⟨S16x1, .i32⟩
  | 76 => ⟨S16x1, .i32⟩
  | 77 => ⟨S_, .i32⟩
  | 78 => ⟨S16x18432, .i32⟩
  | 79 => ⟨S16x18432, .i1⟩
  | 80 => ⟨S_, .i32⟩
  | 81 => ⟨S16x18432, .i32⟩
  | 82 => ⟨S16x18432, .i32⟩
  | 83 => ⟨S16x18432, .i32⟩
  | 84 => ⟨S_, .i32⟩
  | 85 => ⟨S16x18432, .i32⟩
  | 86 => ⟨S16x18432, .i1⟩
  | 87 => ⟨S_, .i32⟩
  | 88 => ⟨S16x18432, .i32⟩
  | 89 => ⟨S16x18432, .i32⟩
  | 90 => ⟨S16x18432, .i32⟩
  | 91 => ⟨S16x18432, .i32⟩
  | 92 => ⟨S16x18432x1, .i32⟩
  | 93 => ⟨S16x18432x1, .i32⟩
  | 94 => ⟨S16x18432x1, .i32⟩
  | 95 => ⟨S16x18432x3, .i32⟩
  | 96 => ⟨S16x18432x64, .f32⟩
  | 97 => ⟨S16x18432x1, .i1⟩
  | 98 => ⟨S16x18432x1, .f32⟩
  | 99 => ⟨S16x18432x64, .f32⟩
  | 100 => ⟨S16x18432x64, .f32⟩
  | 101 => ⟨S_, .f32⟩
  | 102 => ⟨S16x18432, .f32⟩
  | 103 => ⟨S16x18432, .f32⟩
  | 104 => ⟨S16x18432, .f32⟩
  | 105 => ⟨S16x18432x1, .f32⟩
  | 106 => ⟨S16x18432x64, .f32⟩
  | 107 => ⟨S16x18432x64, .f32⟩
  | 108 => ⟨S16x18432x64, .f32⟩
  | 109 => ⟨S_, .f32⟩
  | 110 => ⟨S16x18432, .f32⟩
  | 111 => ⟨S16x18432, .f32⟩
  | 112 => ⟨S_, .f32⟩
  | 113 => ⟨S16x18432, .f32⟩
  | 114 => ⟨S16x18432, .f32⟩
  | 115 => ⟨S_, .f32⟩
  | 116 => ⟨S16x18432, .f32⟩
  | 117 => ⟨S16x18432, .i1⟩
  | 118 => ⟨S_, .f32⟩
  | 119 => ⟨S16x18432, .f32⟩
  | 120 => ⟨S16x18432, .i1⟩
  | 121 => ⟨S16x18432, .i1⟩
  | 122 => ⟨S_, .f32⟩
  | 123 => ⟨S16x18432, .f32⟩
  | 124 => ⟨S16x18432, .i1⟩
  | 125 => ⟨S16x18432, .i1⟩
  | 126 => ⟨S_, .f32⟩
  | 127 => ⟨S16x18432, .f32⟩
  | _ => ⟨S16x64x40x100, .f32⟩

abbrev hbmTy0_3 (i : Nat) : BufTy := match i % 128 with
  | 0 => ⟨S16x18432, .i1⟩
  | 1 => ⟨S16x18432, .i1⟩
  | 2 => ⟨S_, .i32⟩
  | 3 => ⟨S_, .i32⟩
  | 4 => ⟨S_, .f32⟩
  | 5 => ⟨S16x18432, .f32⟩
  | 6 => ⟨S16x18432, .f32⟩
  | 7 => ⟨S_, .f32⟩
  | 8 => ⟨S16x18432, .f32⟩
  | 9 => ⟨S16x18432, .f32⟩
  | 10 => ⟨S16x18432, .i32⟩
  | 11 => ⟨S_, .i32⟩
  | 12 => ⟨S_, .i32⟩
  | 13 => ⟨S_, .f32⟩
  | 14 => ⟨S16x18432, .f32⟩
  | 15 => ⟨S16x18432, .f32⟩
  | 16 => ⟨S_, .f32⟩
  | 17 => ⟨S16x18432, .f32⟩
  | 18 => ⟨S16x18432, .f32⟩
  | 19 => ⟨S16x18432, .i32⟩
  | 20 => ⟨S16, .i32⟩
  | 21 => ⟨S16x1, .i32⟩
  | 22 => ⟨S_, .i32⟩
  | 23 => ⟨S16x1, .i32⟩
  | 24 => ⟨S16x1, .i1⟩
  | 25 => ⟨S_, .i32⟩
  | 26 => ⟨S16x1, .i32⟩
  | 27 => ⟨S16x1, .i32⟩
  | 28 => ⟨S16x1, .i32⟩
  | 29 => ⟨S_, .i32⟩
  | 30 => ⟨S16x18432, .i32⟩
  | 31 => ⟨S16x18432, .i1⟩
  | 32 => ⟨S_, .i32⟩
  | 33 => ⟨S16x18432, .i32⟩
  | 34 => ⟨S16x18432, .i32⟩
  | 35 => ⟨S16x18432, .i32⟩
  | 36 => ⟨S_, .i32⟩
  | 37 => ⟨S16x18432, .i32⟩
  | 38 => ⟨S16x18432, .i1⟩
  | 39 => ⟨S_, .i32⟩
  | 40 => ⟨S16x18432, .i32⟩
  | 41 => ⟨S16x18432, .i32⟩
  | 42 => ⟨S16x18432, .i32⟩
  | 43 => ⟨S16x18432, .i32⟩
  | 44 => ⟨S16x18432x1, .i32⟩
  | 45 => ⟨S16x18432x1, .i32⟩
  | 46 => ⟨S16x18432x1, .i32⟩
  | 47 => ⟨S16x18432x3, .i32⟩
  | 48 => ⟨S16x18432x64, .f32⟩
  | 49 => ⟨S16x18432x1, .i1⟩
  | 50 => ⟨S16x18432x1, .f32⟩
  | 51 => ⟨S16x18432x64, .f32⟩
  | 52 => ⟨S16x18432x64, .f32⟩
  | 53 => ⟨S16x18432, .f32⟩
  | 54 => ⟨S16x18432x1, .f32⟩
  | 55 => ⟨S16x18432x64, .f32⟩
  | 56 => ⟨S16x18432x64, .f32⟩
  | 57 => ⟨S16x18432x64, .f32⟩
  | 58 => ⟨S16x512x36x64, .f32⟩
  | 59 => ⟨S36x1, .f32⟩
  | 60 => ⟨S36, .f32⟩
  | 61 => ⟨S1x1x36x1, .f32⟩
  | 62 => ⟨S16x512x36x64, .f32⟩
  | 63 => ⟨S16x512x36x64, .f32⟩
  | 64 => ⟨S16x512x36x64, .f32⟩
  | 65 => ⟨S_, .f32⟩
  | 66 => ⟨S16x18432, .f32⟩
  | 67 => ⟨S16x18432, .f32⟩
  | 68 => ⟨S_, .f32⟩
  | 69 => ⟨S16x18432, .f32⟩
  | 70 => ⟨S16x18432, .f32⟩
  | 71 => ⟨S_, .f32⟩
  | 72 => ⟨S16x18432, .f32⟩
  | 73 => ⟨S16x18432, .f32⟩
  | 74 => ⟨S_, .f32⟩
  | 75 => ⟨S16x18432, .f32⟩
  | 76 => ⟨S16x18432, .f32⟩
  | 77 => ⟨S_, .f32⟩
  | 78 => ⟨S16x18432, .f32⟩
  | 79 => ⟨S16x18432, .f32⟩
  | 80 => ⟨S_, .f32⟩
  | 81 => ⟨S16x18432, .f32⟩
  | 82 => ⟨S16x18432, .f32⟩
  | 83 => ⟨S16x18432, .f32⟩
  | 84 => ⟨S16x18432, .f32⟩
  | 85 => ⟨S16x18432, .f32⟩
  | 86 => ⟨S16x18432, .f32⟩
  | 87 => ⟨S_, .f32⟩
  | 88 => ⟨S16x18432, .f32⟩
  | 89 => ⟨S16x18432, .i1⟩
  | 90 => ⟨S_, .f32⟩
  | 91 => ⟨S16x18432, .f32⟩
  | 92 => ⟨S16x18432, .i1⟩
  | 93 => ⟨S16x18432, .i1⟩
  | 94 => ⟨S_, .f32⟩
  | 95 => ⟨S16x18432, .f32⟩
  | 96 => ⟨S16x18432, .i1⟩
  | 97 => ⟨S16x18432, .i1⟩
  | 98 => ⟨S_, .f32⟩
  | 99 => ⟨S16x18432, .f32⟩
  | 100 => ⟨S16x18432, .i1⟩
  | 101 => ⟨S16x18432, .i1⟩
  | 102 => ⟨S_, .i32⟩
  | 103 => ⟨S_, .i32⟩
  | 104 => ⟨S_, .f32⟩
  | 105 => ⟨S16x18432, .f32⟩
  | 106 => ⟨S16x18432, .f32⟩
  | 107 => ⟨S_, .f32⟩
  | 108 => ⟨S16x18432, .f32⟩
  | 109 => ⟨S16x18432, .f32⟩
  | 110 => ⟨S16x18432, .i32⟩
  | 111 => ⟨S_, .i32⟩
  | 112 => ⟨S_, .i32⟩
  | 113 => ⟨S_, .f32⟩
  | 114 => ⟨S16x18432, .f32⟩
  | 115 => ⟨S16x18432, .f32⟩
  | 116 => ⟨S_, .f32⟩
  | 117 => ⟨S16x18432, .f32⟩
  | 118 => ⟨S16x18432, .f32⟩
  | 119 => ⟨S16x18432, .i32⟩
  | 120 => ⟨S16, .i32⟩
  | 121 => ⟨S16x1, .i32⟩
  | 122 => ⟨S_, .i32⟩
  | 123 => ⟨S16x1, .i32⟩
  | 124 => ⟨S16x1, .i1⟩
  | 125 => ⟨S_, .i32⟩
  | 126 => ⟨S16x1, .i32⟩
  | 127 => ⟨S16x1, .i32⟩
  | _ => ⟨S16x64x40x100, .f32⟩

abbrev hbmTy0_4 (i : Nat) : BufTy := match i % 128 with
  | 0 => ⟨S16x1, .i32⟩
  | 1 => ⟨S_, .i32⟩
  | 2 => ⟨S16x18432, .i32⟩
  | 3 => ⟨S16x18432, .i1⟩
  | 4 => ⟨S_, .i32⟩
  | 5 => ⟨S16x18432, .i32⟩
  | 6 => ⟨S16x18432, .i32⟩
  | 7 => ⟨S16x18432, .i32⟩
  | 8 => ⟨S_, .i32⟩
  | 9 => ⟨S16x18432, .i32⟩
  | 10 => ⟨S16x18432, .i1⟩
  | 11 => ⟨S_, .i32⟩
  | 12 => ⟨S16x18432, .i32⟩
  | 13 => ⟨S16x18432, .i32⟩
  | 14 => ⟨S16x18432, .i32⟩
  | 15 => ⟨S16x18432, .i32⟩
  | 16 => ⟨S16x18432x1, .i32⟩
  | 17 => ⟨S16x18432x1, .i32⟩
  | 18 => ⟨S16x18432x1, .i32⟩
  | 19 => ⟨S16x18432x3, .i32⟩
  | 20 => ⟨S16x18432x64, .f32⟩
  | 21 => ⟨S16x18432x1, .i1⟩
  | 22 => ⟨S16x18432x1, .f32⟩
  | 23 => ⟨S16x18432x64, .f32⟩
  | 24 => ⟨S16x18432x64, .f32⟩
  | 25 => ⟨S_, .f32⟩
  | 26 => ⟨S16x18432, .f32⟩
  | 27 => ⟨S16x18432, .f32⟩
  | 28 => ⟨S_, .f32⟩
  | 29 => ⟨S16x18432, .f32⟩
  | 30 => ⟨S16x18432, .f32⟩
  | 31 => ⟨S16x18432, .f32⟩
  | 32 => ⟨S16x18432x1, .f32⟩
  | 33 => ⟨S16x18432x64, .f32⟩
  | 34 => ⟨S16x18432x64, .f32⟩
  | 35 => ⟨S_, .f32⟩
  | 36 => ⟨S16x18432, .f32⟩
  | 37 => ⟨S16x18432, .f32⟩
  | 38 => ⟨S_, .f32⟩
  | 39 => ⟨S16x18432, .f32⟩
  | 40 => ⟨S16x18432, .i1⟩
  | 41 => ⟨S_, .f32⟩
  | 42 => ⟨S16x18432, .f32⟩
  | 43 => ⟨S16x18432, .i1⟩
  | 44 => ⟨S16x18432, .i1⟩
  | 45 => ⟨S_, .f32⟩
  | 46 => ⟨S16x18432, .f32⟩
  | 47 => ⟨S16x18432, .i1⟩
  | 48 => ⟨S16x18432, .i1⟩
  | 49 => ⟨S_, .f32⟩
  | 50 => ⟨S16x18432, .f32⟩
  | 51 => ⟨S16x18432, .i1⟩
  | 52 => ⟨S16x18432, .i1⟩
  | 53 => ⟨S_, .i32⟩
  | 54 => ⟨S_, .i32⟩
  | 55 => ⟨S_, .f32⟩
  | 56 => ⟨S16x18432, .f32⟩
  | 57 => ⟨S16x18432, .f32⟩
  | 58 => ⟨S_, .f32⟩
  | 59 => ⟨S16x18432, .f32⟩
  | 60 => ⟨S16x18432, .f32⟩
  | 61 => ⟨S16x18432, .i32⟩
  | 62 => ⟨S_, .i32⟩
  | 63 => ⟨S_, .i32⟩
  | 64 => ⟨S_, .f32⟩
  | 65 => ⟨S16x18432, .f32⟩
  | 66 => ⟨S16x18432, .f32⟩
  | 67 => ⟨S_, .f32⟩
  | 68 => ⟨S16x18432, .f32⟩
  | 69 => ⟨S16x18432, .f32⟩
  | 70 => ⟨S16x18432, .i32⟩
  | 71 => ⟨S16, .i32⟩
  | 72 => ⟨S16x1, .i32⟩
  | 73 => ⟨S_, .i32⟩
  | 74 => ⟨S16x1, .i32⟩
  | 75 => ⟨S16x1, .i1⟩
  | 76 => ⟨S_, .i32⟩
  | 77 => ⟨S16x1, .i32⟩
  | 78 => ⟨S16x1, .i32⟩
  | 79 => ⟨S16x1, .i32⟩
  | 80 => ⟨S_, .i32⟩
  | 81 => ⟨S16x18432, .i32⟩
  | 82 => ⟨S16x18432, .i1⟩
  | 83 => ⟨S_, .i32⟩
  | 84 => ⟨S16x18432, .i32⟩
  | 85 => ⟨S16x18432, .i32⟩
  | 86 => ⟨S16x18432, .i32⟩
  | 87 => ⟨S_, .i32⟩
  | 88 => ⟨S16x18432, .i32⟩
  | 89 => ⟨S16x18432, .i1⟩
  | 90 => ⟨S_, .i32⟩
  | 91 => ⟨S16x18432, .i32⟩
  | 92 => ⟨S16x18432, .i32⟩
  | 93 => ⟨S16x18432, .i32⟩
  | 94 => ⟨S16x18432, .i32⟩
  | 95 => ⟨S16x18432x1, .i32⟩
  | 96 => ⟨S16x18432x1, .i32⟩
  | 97 => ⟨S16x18432x1, .i32⟩
  | 98 => ⟨S16x18432x3, .i32⟩
  | 99 => ⟨S16x18432x64, .f32⟩
  | 100 => ⟨S16x18432x1, .i1⟩
  | 101 => ⟨S16x18432x1, .f32⟩
  | 102 => ⟨S16x18432x64, .f32⟩
  | 103 => ⟨S16x18432x64, .f32⟩
  | 104 => ⟨S_, .f32⟩
  | 105 => ⟨S16x18432, .f32⟩
  | 106 => ⟨S16x18432, .f32⟩
  | 107 => ⟨S16x18432, .f32⟩
  | 108 => ⟨S16x18432x1, .f32⟩
  | 109 => ⟨S16x18432x64, .f32⟩
  | 110 => ⟨S16x18432x64, .f32⟩
  | 111 => ⟨S16x18432x64, .f32⟩
  | 112 => ⟨S_, .f32⟩
  | 113 => ⟨S16x18432, .f32⟩
  | 114 => ⟨S16x18432, .f32⟩
  | 115 => ⟨S_, .f32⟩
  | 116 => ⟨S16x18432, .f32⟩
  | 117 => ⟨S16x18432, .i1⟩
  | 118 => ⟨S_, .f32⟩
  | 119 => ⟨S16x18432, .f32⟩
  | 120 => ⟨S16x18432, .i1⟩
  | 121 => ⟨S16x18432, .i1⟩
  | 122 => ⟨S_, .f32⟩
  | 123 => ⟨S16x18432, .f32⟩
  | 124 => ⟨S16x18432, .i1⟩
  | 125 => ⟨S16x18432, .i1⟩
  | 126 => ⟨S_, .f32⟩
  | 127 => ⟨S16x18432, .f32⟩
  | _ => ⟨S16x64x40x100, .f32⟩

abbrev hbmTy0_5 (i : Nat) : BufTy := match i % 128 with
  | 0 => ⟨S16x18432, .i1⟩
  | 1 => ⟨S16x18432, .i1⟩
  | 2 => ⟨S_, .i32⟩
  | 3 => ⟨S_, .i32⟩
  | 4 => ⟨S_, .f32⟩
  | 5 => ⟨S16x18432, .f32⟩
  | 6 => ⟨S16x18432, .f32⟩
  | 7 => ⟨S_, .f32⟩
  | 8 => ⟨S16x18432, .f32⟩
  | 9 => ⟨S16x18432, .f32⟩
  | 10 => ⟨S16x18432, .i32⟩
  | 11 => ⟨S_, .i32⟩
  | 12 => ⟨S_, .i32⟩
  | 13 => ⟨S_, .f32⟩
  | 14 => ⟨S16x18432, .f32⟩
  | 15 => ⟨S16x18432, .f32⟩
  | 16 => ⟨S_, .f32⟩
  | 17 => ⟨S16x18432, .f32⟩
  | 18 => ⟨S16x18432, .f32⟩
  | 19 => ⟨S16x18432, .i32⟩
  | 20 => ⟨S16, .i32⟩
  | 21 => ⟨S16x1, .i32⟩
  | 22 => ⟨S_, .i32⟩
  | 23 => ⟨S16x1, .i32⟩
  | 24 => ⟨S16x1, .i1⟩
  | 25 => ⟨S_, .i32⟩
  | 26 => ⟨S16x1, .i32⟩
  | 27 => ⟨S16x1, .i32⟩
  | 28 => ⟨S16x1, .i32⟩
  | 29 => ⟨S_, .i32⟩
  | 30 => ⟨S16x18432, .i32⟩
  | 31 => ⟨S16x18432, .i1⟩
  | 32 => ⟨S_, .i32⟩
  | 33 => ⟨S16x18432, .i32⟩
  | 34 => ⟨S16x18432, .i32⟩
  | 35 => ⟨S16x18432, .i32⟩
  | 36 => ⟨S_, .i32⟩
  | 37 => ⟨S16x18432, .i32⟩
  | 38 => ⟨S16x18432, .i1⟩
  | 39 => ⟨S_, .i32⟩
  | 40 => ⟨S16x18432, .i32⟩
  | 41 => ⟨S16x18432, .i32⟩
  | 42 => ⟨S16x18432, .i32⟩
  | 43 => ⟨S16x18432, .i32⟩
  | 44 => ⟨S16x18432x1, .i32⟩
  | 45 => ⟨S16x18432x1, .i32⟩
  | 46 => ⟨S16x18432x1, .i32⟩
  | 47 => ⟨S16x18432x3, .i32⟩
  | 48 => ⟨S16x18432x64, .f32⟩
  | 49 => ⟨S16x18432x1, .i1⟩
  | 50 => ⟨S16x18432x1, .f32⟩
  | 51 => ⟨S16x18432x64, .f32⟩
  | 52 => ⟨S16x18432x64, .f32⟩
  | 53 => ⟨S_, .f32⟩
  | 54 => ⟨S16x18432, .f32⟩
  | 55 => ⟨S16x18432, .f32⟩
  | 56 => ⟨S16x18432, .f32⟩
  | 57 => ⟨S16x18432x1, .f32⟩
  | 58 => ⟨S16x18432x64, .f32⟩
  | 59 => ⟨S16x18432x64, .f32⟩
  | 60 => ⟨S16x18432x64, .f32⟩
  | 61 => ⟨S_, .f32⟩
  | 62 => ⟨S16x18432, .f32⟩
  | 63 => ⟨S16x18432, .f32⟩
  | 64 => ⟨S_, .f32⟩
  | 65 => ⟨S16x18432, .f32⟩
  | 66 => ⟨S16x18432, .f32⟩
  | 67 => ⟨S_, .f32⟩
  | 68 => ⟨S16x18432, .f32⟩
  | 69 => ⟨S16x18432, .i1⟩
  | 70 => ⟨S_, .f32⟩
  | 71 => ⟨S16x18432, .f32⟩
  | 72 => ⟨S16x18432, .i1⟩
  | 73 => ⟨S16x18432, .i1⟩
  | 74 => ⟨S_, .f32⟩
  | 75 => ⟨S16x18432, .f32⟩
  | 76 => ⟨S16x18432, .i1⟩
  | 77 => ⟨S16x18432, .i1⟩
  | 78 => ⟨S_, .f32⟩
  | 79 => ⟨S16x18432, .f32⟩
  | 80 => ⟨S16x18432, .i1⟩
  | 81 => ⟨S16x18432, .i1⟩
  | 82 => ⟨S_, .i32⟩
  | 83 => ⟨S_, .i32⟩
  | 84 => ⟨S_, .f32⟩
  | 85 => ⟨S16x18432, .f32⟩
  | 86 => ⟨S16x18432, .f32⟩
  | 87 => ⟨S_, .f32⟩
  | 88 => ⟨S16x18432, .f32⟩
  | 89 => ⟨S16x18432, .f32⟩
  | 90 => ⟨S16x18432, .i32⟩
  | 91 => ⟨S_, .i32⟩
  | 92 => ⟨S_, .i32⟩
  | 93 => ⟨S_, .f32⟩
  | 94 => ⟨S16x18432, .f32⟩
  | 95 => ⟨S16x18432, .f32⟩
  | 96 => ⟨S_, .f32⟩
  | 97 => ⟨S16x18432, .f32⟩
  | 98 => ⟨S16x18432, .f32⟩
  | 99 => ⟨S16x18432, .i32⟩
  | 100 => ⟨S16, .i32⟩
  | 101 => ⟨S16x1, .i32⟩
  | 102 => ⟨S_, .i32⟩
  | 103 => ⟨S16x1, .i32⟩
  | 104 => ⟨S16x1, .i1⟩
  | 105 => ⟨S_, .i32⟩
  | 106 => ⟨S16x1, .i32⟩
  | 107 => ⟨S16x1, .i32⟩
  | 108 => ⟨S16x1, .i32⟩
  | 109 => ⟨S_, .i32⟩
  | 110 => ⟨S16x18432, .i32⟩
  | 111 => ⟨S16x18432, .i1⟩
  | 112 => ⟨S_, .i32⟩
  | 113 => ⟨S16x18432, .i32⟩
  | 114 => ⟨S16x18432, .i32⟩
  | 115 => ⟨S16x18432, .i32⟩
  | 116 => ⟨S_, .i32⟩
  | 117 => ⟨S16x18432, .i32⟩
  | 118 => ⟨S16x18432, .i1⟩
  | 119 => ⟨S_, .i32⟩
  | 120 => ⟨S16x18432, .i32⟩
  | 121 => ⟨S16x18432, .i32⟩
  | 122 => ⟨S16x18432, .i32⟩
  | 123 => ⟨S16x18432, .i32⟩
  | 124 => ⟨S16x18432x1, .i32⟩
  | 125 => ⟨S16x18432x1, .i32⟩
  | 126 => ⟨S16x18432x1, .i32⟩
  | 127 => ⟨S16x18432x3, .i32⟩
  | _ => ⟨S16x64x40x100, .f32⟩

abbrev hbmTy0_6 (i : Nat) : BufTy := match i % 128 with
  | 0 => ⟨S16x18432x64, .f32⟩
  | 1 => ⟨S16x18432x1, .i1⟩
  | 2 => ⟨S16x18432x1, .f32⟩
  | 3 => ⟨S16x18432x64, .f32⟩
  | 4 => ⟨S16x18432x64, .f32⟩
  | 5 => ⟨S16x18432, .f32⟩
  | 6 => ⟨S16x18432x1, .f32⟩
  | 7 => ⟨S16x18432x64, .f32⟩
  | 8 => ⟨S16x18432x64, .f32⟩
  | 9 => ⟨S16x18432x64, .f32⟩
  | 10 => ⟨S16x512x36x64, .f32⟩
  | 11 => ⟨S36x1, .f32⟩
  | 12 => ⟨S36, .f32⟩
  | 13 => ⟨S1x1x36x1, .f32⟩
  | 14 => ⟨S16x512x36x64, .f32⟩
  | 15 => ⟨S16x512x36x64, .f32⟩
  | 16 => ⟨S16x512x36x64, .f32⟩
  | 17 => ⟨S_, .f32⟩
  | 18 => ⟨S16x18432, .f32⟩
  | 19 => ⟨S16x18432, .f32⟩
  | 20 => ⟨S_, .f32⟩
  | 21 => ⟨S16x18432, .f32⟩
  | 22 => ⟨S16x18432, .f32⟩
  | 23 => ⟨S_, .f32⟩
  | 24 => ⟨S16x18432, .f32⟩
  | 25 => ⟨S16x18432, .f32⟩
  | 26 => ⟨S_, .f32⟩
  | 27 => ⟨S16x18432, .f32⟩
  | 28 => ⟨S16x18432, .f32⟩
  | 29 => ⟨S_, .f32⟩
  | 30 => ⟨S16x18432, .f32⟩
  | 31 => ⟨S16x18432, .f32⟩
  | 32 => ⟨S_, .f32⟩
  | 33 => ⟨S16x18432, .f32⟩
  | 34 => ⟨S16x18432, .f32⟩
  | 35 => ⟨S16x18432, .f32⟩
  | 36 => ⟨S16x18432, .f32⟩
  | 37 => ⟨S16x18432, .f32⟩
  | 38 => ⟨S16x18432, .f32⟩
  | 39 => ⟨S_, .f32⟩
  | 40 => ⟨S16x18432, .f32⟩
  | 41 => ⟨S16x18432, .i1⟩
  | 42 => ⟨S_, .f32⟩
  | 43 => ⟨S16x18432, .f32⟩
  | 44 => ⟨S16x18432, .i1⟩
  | 45 => ⟨S16x18432, .i1⟩
  | 46 => ⟨S_, .f32⟩
  | 47 => ⟨S16x18432, .f32⟩
  | 48 => ⟨S16x18432, .i1⟩
  | 49 => ⟨S16x18432, .i1⟩
  | 50 => ⟨S_, .f32⟩
  | 51 => ⟨S16x18432, .f32⟩
  | 52 => ⟨S16x18432, .i1⟩
  | 53 => ⟨S16x18432, .i1⟩
  | 54 => ⟨S_, .i32⟩
  | 55 => ⟨S_, .i32⟩
  | 56 => ⟨S_, .f32⟩
  | 57 => ⟨S16x18432, .f32⟩
  | 58 => ⟨S16x18432, .f32⟩
  | 59 => ⟨S_, .f32⟩
  | 60 => ⟨S16x18432, .f32⟩
  | 61 => ⟨S16x18432, .f32⟩
  | 62 => ⟨S16x18432, .i32⟩
  | 63 => ⟨S_, .i32⟩
  | 64 => ⟨S_, .i32⟩
  | 65 => ⟨S_, .f32⟩
  | 66 => ⟨S16x18432, .f32⟩
  | 67 => ⟨S16x18432, .f32⟩
  | 68 => ⟨S_, .f32⟩
  | 69 => ⟨S16x18432, .f32⟩
  | 70 => ⟨S16x18432, .f32⟩
  | 71 => ⟨S16x18432, .i32⟩
  | 72 => ⟨S16, .i32⟩
  | 73 => ⟨S16x1, .i32⟩
  | 74 => ⟨S_, .i32⟩
  | 75 => ⟨S16x1, .i32⟩
  | 76 => ⟨S16x1, .i1⟩
  | 77 => ⟨S_, .i32⟩
  | 78 => ⟨S16x1, .i32⟩
  | 79 => ⟨S16x1, .i32⟩
  | 80 => ⟨S16x1, .i32⟩
  | 81 => ⟨S_, .i32⟩
  | 82 => ⟨S16x18432, .i32⟩
  | 83 => ⟨S16x18432, .i1⟩
  | 84 => ⟨S_, .i32⟩
  | 85 => ⟨S16x18432, .i32⟩
  | 86 => ⟨S16x18432, .i32⟩
  | 87 => ⟨S16x18432, .i32⟩
  | 88 => ⟨S_, .i32⟩
  | 89 => ⟨S16x18432, .i32⟩
  | 90 => ⟨S16x18432, .i1⟩
  | 91 => ⟨S_, .i32⟩
  | 92 => ⟨S16x18432, .i32⟩
  | 93 => ⟨S16x18432, .i32⟩
  | 94 => ⟨S16x18432, .i32⟩
  | 95 => ⟨S16x18432, .i32⟩
  | 96 => ⟨S16x18432x1, .i32⟩
  | 97 => ⟨S16x18432x1, .i32⟩
  | 98 => ⟨S16x18432x1, .i32⟩
  | 99 => ⟨S16x18432x3, .i32⟩
  | 100 => ⟨S16x18432x64, .f32⟩
  | 101 => ⟨S16x18432x1, .i1⟩
  | 102 => ⟨S16x18432x1, .f32⟩
  | 103 => ⟨S16x18432x64, .f32⟩
  | 104 => ⟨S16x18432x64, .f32⟩
  | 105 => ⟨S_, .f32⟩
  | 106 => ⟨S16x18432, .f32⟩
  | 107 => ⟨S16x18432, .f32⟩
  | 108 => ⟨S_, .f32⟩
  | 109 => ⟨S16x18432, .f32⟩
  | 110 => ⟨S16x18432, .f32⟩
  | 111 => ⟨S16x18432, .f32⟩
  | 112 => ⟨S16x18432x1, .f32⟩
  | 113 => ⟨S16x18432x64, .f32⟩
  | 114 => ⟨S16x18432x64, .f32⟩
  | 115 => ⟨S_, .f32⟩
  | 116 => ⟨S16x18432, .f32⟩
  | 117 => ⟨S16x18432, .f32⟩
  | 118 => ⟨S_, .f32⟩
  | 119 => ⟨S16x18432, .f32⟩
  | 120 => ⟨S16x18432, .i1⟩
  | 121 => ⟨S_, .f32⟩
  | 122 => ⟨S16x18432, .f32⟩
  | 123 => ⟨S16x18432, .i1⟩
  | 124 => ⟨S16x18432, .i1⟩
  | 125 => ⟨S_, .f32⟩
  | 126 => ⟨S16x18432, .f32⟩
  | 127 => ⟨S16x18432, .i1⟩
  | _ => ⟨S16x64x40x100, .f32⟩

abbrev hbmTy0_7 (i : Nat) : BufTy := match i % 128 with
  | 0 => ⟨S16x18432, .i1⟩
  | 1 => ⟨S_, .f32⟩
  | 2 => ⟨S16x18432, .f32⟩
  | 3 => ⟨S16x18432, .i1⟩
  | 4 => ⟨S16x18432, .i1⟩
  | 5 => ⟨S_, .i32⟩
  | 6 => ⟨S_, .i32⟩
  | 7 => ⟨S_, .f32⟩
  | 8 => ⟨S16x18432, .f32⟩
  | 9 => ⟨S16x18432, .f32⟩
  | 10 => ⟨S_, .f32⟩
  | 11 => ⟨S16x18432, .f32⟩
  | 12 => ⟨S16x18432, .f32⟩
  | 13 => ⟨S16x18432, .i32⟩
  | 14 => ⟨S_, .i32⟩
  | 15 => ⟨S_, .i32⟩
  | 16 => ⟨S_, .f32⟩
  | 17 => ⟨S16x18432, .f32⟩
  | 18 => ⟨S16x18432, .f32⟩
  | 19 => ⟨S_, .f32⟩
  | 20 => ⟨S16x18432, .f32⟩
  | 21 => ⟨S16x18432, .f32⟩
  | 22 => ⟨S16x18432, .i32⟩
  | 23 => ⟨S16, .i32⟩
  | 24 => ⟨S16x1, .i32⟩
  | 25 => ⟨S_, .i32⟩
  | 26 => ⟨S16x1, .i32⟩
  | 27 => ⟨S16x1, .i1⟩
  | 28 => ⟨S_, .i32⟩
  | 29 => ⟨S16x1, .i32⟩
  | 30 => ⟨S16x1, .i32⟩
  | 31 => ⟨S16x1, .i32⟩
  | 32 => ⟨S_, .i32⟩
  | 33 => ⟨S16x18432, .i32⟩
  | 34 => ⟨S16x18432, .i1⟩
  | 35 => ⟨S_, .i32⟩
  | 36 => ⟨S16x18432, .i32⟩
  | 37 => ⟨S16x18432, .i32⟩
  | 38 => ⟨S16x18432, .i32⟩
  | 39 => ⟨S_, .i32⟩
  | 40 => ⟨S16x18432, .i32⟩
  | 41 => ⟨S16x18432, .i1⟩
  | 42 => ⟨S_, .i32⟩
  | 43 => ⟨S16x18432, .i32⟩
  | 44 => ⟨S16x18432, .i32⟩
  | 45 => ⟨S16x18432, .i32⟩
  | 46 => ⟨S16x18432, .i32⟩
  | 47 => ⟨S16x18432x1, .i32⟩
  | 48 => ⟨S16x18432x1, .i32⟩
  | 49 => ⟨S16x18432x1, .i32⟩
  | 50 => ⟨S16x18432x3, .i32⟩
  | 51 => ⟨S16x18432x64, .f32⟩
  | 52 => ⟨S16x18432x1, .i1⟩
  | 53 => ⟨S16x18432x1, .f32⟩
  | 54 => ⟨S16x18432x64, .f32⟩
  | 55 => ⟨S16x18432x64, .f32⟩
  | 56 => ⟨S_, .f32⟩
  | 57 => ⟨S16x18432, .f32⟩
  | 58 => ⟨S16x18432, .f32⟩
  | 59 => ⟨S16x18432, .f32⟩
  | 60 => ⟨S16x18432x1, .f32⟩
  | 61 => ⟨S16x18432x64, .f32⟩
  | 62 => ⟨S16x18432x64, .f32⟩
  | 63 => ⟨S16x18432x64, .f32⟩
  | 64 => ⟨S_, .f32⟩
  | 65 => ⟨S16x18432, .f32⟩
  | 66 => ⟨S16x18432, .f32⟩
  | 67 => ⟨S_, .f32⟩
  | 68 => ⟨S16x18432, .f32⟩
  | 69 => ⟨S16x18432, .i1⟩
  | 70 => ⟨S_, .f32⟩
  | 71 => ⟨S16x18432, .f32⟩
  | 72 => ⟨S16x18432, .i1⟩
  | 73 => ⟨S16x18432, .i1⟩
  | 74 => ⟨S_, .f32⟩
  | 75 => ⟨S16x18432, .f32⟩
  | 76 => ⟨S16x18432, .i1⟩
  | 77 => ⟨S16x18432, .i1⟩
  | 78 => ⟨S_, .f32⟩
  | 79 => ⟨S16x18432, .f32⟩
  | 80 => ⟨S16x18432, .i1⟩
  | 81 => ⟨S16x18432, .i1⟩
  | 82 => ⟨S_, .i32⟩
  | 83 => ⟨S_, .i32⟩
  | 84 => ⟨S_, .f32⟩
  | 85 => ⟨S16x18432, .f32⟩
  | 86 => ⟨S16x18432, .f32⟩
  | 87 => ⟨S_, .f32⟩
  | 88 => ⟨S16x18432, .f32⟩
  | 89 => ⟨S16x18432, .f32⟩
  | 90 => ⟨S16x18432, .i32⟩
  | 91 => ⟨S_, .i32⟩
  | 92 => ⟨S_, .i32⟩
  | 93 => ⟨S_, .f32⟩
  | 94 => ⟨S16x18432, .f32⟩
  | 95 => ⟨S16x18432, .f32⟩
  | 96 => ⟨S_, .f32⟩
  | 97 => ⟨S16x18432, .f32⟩
  | 98 => ⟨S16x18432, .f32⟩
  | 99 => ⟨S16x18432, .i32⟩
  | 100 => ⟨S16, .i32⟩
  | 101 => ⟨S16x1, .i32⟩
  | 102 => ⟨S_, .i32⟩
  | 103 => ⟨S16x1, .i32⟩
  | 104 => ⟨S16x1, .i1⟩
  | 105 => ⟨S_, .i32⟩
  | 106 => ⟨S16x1, .i32⟩
  | 107 => ⟨S16x1, .i32⟩
  | 108 => ⟨S16x1, .i32⟩
  | 109 => ⟨S_, .i32⟩
  | 110 => ⟨S16x18432, .i32⟩
  | 111 => ⟨S16x18432, .i1⟩
  | 112 => ⟨S_, .i32⟩
  | 113 => ⟨S16x18432, .i32⟩
  | 114 => ⟨S16x18432, .i32⟩
  | 115 => ⟨S16x18432, .i32⟩
  | 116 => ⟨S_, .i32⟩
  | 117 => ⟨S16x18432, .i32⟩
  | 118 => ⟨S16x18432, .i1⟩
  | 119 => ⟨S_, .i32⟩
  | 120 => ⟨S16x18432, .i32⟩
  | 121 => ⟨S16x18432, .i32⟩
  | 122 => ⟨S16x18432, .i32⟩
  | 123 => ⟨S16x18432, .i32⟩
  | 124 => ⟨S16x18432x1, .i32⟩
  | 125 => ⟨S16x18432x1, .i32⟩
  | 126 => ⟨S16x18432x1, .i32⟩
  | 127 => ⟨S16x18432x3, .i32⟩
  | _ => ⟨S16x64x40x100, .f32⟩

abbrev hbmTy0_8 (i : Nat) : BufTy := match i % 128 with
  | 0 => ⟨S16x18432x64, .f32⟩
  | 1 => ⟨S16x18432x1, .i1⟩
  | 2 => ⟨S16x18432x1, .f32⟩
  | 3 => ⟨S16x18432x64, .f32⟩
  | 4 => ⟨S16x18432x64, .f32⟩
  | 5 => ⟨S_, .f32⟩
  | 6 => ⟨S16x18432, .f32⟩
  | 7 => ⟨S16x18432, .f32⟩
  | 8 => ⟨S16x18432, .f32⟩
  | 9 => ⟨S16x18432x1, .f32⟩
  | 10 => ⟨S16x18432x64, .f32⟩
  | 11 => ⟨S16x18432x64, .f32⟩
  | 12 => ⟨S16x18432x64, .f32⟩
  | 13 => ⟨S_, .f32⟩
  | 14 => ⟨S16x18432, .f32⟩
  | 15 => ⟨S16x18432, .f32⟩
  | 16 => ⟨S_, .f32⟩
  | 17 => ⟨S16x18432, .f32⟩
  | 18 => ⟨S16x18432, .f32⟩
  | 19 => ⟨S_, .f32⟩
  | 20 => ⟨S16x18432, .f32⟩
  | 21 => ⟨S16x18432, .i1⟩
  | 22 => ⟨S_, .f32⟩
  | 23 => ⟨S16x18432, .f32⟩
  | 24 => ⟨S16x18432, .i1⟩
  | 25 => ⟨S16x18432, .i1⟩
  | 26 => ⟨S_, .f32⟩
  | 27 => ⟨S16x18432, .f32⟩
  | 28 => ⟨S16x18432, .i1⟩
  | 29 => ⟨S16x18432, .i1⟩
  | 30 => ⟨S_, .f32⟩
  | 31 => ⟨S16x18432, .f32⟩
  | 32 => ⟨S16x18432, .i1⟩
  | 33 => ⟨S16x18432, .i1⟩
  | 34 => ⟨S_, .i32⟩
  | 35 => ⟨S_, .i32⟩
  | 36 => ⟨S_, .f32⟩
  | 37 => ⟨S16x18432, .f32⟩
  | 38 => ⟨S16x18432, .f32⟩
  | 39 => ⟨S_, .f32⟩
  | 40 => ⟨S16x18432, .f32⟩
  | 41 => ⟨S16x18432, .f32⟩
  | 42 => ⟨S16x18432, .i32⟩
  | 43 => ⟨S_, .i32⟩
  | 44 => ⟨S_, .i32⟩
  | 45 => ⟨S_, .f32⟩
  | 46 => ⟨S16x18432, .f32⟩
  | 47 => ⟨S16x18432, .f32⟩
  | 48 => ⟨S_, .f32⟩
  | 49 => ⟨S16x18432, .f32⟩
  | 50 => ⟨S16x18432, .f32⟩
  | 51 => ⟨S16x18432, .i32⟩
  | 52 => ⟨S16, .i32⟩
  | 53 => ⟨S16x1, .i32⟩
  | 54 => ⟨S_, .i32⟩
  | 55 => ⟨S16x1, .i32⟩
  | 56 => ⟨S16x1, .i1⟩
  | 57 => ⟨S_, .i32⟩
  | 58 => ⟨S16x1, .i32⟩
  | 59 => ⟨S16x1, .i32⟩
  | 60 => ⟨S16x1, .i32⟩
  | 61 => ⟨S_, .i32⟩
  | 62 => ⟨S16x18432, .i32⟩
  | 63 => ⟨S16x18432, .i1⟩
  | 64 => ⟨S_, .i32⟩
  | 65 => ⟨S16x18432, .i32⟩
  | 66 => ⟨S16x18432, .i32⟩
  | 67 => ⟨S16x18432, .i32⟩
  | 68 => ⟨S_, .i32⟩
  | 69 => ⟨S16x18432, .i32⟩
  | 70 => ⟨S16x18432, .i1⟩
  | 71 => ⟨S_, .i32⟩
  | 72 => ⟨S16x18432, .i32⟩
  | 73 => ⟨S16x18432, .i32⟩
  | 74 => ⟨S16x18432, .i32⟩
  | 75 => ⟨S16x18432, .i32⟩
  | 76 => ⟨S16x18432x1, .i32⟩
  | 77 => ⟨S16x18432x1, .i32⟩
  | 78 => ⟨S16x18432x1, .i32⟩
  | 79 => ⟨S16x18432x3, .i32⟩
  | 80 => ⟨S16x18432x64, .f32⟩
  | 81 => ⟨S16x18432x1, .i1⟩
  | 82 => ⟨S16x18432x1, .f32⟩
  | 83 => ⟨S16x18432x64, .f32⟩
  | 84 => ⟨S16x18432x64, .f32⟩
  | 85 => ⟨S16x18432, .f32⟩
  | 86 => ⟨S16x18432x1, .f32⟩
  | 87 => ⟨S16x18432x64, .f32⟩
  | 88 => ⟨S16x18432x64, .f32⟩
  | 89 => ⟨S16x18432x64, .f32⟩
  | 90 => ⟨S16x512x36x64, .f32⟩
  | 91 => ⟨S36x1, .f32⟩
  | 92 => ⟨S36, .f32⟩
  | 93 => ⟨S1x1x36x1, .f32⟩
  | 94 => ⟨S16x512x36x64, .f32⟩
  | 95 => ⟨S16x512x36x64, .f32⟩
  | 96 => ⟨S16x512x36x64, .f32⟩
  | 97 => ⟨S8192x6x6x64, .f32⟩
  | 98 => ⟨S6x32x6x64, .f32⟩
  | 99 => ⟨S6x32x8192, .f32⟩
  | 100 => ⟨S8192x6x32, .f32⟩
  | 101 => ⟨S6x32, .f32⟩
  | 102 => ⟨S1x6x32, .f32⟩
  | 103 => ⟨S8192x6x32, .f32⟩
  | 104 => ⟨S8192x6x32, .f32⟩
  | 105 => ⟨S16x512x192, .f32⟩
  | 106 => ⟨S192x32, .f32⟩
  | 107 => ⟨S16x512x32, .f32⟩
  | 108 => ⟨S192x192, .f32⟩
  | 109 => ⟨S16x512x192, .f32⟩
  | 110 => ⟨S16x512x6x32, .f32⟩
  | 111 => ⟨S192x192, .f32⟩
  | 112 => ⟨S16x512x192, .f32⟩
  | 113 => ⟨S16x512x6x32, .f32⟩
  | 114 => ⟨S16x512x6x512, .f32⟩
  | 115 => ⟨S16x6x512x512, .f32⟩
  | 116 => ⟨S_, .f32⟩
  | 117 => ⟨S16x6x512x512, .f32⟩
  | 118 => ⟨S16x6x512x512, .f32⟩
  | 119 => ⟨S_, .f32⟩
  | 120 => ⟨S16x6x512, .f32⟩
  | 121 => ⟨S_, .f32⟩
  | 122 => ⟨S16x6x512, .f32⟩
  | 123 => ⟨S16x6x512, .f32⟩
  | 124 => ⟨S16x6x512x1, .f32⟩
  | 125 => ⟨S16x6x512x512, .f32⟩
  | 126 => ⟨S16x6x512x512, .f32⟩
  | 127 => ⟨S16x6x512x512, .f32⟩
  | _ => ⟨S16x64x40x100, .f32⟩

abbrev hbmTy0_9 (i : Nat) : BufTy := match i % 128 with
  | 0 => ⟨S_, .f32⟩
  | 1 => ⟨S16x6x512, .f32⟩
  | 2 => ⟨S16x6x512x1, .f32⟩
  | 3 => ⟨S16x6x512x512, .f32⟩
  | 4 => ⟨S16x6x512x512, .f32⟩
  | 5 => ⟨S16x6x32x512, .f32⟩
  | 6 => ⟨S16x512x6x32, .f32⟩
  | 7 => ⟨S16x512x192, .f32⟩
  | 8 => ⟨S192x384, .f32⟩
  | 9 => ⟨S16x512x384, .f32⟩
  | 10 => ⟨S1x1x384, .f32⟩
  | 11 => ⟨S16x512x384, .f32⟩
  | 12 => ⟨S16x512x384, .f32⟩
  | 13 => ⟨S_, .f32⟩
  | 14 => ⟨S16x512x384, .f32⟩
  | 15 => ⟨S16x512x384, .f32⟩
  | 16 => ⟨S384x192, .f32⟩
  | 17 => ⟨S16x512x192, .f32⟩
  | 18 => ⟨S1x1x192, .f32⟩
  | 19 => ⟨S16x512x192, .f32⟩
  | 20 => ⟨S16x512x192, .f32⟩
  | 21 => ⟨S16x512x192, .f32⟩
  | 22 => ⟨S8192x192, .f32⟩
  | 23 => ⟨S192x192, .f32⟩
  | 24 => ⟨S8192x192, .f32⟩
  | 25 => ⟨S1x192, .f32⟩
  | 26 => ⟨S8192x192, .f32⟩
  | 27 => ⟨S8192x192, .f32⟩
  | 28 => ⟨S_, .f32⟩
  | 29 => ⟨S8192x192, .f32⟩
  | 30 => ⟨S8192x192, .f32⟩
  | 31 => ⟨S192x2, .f32⟩
  | 32 => ⟨S8192x2, .f32⟩
  | 33 => ⟨S1x2, .f32⟩
  | 34 => ⟨S8192x2, .f32⟩
  | 35 => ⟨S8192x2, .f32⟩
  | 36 => ⟨S16x512x2, .f32⟩
  | 37 => ⟨S192x192, .f32⟩
  | 38 => ⟨S8192x192, .f32⟩
  | 39 => ⟨S1x192, .f32⟩
  | 40 => ⟨S8192x192, .f32⟩
  | 41 => ⟨S8192x192, .f32⟩
  | 42 => ⟨S_, .f32⟩
  | 43 => ⟨S8192x192, .f32⟩
  | 44 => ⟨S8192x192, .f32⟩
  | 45 => ⟨S192x74, .f32⟩
  | 46 => ⟨S8192x74, .f32⟩
  | 47 => ⟨S1x74, .f32⟩
  | 48 => ⟨S8192x74, .f32⟩
  | 49 => ⟨S8192x74, .f32⟩
  | 50 => ⟨S16x512x74, .f32⟩
  | 51 => ⟨S16x512x74, .f32⟩
  | 52 => ⟨S16x512x74, .f32⟩
  | 53 => ⟨S16x512x76, .f32⟩
  | _ => ⟨S16x64x40x100, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S16x64x40x100, .f32⟩

abbrev bufTy : (tb : Table) → Fin (tcTables nBuf tb) → BufTy
  | .hbm, ⟨i, _⟩ => hbmTy i
  | _, _ => ⟨S16x64x40x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_cst : Ref sig .tc := ⟨.hbm, 27, rfl⟩
abbrev main_call0_v3 : Ref sig .tc := ⟨.hbm, 28, rfl⟩
abbrev main_call0_v4 : Ref sig .tc := ⟨.hbm, 29, rfl⟩
abbrev main_call0_cst_0 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_v15 : Ref sig .tc := ⟨.hbm, 42, rfl⟩
abbrev main_call0_v16 : Ref sig .tc := ⟨.hbm, 43, rfl⟩
abbrev main_v0 : Ref sig .tc := ⟨.hbm, 44, rfl⟩
abbrev main_cst_1 : Ref sig .tc := ⟨.hbm, 45, rfl⟩
abbrev main_v1 : Ref sig .tc := ⟨.hbm, 46, rfl⟩
abbrev main_v2 : Ref sig .tc := ⟨.hbm, 47, rfl⟩
abbrev main_v3 : Ref sig .tc := ⟨.hbm, 48, rfl⟩
abbrev main_v4 : Ref sig .tc := ⟨.hbm, 49, rfl⟩
abbrev main_cst_2 : Ref sig .tc := ⟨.hbm, 50, rfl⟩
abbrev main_v5 : Ref sig .tc := ⟨.hbm, 51, rfl⟩
abbrev main_v6 : Ref sig .tc := ⟨.hbm, 52, rfl⟩
abbrev main_cst_3 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_c : Ref sig .tc := ⟨.hbm, 57, rfl⟩
abbrev main_v10 : Ref sig .tc := ⟨.hbm, 58, rfl⟩
abbrev main_v11 : Ref sig .tc := ⟨.hbm, 59, rfl⟩
abbrev main_c_4 : Ref sig .tc := ⟨.hbm, 60, rfl⟩
abbrev main_v12 : Ref sig .tc := ⟨.hbm, 61, rfl⟩
abbrev main_v13 : Ref sig .tc := ⟨.hbm, 62, rfl⟩
abbrev main_c_5 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_cst_6 : Ref sig .tc := ⟨.hbm, 70, rfl⟩
abbrev main_v20 : Ref sig .tc := ⟨.hbm, 71, rfl⟩
abbrev main_v21 : Ref sig .tc := ⟨.hbm, 72, rfl⟩
abbrev main_cst_7 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_cst_8 : Ref sig .tc := ⟨.hbm, 77, rfl⟩
abbrev main_v25 : Ref sig .tc := ⟨.hbm, 78, rfl⟩
abbrev main_v26 : Ref sig .tc := ⟨.hbm, 79, rfl⟩
abbrev main_cst_9 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_cst_10 : Ref sig .tc := ⟨.hbm, 94, rfl⟩
abbrev main_v40 : Ref sig .tc := ⟨.hbm, 95, rfl⟩
abbrev main_v41 : Ref sig .tc := ⟨.hbm, 96, rfl⟩
abbrev main_cst_11 : Ref sig .tc := ⟨.hbm, 97, rfl⟩
abbrev main_v42 : Ref sig .tc := ⟨.hbm, 98, rfl⟩
abbrev main_cst_12 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_cst_13 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_cst_14 : Ref sig .tc := ⟨.hbm, 111, rfl⟩
abbrev main_v53 : Ref sig .tc := ⟨.hbm, 112, rfl⟩
abbrev main_cst_15 : Ref sig .tc := ⟨.hbm, 113, rfl⟩
abbrev main_v54 : Ref sig .tc := ⟨.hbm, 114, rfl⟩
abbrev main_v55 : Ref sig .tc := ⟨.hbm, 115, rfl⟩
abbrev main_cst_16 : Ref sig .tc := ⟨.hbm, 116, rfl⟩
abbrev main_v56 : Ref sig .tc := ⟨.hbm, 117, rfl⟩
abbrev main_v57 : Ref sig .tc := ⟨.hbm, 118, rfl⟩
abbrev main_cst_17 : Ref sig .tc := ⟨.hbm, 119, rfl⟩
abbrev main_v58 : Ref sig .tc := ⟨.hbm, 120, rfl⟩
abbrev main_v59 : Ref sig .tc := ⟨.hbm, 121, rfl⟩
abbrev main_cst_18 : Ref sig .tc := ⟨.hbm, 122, rfl⟩
abbrev main_v60 : Ref sig .tc := ⟨.hbm, 123, rfl⟩
abbrev main_v61 : Ref sig .tc := ⟨.hbm, 124, rfl⟩
abbrev main_cst_19 : Ref sig .tc := ⟨.hbm, 125, rfl⟩
abbrev main_v62 : Ref sig .tc := ⟨.hbm, 126, rfl⟩
abbrev main_v63 : Ref sig .tc := ⟨.hbm, 127, rfl⟩
abbrev main_cst_20 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_cst_21 : Ref sig .tc := ⟨.hbm, 135, rfl⟩
abbrev main_v70 : Ref sig .tc := ⟨.hbm, 136, rfl⟩
abbrev main_v71 : Ref sig .tc := ⟨.hbm, 137, rfl⟩
abbrev main_cst_22 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_cst_23 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_cst_24 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_c_25 : Ref sig .tc := ⟨.hbm, 150, rfl⟩
abbrev main_c_26 : Ref sig .tc := ⟨.hbm, 151, rfl⟩
abbrev main_call2_v0 : Ref sig .tc := ⟨.hbm, 152, rfl⟩
abbrev main_call2_v1 : Ref sig .tc := ⟨.hbm, 153, rfl⟩
abbrev main_call2_v2 : Ref sig .tc := ⟨.hbm, 154, rfl⟩
abbrev main_call2_v3 : Ref sig .tc := ⟨.hbm, 155, rfl⟩
abbrev main_call2_v4 : Ref sig .tc := ⟨.hbm, 156, rfl⟩
abbrev main_v81 : Ref sig .tc := ⟨.hbm, 157, rfl⟩
abbrev main_v82 : Ref sig .tc := ⟨.hbm, 158, rfl⟩
abbrev main_c_27 : Ref sig .tc := ⟨.hbm, 159, rfl⟩
abbrev main_c_28 : Ref sig .tc := ⟨.hbm, 160, rfl⟩
abbrev main_call3_v0 : Ref sig .tc := ⟨.hbm, 161, rfl⟩
abbrev main_call3_v1 : Ref sig .tc := ⟨.hbm, 162, rfl⟩
abbrev main_call3_v2 : Ref sig .tc := ⟨.hbm, 163, rfl⟩
abbrev main_call3_v3 : Ref sig .tc := ⟨.hbm, 164, rfl⟩
abbrev main_call3_v4 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_c_29 : Ref sig .tc := ⟨.hbm, 170, rfl⟩
abbrev main_v87 : Ref sig .tc := ⟨.hbm, 171, rfl⟩
abbrev main_v88 : Ref sig .tc := ⟨.hbm, 172, rfl⟩
abbrev main_c_30 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_c_31 : Ref sig .tc := ⟨.hbm, 177, rfl⟩
abbrev main_v92 : Ref sig .tc := ⟨.hbm, 178, rfl⟩
abbrev main_v93 : Ref sig .tc := ⟨.hbm, 179, rfl⟩
abbrev main_c_32 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_c_33 : Ref sig .tc := ⟨.hbm, 184, rfl⟩
abbrev main_v97 : Ref sig .tc := ⟨.hbm, 185, rfl⟩
abbrev main_v98 : Ref sig .tc := ⟨.hbm, 186, rfl⟩
abbrev main_c_34 : Ref sig .tc := ⟨.hbm, 187, rfl⟩
abbrev main_v99 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_cst_35 : Ref sig .tc := ⟨.hbm, 201, rfl⟩
abbrev main_v112 : Ref sig .tc := ⟨.hbm, 202, rfl⟩
abbrev main_v113 : Ref sig .tc := ⟨.hbm, 203, rfl⟩
abbrev main_cst_36 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_cst_37 : Ref sig .tc := ⟨.hbm, 211, rfl⟩
abbrev main_v120 : Ref sig .tc := ⟨.hbm, 212, rfl⟩
abbrev main_v121 : Ref sig .tc := ⟨.hbm, 213, rfl⟩
abbrev main_cst_38 : Ref sig .tc := ⟨.hbm, 214, rfl⟩
abbrev main_v122 : Ref sig .tc := ⟨.hbm, 215, rfl⟩
abbrev main_v123 : Ref sig .tc := ⟨.hbm, 216, rfl⟩
abbrev main_cst_39 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩
abbrev main_cst_40 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_cst_41 : Ref sig .tc := ⟨.hbm, 225, rfl⟩
abbrev main_v130 : Ref sig .tc := ⟨.hbm, 226, rfl⟩
abbrev main_v131 : Ref sig .tc := ⟨.hbm, 227, rfl⟩
abbrev main_v132 : Ref sig .tc := ⟨.hbm, 228, rfl⟩
abbrev main_c_42 : Ref sig .tc := ⟨.hbm, 229, rfl⟩
abbrev main_c_43 : Ref sig .tc := ⟨.hbm, 230, rfl⟩
abbrev main_call4_v0 : Ref sig .tc := ⟨.hbm, 231, rfl⟩
abbrev main_call4_v1 : Ref sig .tc := ⟨.hbm, 232, rfl⟩
abbrev main_call4_v2 : Ref sig .tc := ⟨.hbm, 233, rfl⟩
abbrev main_call4_v3 : Ref sig .tc := ⟨.hbm, 234, rfl⟩
abbrev main_call4_v4 : Ref sig .tc := ⟨.hbm, 235, rfl⟩
abbrev main_v133 : Ref sig .tc := ⟨.hbm, 236, rfl⟩
abbrev main_v134 : Ref sig .tc := ⟨.hbm, 237, rfl⟩
abbrev main_c_44 : Ref sig .tc := ⟨.hbm, 238, rfl⟩
abbrev main_c_45 : Ref sig .tc := ⟨.hbm, 239, rfl⟩
abbrev main_call5_v0 : Ref sig .tc := ⟨.hbm, 240, rfl⟩
abbrev main_call5_v1 : Ref sig .tc := ⟨.hbm, 241, rfl⟩
abbrev main_call5_v2 : Ref sig .tc := ⟨.hbm, 242, rfl⟩
abbrev main_call5_v3 : Ref sig .tc := ⟨.hbm, 243, rfl⟩
abbrev main_call5_v4 : Ref sig .tc := ⟨.hbm, 244, rfl⟩
abbrev main_v135 : Ref sig .tc := ⟨.hbm, 245, rfl⟩
abbrev main_v136 : Ref sig .tc := ⟨.hbm, 246, rfl⟩
abbrev main_v137 : Ref sig .tc := ⟨.hbm, 247, rfl⟩
abbrev main_v138 : Ref sig .tc := ⟨.hbm, 248, rfl⟩
abbrev main_c_46 : Ref sig .tc := ⟨.hbm, 249, rfl⟩
abbrev main_v139 : Ref sig .tc := ⟨.hbm, 250, rfl⟩
abbrev main_v140 : Ref sig .tc := ⟨.hbm, 251, rfl⟩
abbrev main_c_47 : Ref sig .tc := ⟨.hbm, 252, rfl⟩
abbrev main_v141 : Ref sig .tc := ⟨.hbm, 253, rfl⟩
abbrev main_v142 : Ref sig .tc := ⟨.hbm, 254, rfl⟩
abbrev main_v143 : Ref sig .tc := ⟨.hbm, 255, rfl⟩
abbrev main_c_48 : Ref sig .tc := ⟨.hbm, 256, rfl⟩
abbrev main_v144 : Ref sig .tc := ⟨.hbm, 257, rfl⟩
abbrev main_v145 : Ref sig .tc := ⟨.hbm, 258, rfl⟩
abbrev main_c_49 : Ref sig .tc := ⟨.hbm, 259, rfl⟩
abbrev main_v146 : Ref sig .tc := ⟨.hbm, 260, rfl⟩
abbrev main_v147 : Ref sig .tc := ⟨.hbm, 261, rfl⟩
abbrev main_v148 : Ref sig .tc := ⟨.hbm, 262, rfl⟩
abbrev main_c_50 : Ref sig .tc := ⟨.hbm, 263, rfl⟩
abbrev main_v149 : Ref sig .tc := ⟨.hbm, 264, rfl⟩
abbrev main_v150 : Ref sig .tc := ⟨.hbm, 265, rfl⟩
abbrev main_c_51 : Ref sig .tc := ⟨.hbm, 266, rfl⟩
abbrev main_v151 : Ref sig .tc := ⟨.hbm, 267, rfl⟩
abbrev main_v152 : Ref sig .tc := ⟨.hbm, 268, rfl⟩
abbrev main_v153 : Ref sig .tc := ⟨.hbm, 269, rfl⟩
abbrev main_v154 : Ref sig .tc := ⟨.hbm, 270, rfl⟩
abbrev main_v155 : Ref sig .tc := ⟨.hbm, 271, rfl⟩
abbrev main_v156 : Ref sig .tc := ⟨.hbm, 272, rfl⟩
abbrev main_v157 : Ref sig .tc := ⟨.hbm, 273, rfl⟩
abbrev main_v158 : Ref sig .tc := ⟨.hbm, 274, rfl⟩
abbrev main_v159 : Ref sig .tc := ⟨.hbm, 275, rfl⟩
abbrev main_v160 : Ref sig .tc := ⟨.hbm, 276, rfl⟩
abbrev main_v161 : Ref sig .tc := ⟨.hbm, 277, rfl⟩
abbrev main_v162 : Ref sig .tc := ⟨.hbm, 278, rfl⟩
abbrev main_v163 : Ref sig .tc := ⟨.hbm, 279, rfl⟩
abbrev main_cst_52 : Ref sig .tc := ⟨.hbm, 280, rfl⟩
abbrev main_v164 : Ref sig .tc := ⟨.hbm, 281, rfl⟩
abbrev main_v165 : Ref sig .tc := ⟨.hbm, 282, rfl⟩
abbrev main_v166 : Ref sig .tc := ⟨.hbm, 283, rfl⟩
abbrev main_v167 : Ref sig .tc := ⟨.hbm, 284, rfl⟩
abbrev main_v168 : Ref sig .tc := ⟨.hbm, 285, rfl⟩
abbrev main_v169 : Ref sig .tc := ⟨.hbm, 286, rfl⟩
abbrev main_v170 : Ref sig .tc := ⟨.hbm, 287, rfl⟩
abbrev main_cst_53 : Ref sig .tc := ⟨.hbm, 288, rfl⟩
abbrev main_v171 : Ref sig .tc := ⟨.hbm, 289, rfl⟩
abbrev main_v172 : Ref sig .tc := ⟨.hbm, 290, rfl⟩
abbrev main_cst_54 : Ref sig .tc := ⟨.hbm, 291, rfl⟩
abbrev main_v173 : Ref sig .tc := ⟨.hbm, 292, rfl⟩
abbrev main_v174 : Ref sig .tc := ⟨.hbm, 293, rfl⟩
abbrev main_cst_55 : Ref sig .tc := ⟨.hbm, 294, rfl⟩
abbrev main_v175 : Ref sig .tc := ⟨.hbm, 295, rfl⟩
abbrev main_v176 : Ref sig .tc := ⟨.hbm, 296, rfl⟩
abbrev main_v177 : Ref sig .tc := ⟨.hbm, 297, rfl⟩
abbrev main_cst_56 : Ref sig .tc := ⟨.hbm, 298, rfl⟩
abbrev main_v178 : Ref sig .tc := ⟨.hbm, 299, rfl⟩
abbrev main_v179 : Ref sig .tc := ⟨.hbm, 300, rfl⟩
abbrev main_v180 : Ref sig .tc := ⟨.hbm, 301, rfl⟩
abbrev main_cst_57 : Ref sig .tc := ⟨.hbm, 302, rfl⟩
abbrev main_v181 : Ref sig .tc := ⟨.hbm, 303, rfl⟩
abbrev main_v182 : Ref sig .tc := ⟨.hbm, 304, rfl⟩
abbrev main_v183 : Ref sig .tc := ⟨.hbm, 305, rfl⟩
abbrev main_c_58 : Ref sig .tc := ⟨.hbm, 306, rfl⟩
abbrev main_c_59 : Ref sig .tc := ⟨.hbm, 307, rfl⟩
abbrev main_call6_v0 : Ref sig .tc := ⟨.hbm, 308, rfl⟩
abbrev main_call6_v1 : Ref sig .tc := ⟨.hbm, 309, rfl⟩
abbrev main_call6_v2 : Ref sig .tc := ⟨.hbm, 310, rfl⟩
abbrev main_call6_v3 : Ref sig .tc := ⟨.hbm, 311, rfl⟩
abbrev main_call6_v4 : Ref sig .tc := ⟨.hbm, 312, rfl⟩
abbrev main_v184 : Ref sig .tc := ⟨.hbm, 313, rfl⟩
abbrev main_v185 : Ref sig .tc := ⟨.hbm, 314, rfl⟩
abbrev main_c_60 : Ref sig .tc := ⟨.hbm, 315, rfl⟩
abbrev main_c_61 : Ref sig .tc := ⟨.hbm, 316, rfl⟩
abbrev main_call7_v0 : Ref sig .tc := ⟨.hbm, 317, rfl⟩
abbrev main_call7_v1 : Ref sig .tc := ⟨.hbm, 318, rfl⟩
abbrev main_call7_v2 : Ref sig .tc := ⟨.hbm, 319, rfl⟩
abbrev main_call7_v3 : Ref sig .tc := ⟨.hbm, 320, rfl⟩
abbrev main_call7_v4 : Ref sig .tc := ⟨.hbm, 321, rfl⟩
abbrev main_v186 : Ref sig .tc := ⟨.hbm, 322, rfl⟩
abbrev main_v187 : Ref sig .tc := ⟨.hbm, 323, rfl⟩
abbrev main_v188 : Ref sig .tc := ⟨.hbm, 324, rfl⟩
abbrev main_v189 : Ref sig .tc := ⟨.hbm, 325, rfl⟩
abbrev main_c_62 : Ref sig .tc := ⟨.hbm, 326, rfl⟩
abbrev main_v190 : Ref sig .tc := ⟨.hbm, 327, rfl⟩
abbrev main_v191 : Ref sig .tc := ⟨.hbm, 328, rfl⟩
abbrev main_c_63 : Ref sig .tc := ⟨.hbm, 329, rfl⟩
abbrev main_v192 : Ref sig .tc := ⟨.hbm, 330, rfl⟩
abbrev main_v193 : Ref sig .tc := ⟨.hbm, 331, rfl⟩
abbrev main_v194 : Ref sig .tc := ⟨.hbm, 332, rfl⟩
abbrev main_c_64 : Ref sig .tc := ⟨.hbm, 333, rfl⟩
abbrev main_v195 : Ref sig .tc := ⟨.hbm, 334, rfl⟩
abbrev main_v196 : Ref sig .tc := ⟨.hbm, 335, rfl⟩
abbrev main_c_65 : Ref sig .tc := ⟨.hbm, 336, rfl⟩
abbrev main_v197 : Ref sig .tc := ⟨.hbm, 337, rfl⟩
abbrev main_v198 : Ref sig .tc := ⟨.hbm, 338, rfl⟩
abbrev main_v199 : Ref sig .tc := ⟨.hbm, 339, rfl⟩
abbrev main_c_66 : Ref sig .tc := ⟨.hbm, 340, rfl⟩
abbrev main_v200 : Ref sig .tc := ⟨.hbm, 341, rfl⟩
abbrev main_v201 : Ref sig .tc := ⟨.hbm, 342, rfl⟩
abbrev main_c_67 : Ref sig .tc := ⟨.hbm, 343, rfl⟩
abbrev main_v202 : Ref sig .tc := ⟨.hbm, 344, rfl⟩
abbrev main_v203 : Ref sig .tc := ⟨.hbm, 345, rfl⟩
abbrev main_v204 : Ref sig .tc := ⟨.hbm, 346, rfl⟩
abbrev main_v205 : Ref sig .tc := ⟨.hbm, 347, rfl⟩
abbrev main_v206 : Ref sig .tc := ⟨.hbm, 348, rfl⟩
abbrev main_v207 : Ref sig .tc := ⟨.hbm, 349, rfl⟩
abbrev main_v208 : Ref sig .tc := ⟨.hbm, 350, rfl⟩
abbrev main_v209 : Ref sig .tc := ⟨.hbm, 351, rfl⟩
abbrev main_v210 : Ref sig .tc := ⟨.hbm, 352, rfl⟩
abbrev main_v211 : Ref sig .tc := ⟨.hbm, 353, rfl⟩
abbrev main_v212 : Ref sig .tc := ⟨.hbm, 354, rfl⟩
abbrev main_v213 : Ref sig .tc := ⟨.hbm, 355, rfl⟩
abbrev main_v214 : Ref sig .tc := ⟨.hbm, 356, rfl⟩
abbrev main_cst_68 : Ref sig .tc := ⟨.hbm, 357, rfl⟩
abbrev main_v215 : Ref sig .tc := ⟨.hbm, 358, rfl⟩
abbrev main_v216 : Ref sig .tc := ⟨.hbm, 359, rfl⟩
abbrev main_v217 : Ref sig .tc := ⟨.hbm, 360, rfl⟩
abbrev main_v218 : Ref sig .tc := ⟨.hbm, 361, rfl⟩
abbrev main_v219 : Ref sig .tc := ⟨.hbm, 362, rfl⟩
abbrev main_v220 : Ref sig .tc := ⟨.hbm, 363, rfl⟩
abbrev main_v221 : Ref sig .tc := ⟨.hbm, 364, rfl⟩
abbrev main_cst_69 : Ref sig .tc := ⟨.hbm, 365, rfl⟩
abbrev main_v222 : Ref sig .tc := ⟨.hbm, 366, rfl⟩
abbrev main_v223 : Ref sig .tc := ⟨.hbm, 367, rfl⟩
abbrev main_cst_70 : Ref sig .tc := ⟨.hbm, 368, rfl⟩
abbrev main_v224 : Ref sig .tc := ⟨.hbm, 369, rfl⟩
abbrev main_v225 : Ref sig .tc := ⟨.hbm, 370, rfl⟩
abbrev main_cst_71 : Ref sig .tc := ⟨.hbm, 371, rfl⟩
abbrev main_v226 : Ref sig .tc := ⟨.hbm, 372, rfl⟩
abbrev main_v227 : Ref sig .tc := ⟨.hbm, 373, rfl⟩
abbrev main_cst_72 : Ref sig .tc := ⟨.hbm, 374, rfl⟩
abbrev main_v228 : Ref sig .tc := ⟨.hbm, 375, rfl⟩
abbrev main_v229 : Ref sig .tc := ⟨.hbm, 376, rfl⟩
abbrev main_v230 : Ref sig .tc := ⟨.hbm, 377, rfl⟩
abbrev main_cst_73 : Ref sig .tc := ⟨.hbm, 378, rfl⟩
abbrev main_v231 : Ref sig .tc := ⟨.hbm, 379, rfl⟩
abbrev main_v232 : Ref sig .tc := ⟨.hbm, 380, rfl⟩
abbrev main_v233 : Ref sig .tc := ⟨.hbm, 381, rfl⟩
abbrev main_cst_74 : Ref sig .tc := ⟨.hbm, 382, rfl⟩
abbrev main_v234 : Ref sig .tc := ⟨.hbm, 383, rfl⟩
abbrev main_v235 : Ref sig .tc := ⟨.hbm, 384, rfl⟩
abbrev main_v236 : Ref sig .tc := ⟨.hbm, 385, rfl⟩
abbrev main_c_75 : Ref sig .tc := ⟨.hbm, 386, rfl⟩
abbrev main_c_76 : Ref sig .tc := ⟨.hbm, 387, rfl⟩
abbrev main_call8_v0 : Ref sig .tc := ⟨.hbm, 388, rfl⟩
abbrev main_call8_v1 : Ref sig .tc := ⟨.hbm, 389, rfl⟩
abbrev main_call8_v2 : Ref sig .tc := ⟨.hbm, 390, rfl⟩
abbrev main_call8_v3 : Ref sig .tc := ⟨.hbm, 391, rfl⟩
abbrev main_call8_v4 : Ref sig .tc := ⟨.hbm, 392, rfl⟩
abbrev main_v237 : Ref sig .tc := ⟨.hbm, 393, rfl⟩
abbrev main_v238 : Ref sig .tc := ⟨.hbm, 394, rfl⟩
abbrev main_c_77 : Ref sig .tc := ⟨.hbm, 395, rfl⟩
abbrev main_c_78 : Ref sig .tc := ⟨.hbm, 396, rfl⟩
abbrev main_call9_v0 : Ref sig .tc := ⟨.hbm, 397, rfl⟩
abbrev main_call9_v1 : Ref sig .tc := ⟨.hbm, 398, rfl⟩
abbrev main_call9_v2 : Ref sig .tc := ⟨.hbm, 399, rfl⟩
abbrev main_call9_v3 : Ref sig .tc := ⟨.hbm, 400, rfl⟩
abbrev main_call9_v4 : Ref sig .tc := ⟨.hbm, 401, rfl⟩
abbrev main_v239 : Ref sig .tc := ⟨.hbm, 402, rfl⟩
abbrev main_v240 : Ref sig .tc := ⟨.hbm, 403, rfl⟩
abbrev main_v241 : Ref sig .tc := ⟨.hbm, 404, rfl⟩
abbrev main_v242 : Ref sig .tc := ⟨.hbm, 405, rfl⟩
abbrev main_c_79 : Ref sig .tc := ⟨.hbm, 406, rfl⟩
abbrev main_v243 : Ref sig .tc := ⟨.hbm, 407, rfl⟩
abbrev main_v244 : Ref sig .tc := ⟨.hbm, 408, rfl⟩
abbrev main_c_80 : Ref sig .tc := ⟨.hbm, 409, rfl⟩
abbrev main_v245 : Ref sig .tc := ⟨.hbm, 410, rfl⟩
abbrev main_v246 : Ref sig .tc := ⟨.hbm, 411, rfl⟩
abbrev main_v247 : Ref sig .tc := ⟨.hbm, 412, rfl⟩
abbrev main_c_81 : Ref sig .tc := ⟨.hbm, 413, rfl⟩
abbrev main_v248 : Ref sig .tc := ⟨.hbm, 414, rfl⟩
abbrev main_v249 : Ref sig .tc := ⟨.hbm, 415, rfl⟩
abbrev main_c_82 : Ref sig .tc := ⟨.hbm, 416, rfl⟩
abbrev main_v250 : Ref sig .tc := ⟨.hbm, 417, rfl⟩
abbrev main_v251 : Ref sig .tc := ⟨.hbm, 418, rfl⟩
abbrev main_v252 : Ref sig .tc := ⟨.hbm, 419, rfl⟩
abbrev main_c_83 : Ref sig .tc := ⟨.hbm, 420, rfl⟩
abbrev main_v253 : Ref sig .tc := ⟨.hbm, 421, rfl⟩
abbrev main_v254 : Ref sig .tc := ⟨.hbm, 422, rfl⟩
abbrev main_c_84 : Ref sig .tc := ⟨.hbm, 423, rfl⟩
abbrev main_v255 : Ref sig .tc := ⟨.hbm, 424, rfl⟩
abbrev main_v256 : Ref sig .tc := ⟨.hbm, 425, rfl⟩
abbrev main_v257 : Ref sig .tc := ⟨.hbm, 426, rfl⟩
abbrev main_v258 : Ref sig .tc := ⟨.hbm, 427, rfl⟩
abbrev main_v259 : Ref sig .tc := ⟨.hbm, 428, rfl⟩
abbrev main_v260 : Ref sig .tc := ⟨.hbm, 429, rfl⟩
abbrev main_v261 : Ref sig .tc := ⟨.hbm, 430, rfl⟩
abbrev main_v262 : Ref sig .tc := ⟨.hbm, 431, rfl⟩
abbrev main_v263 : Ref sig .tc := ⟨.hbm, 432, rfl⟩
abbrev main_v264 : Ref sig .tc := ⟨.hbm, 433, rfl⟩
abbrev main_v265 : Ref sig .tc := ⟨.hbm, 434, rfl⟩
abbrev main_v266 : Ref sig .tc := ⟨.hbm, 435, rfl⟩
abbrev main_v267 : Ref sig .tc := ⟨.hbm, 436, rfl⟩
abbrev main_v268 : Ref sig .tc := ⟨.hbm, 437, rfl⟩
abbrev main_v269 : Ref sig .tc := ⟨.hbm, 438, rfl⟩
abbrev main_v270 : Ref sig .tc := ⟨.hbm, 439, rfl⟩
abbrev main_v271 : Ref sig .tc := ⟨.hbm, 440, rfl⟩
abbrev main_v272 : Ref sig .tc := ⟨.hbm, 441, rfl⟩
abbrev main_v273 : Ref sig .tc := ⟨.hbm, 442, rfl⟩
abbrev main_v274 : Ref sig .tc := ⟨.hbm, 443, rfl⟩
abbrev main_v275 : Ref sig .tc := ⟨.hbm, 444, rfl⟩
abbrev main_v276 : Ref sig .tc := ⟨.hbm, 445, rfl⟩
abbrev main_v277 : Ref sig .tc := ⟨.hbm, 446, rfl⟩
abbrev main_v278 : Ref sig .tc := ⟨.hbm, 447, rfl⟩
abbrev main_v279 : Ref sig .tc := ⟨.hbm, 448, rfl⟩
abbrev main_cst_85 : Ref sig .tc := ⟨.hbm, 449, rfl⟩
abbrev main_v280 : Ref sig .tc := ⟨.hbm, 450, rfl⟩
abbrev main_v281 : Ref sig .tc := ⟨.hbm, 451, rfl⟩
abbrev main_cst_86 : Ref sig .tc := ⟨.hbm, 452, rfl⟩
abbrev main_v282 : Ref sig .tc := ⟨.hbm, 453, rfl⟩
abbrev main_v283 : Ref sig .tc := ⟨.hbm, 454, rfl⟩
abbrev main_cst_87 : Ref sig .tc := ⟨.hbm, 455, rfl⟩
abbrev main_v284 : Ref sig .tc := ⟨.hbm, 456, rfl⟩
abbrev main_v285 : Ref sig .tc := ⟨.hbm, 457, rfl⟩
abbrev main_cst_88 : Ref sig .tc := ⟨.hbm, 458, rfl⟩
abbrev main_v286 : Ref sig .tc := ⟨.hbm, 459, rfl⟩
abbrev main_v287 : Ref sig .tc := ⟨.hbm, 460, rfl⟩
abbrev main_cst_89 : Ref sig .tc := ⟨.hbm, 461, rfl⟩
abbrev main_v288 : Ref sig .tc := ⟨.hbm, 462, rfl⟩
abbrev main_v289 : Ref sig .tc := ⟨.hbm, 463, rfl⟩
abbrev main_cst_90 : Ref sig .tc := ⟨.hbm, 464, rfl⟩
abbrev main_v290 : Ref sig .tc := ⟨.hbm, 465, rfl⟩
abbrev main_v291 : Ref sig .tc := ⟨.hbm, 466, rfl⟩
abbrev main_v292 : Ref sig .tc := ⟨.hbm, 467, rfl⟩
abbrev main_v293 : Ref sig .tc := ⟨.hbm, 468, rfl⟩
abbrev main_v294 : Ref sig .tc := ⟨.hbm, 469, rfl⟩
abbrev main_v295 : Ref sig .tc := ⟨.hbm, 470, rfl⟩
abbrev main_cst_91 : Ref sig .tc := ⟨.hbm, 471, rfl⟩
abbrev main_v296 : Ref sig .tc := ⟨.hbm, 472, rfl⟩
abbrev main_v297 : Ref sig .tc := ⟨.hbm, 473, rfl⟩
abbrev main_cst_92 : Ref sig .tc := ⟨.hbm, 474, rfl⟩
abbrev main_v298 : Ref sig .tc := ⟨.hbm, 475, rfl⟩
abbrev main_v299 : Ref sig .tc := ⟨.hbm, 476, rfl⟩
abbrev main_v300 : Ref sig .tc := ⟨.hbm, 477, rfl⟩
abbrev main_cst_93 : Ref sig .tc := ⟨.hbm, 478, rfl⟩
abbrev main_v301 : Ref sig .tc := ⟨.hbm, 479, rfl⟩
abbrev main_v302 : Ref sig .tc := ⟨.hbm, 480, rfl⟩
abbrev main_v303 : Ref sig .tc := ⟨.hbm, 481, rfl⟩
abbrev main_cst_94 : Ref sig .tc := ⟨.hbm, 482, rfl⟩
abbrev main_v304 : Ref sig .tc := ⟨.hbm, 483, rfl⟩
abbrev main_v305 : Ref sig .tc := ⟨.hbm, 484, rfl⟩
abbrev main_v306 : Ref sig .tc := ⟨.hbm, 485, rfl⟩
abbrev main_c_95 : Ref sig .tc := ⟨.hbm, 486, rfl⟩
abbrev main_c_96 : Ref sig .tc := ⟨.hbm, 487, rfl⟩
abbrev main_call10_v0 : Ref sig .tc := ⟨.hbm, 488, rfl⟩
abbrev main_call10_v1 : Ref sig .tc := ⟨.hbm, 489, rfl⟩
abbrev main_call10_v2 : Ref sig .tc := ⟨.hbm, 490, rfl⟩
abbrev main_call10_v3 : Ref sig .tc := ⟨.hbm, 491, rfl⟩
abbrev main_call10_v4 : Ref sig .tc := ⟨.hbm, 492, rfl⟩
abbrev main_v307 : Ref sig .tc := ⟨.hbm, 493, rfl⟩
abbrev main_v308 : Ref sig .tc := ⟨.hbm, 494, rfl⟩
abbrev main_c_97 : Ref sig .tc := ⟨.hbm, 495, rfl⟩
abbrev main_c_98 : Ref sig .tc := ⟨.hbm, 496, rfl⟩
abbrev main_call11_v0 : Ref sig .tc := ⟨.hbm, 497, rfl⟩
abbrev main_call11_v1 : Ref sig .tc := ⟨.hbm, 498, rfl⟩
abbrev main_call11_v2 : Ref sig .tc := ⟨.hbm, 499, rfl⟩
abbrev main_call11_v3 : Ref sig .tc := ⟨.hbm, 500, rfl⟩
abbrev main_call11_v4 : Ref sig .tc := ⟨.hbm, 501, rfl⟩
abbrev main_v309 : Ref sig .tc := ⟨.hbm, 502, rfl⟩
abbrev main_v310 : Ref sig .tc := ⟨.hbm, 503, rfl⟩
abbrev main_v311 : Ref sig .tc := ⟨.hbm, 504, rfl⟩
abbrev main_v312 : Ref sig .tc := ⟨.hbm, 505, rfl⟩
abbrev main_c_99 : Ref sig .tc := ⟨.hbm, 506, rfl⟩
abbrev main_v313 : Ref sig .tc := ⟨.hbm, 507, rfl⟩
abbrev main_v314 : Ref sig .tc := ⟨.hbm, 508, rfl⟩
abbrev main_c_100 : Ref sig .tc := ⟨.hbm, 509, rfl⟩
abbrev main_v315 : Ref sig .tc := ⟨.hbm, 510, rfl⟩
abbrev main_v316 : Ref sig .tc := ⟨.hbm, 511, rfl⟩
abbrev main_v317 : Ref sig .tc := ⟨.hbm, 512, rfl⟩
abbrev main_c_101 : Ref sig .tc := ⟨.hbm, 513, rfl⟩
abbrev main_v318 : Ref sig .tc := ⟨.hbm, 514, rfl⟩
abbrev main_v319 : Ref sig .tc := ⟨.hbm, 515, rfl⟩
abbrev main_c_102 : Ref sig .tc := ⟨.hbm, 516, rfl⟩
abbrev main_v320 : Ref sig .tc := ⟨.hbm, 517, rfl⟩
abbrev main_v321 : Ref sig .tc := ⟨.hbm, 518, rfl⟩
abbrev main_v322 : Ref sig .tc := ⟨.hbm, 519, rfl⟩
abbrev main_c_103 : Ref sig .tc := ⟨.hbm, 520, rfl⟩
abbrev main_v323 : Ref sig .tc := ⟨.hbm, 521, rfl⟩
abbrev main_v324 : Ref sig .tc := ⟨.hbm, 522, rfl⟩
abbrev main_c_104 : Ref sig .tc := ⟨.hbm, 523, rfl⟩
abbrev main_v325 : Ref sig .tc := ⟨.hbm, 524, rfl⟩
abbrev main_v326 : Ref sig .tc := ⟨.hbm, 525, rfl⟩
abbrev main_v327 : Ref sig .tc := ⟨.hbm, 526, rfl⟩
abbrev main_v328 : Ref sig .tc := ⟨.hbm, 527, rfl⟩
abbrev main_v329 : Ref sig .tc := ⟨.hbm, 528, rfl⟩
abbrev main_v330 : Ref sig .tc := ⟨.hbm, 529, rfl⟩
abbrev main_v331 : Ref sig .tc := ⟨.hbm, 530, rfl⟩
abbrev main_v332 : Ref sig .tc := ⟨.hbm, 531, rfl⟩
abbrev main_v333 : Ref sig .tc := ⟨.hbm, 532, rfl⟩
abbrev main_v334 : Ref sig .tc := ⟨.hbm, 533, rfl⟩
abbrev main_v335 : Ref sig .tc := ⟨.hbm, 534, rfl⟩
abbrev main_v336 : Ref sig .tc := ⟨.hbm, 535, rfl⟩
abbrev main_v337 : Ref sig .tc := ⟨.hbm, 536, rfl⟩
abbrev main_cst_105 : Ref sig .tc := ⟨.hbm, 537, rfl⟩
abbrev main_v338 : Ref sig .tc := ⟨.hbm, 538, rfl⟩
abbrev main_v339 : Ref sig .tc := ⟨.hbm, 539, rfl⟩
abbrev main_cst_106 : Ref sig .tc := ⟨.hbm, 540, rfl⟩
abbrev main_v340 : Ref sig .tc := ⟨.hbm, 541, rfl⟩
abbrev main_v341 : Ref sig .tc := ⟨.hbm, 542, rfl⟩
abbrev main_v342 : Ref sig .tc := ⟨.hbm, 543, rfl⟩
abbrev main_v343 : Ref sig .tc := ⟨.hbm, 544, rfl⟩
abbrev main_v344 : Ref sig .tc := ⟨.hbm, 545, rfl⟩
abbrev main_v345 : Ref sig .tc := ⟨.hbm, 546, rfl⟩
abbrev main_cst_107 : Ref sig .tc := ⟨.hbm, 547, rfl⟩
abbrev main_v346 : Ref sig .tc := ⟨.hbm, 548, rfl⟩
abbrev main_v347 : Ref sig .tc := ⟨.hbm, 549, rfl⟩
abbrev main_cst_108 : Ref sig .tc := ⟨.hbm, 550, rfl⟩
abbrev main_v348 : Ref sig .tc := ⟨.hbm, 551, rfl⟩
abbrev main_v349 : Ref sig .tc := ⟨.hbm, 552, rfl⟩
abbrev main_cst_109 : Ref sig .tc := ⟨.hbm, 553, rfl⟩
abbrev main_v350 : Ref sig .tc := ⟨.hbm, 554, rfl⟩
abbrev main_v351 : Ref sig .tc := ⟨.hbm, 555, rfl⟩
abbrev main_v352 : Ref sig .tc := ⟨.hbm, 556, rfl⟩
abbrev main_cst_110 : Ref sig .tc := ⟨.hbm, 557, rfl⟩
abbrev main_v353 : Ref sig .tc := ⟨.hbm, 558, rfl⟩
abbrev main_v354 : Ref sig .tc := ⟨.hbm, 559, rfl⟩
abbrev main_v355 : Ref sig .tc := ⟨.hbm, 560, rfl⟩
abbrev main_cst_111 : Ref sig .tc := ⟨.hbm, 561, rfl⟩
abbrev main_v356 : Ref sig .tc := ⟨.hbm, 562, rfl⟩
abbrev main_v357 : Ref sig .tc := ⟨.hbm, 563, rfl⟩
abbrev main_v358 : Ref sig .tc := ⟨.hbm, 564, rfl⟩
abbrev main_c_112 : Ref sig .tc := ⟨.hbm, 565, rfl⟩
abbrev main_c_113 : Ref sig .tc := ⟨.hbm, 566, rfl⟩
abbrev main_call12_v0 : Ref sig .tc := ⟨.hbm, 567, rfl⟩
abbrev main_call12_v1 : Ref sig .tc := ⟨.hbm, 568, rfl⟩
abbrev main_call12_v2 : Ref sig .tc := ⟨.hbm, 569, rfl⟩
abbrev main_call12_v3 : Ref sig .tc := ⟨.hbm, 570, rfl⟩
abbrev main_call12_v4 : Ref sig .tc := ⟨.hbm, 571, rfl⟩
abbrev main_v359 : Ref sig .tc := ⟨.hbm, 572, rfl⟩
abbrev main_v360 : Ref sig .tc := ⟨.hbm, 573, rfl⟩
abbrev main_c_114 : Ref sig .tc := ⟨.hbm, 574, rfl⟩
abbrev main_c_115 : Ref sig .tc := ⟨.hbm, 575, rfl⟩
abbrev main_call13_v0 : Ref sig .tc := ⟨.hbm, 576, rfl⟩
abbrev main_call13_v1 : Ref sig .tc := ⟨.hbm, 577, rfl⟩
abbrev main_call13_v2 : Ref sig .tc := ⟨.hbm, 578, rfl⟩
abbrev main_call13_v3 : Ref sig .tc := ⟨.hbm, 579, rfl⟩
abbrev main_call13_v4 : Ref sig .tc := ⟨.hbm, 580, rfl⟩
abbrev main_v361 : Ref sig .tc := ⟨.hbm, 581, rfl⟩
abbrev main_v362 : Ref sig .tc := ⟨.hbm, 582, rfl⟩
abbrev main_v363 : Ref sig .tc := ⟨.hbm, 583, rfl⟩
abbrev main_v364 : Ref sig .tc := ⟨.hbm, 584, rfl⟩
abbrev main_c_116 : Ref sig .tc := ⟨.hbm, 585, rfl⟩
abbrev main_v365 : Ref sig .tc := ⟨.hbm, 586, rfl⟩
abbrev main_v366 : Ref sig .tc := ⟨.hbm, 587, rfl⟩
abbrev main_c_117 : Ref sig .tc := ⟨.hbm, 588, rfl⟩
abbrev main_v367 : Ref sig .tc := ⟨.hbm, 589, rfl⟩
abbrev main_v368 : Ref sig .tc := ⟨.hbm, 590, rfl⟩
abbrev main_v369 : Ref sig .tc := ⟨.hbm, 591, rfl⟩
abbrev main_c_118 : Ref sig .tc := ⟨.hbm, 592, rfl⟩
abbrev main_v370 : Ref sig .tc := ⟨.hbm, 593, rfl⟩
abbrev main_v371 : Ref sig .tc := ⟨.hbm, 594, rfl⟩
abbrev main_c_119 : Ref sig .tc := ⟨.hbm, 595, rfl⟩
abbrev main_v372 : Ref sig .tc := ⟨.hbm, 596, rfl⟩
abbrev main_v373 : Ref sig .tc := ⟨.hbm, 597, rfl⟩
abbrev main_v374 : Ref sig .tc := ⟨.hbm, 598, rfl⟩
abbrev main_c_120 : Ref sig .tc := ⟨.hbm, 599, rfl⟩
abbrev main_v375 : Ref sig .tc := ⟨.hbm, 600, rfl⟩
abbrev main_v376 : Ref sig .tc := ⟨.hbm, 601, rfl⟩
abbrev main_c_121 : Ref sig .tc := ⟨.hbm, 602, rfl⟩
abbrev main_v377 : Ref sig .tc := ⟨.hbm, 603, rfl⟩
abbrev main_v378 : Ref sig .tc := ⟨.hbm, 604, rfl⟩
abbrev main_v379 : Ref sig .tc := ⟨.hbm, 605, rfl⟩
abbrev main_v380 : Ref sig .tc := ⟨.hbm, 606, rfl⟩
abbrev main_v381 : Ref sig .tc := ⟨.hbm, 607, rfl⟩
abbrev main_v382 : Ref sig .tc := ⟨.hbm, 608, rfl⟩
abbrev main_v383 : Ref sig .tc := ⟨.hbm, 609, rfl⟩
abbrev main_v384 : Ref sig .tc := ⟨.hbm, 610, rfl⟩
abbrev main_v385 : Ref sig .tc := ⟨.hbm, 611, rfl⟩
abbrev main_v386 : Ref sig .tc := ⟨.hbm, 612, rfl⟩
abbrev main_v387 : Ref sig .tc := ⟨.hbm, 613, rfl⟩
abbrev main_v388 : Ref sig .tc := ⟨.hbm, 614, rfl⟩
abbrev main_v389 : Ref sig .tc := ⟨.hbm, 615, rfl⟩
abbrev main_cst_122 : Ref sig .tc := ⟨.hbm, 616, rfl⟩
abbrev main_v390 : Ref sig .tc := ⟨.hbm, 617, rfl⟩
abbrev main_v391 : Ref sig .tc := ⟨.hbm, 618, rfl⟩
abbrev main_v392 : Ref sig .tc := ⟨.hbm, 619, rfl⟩
abbrev main_v393 : Ref sig .tc := ⟨.hbm, 620, rfl⟩
abbrev main_v394 : Ref sig .tc := ⟨.hbm, 621, rfl⟩
abbrev main_v395 : Ref sig .tc := ⟨.hbm, 622, rfl⟩
abbrev main_v396 : Ref sig .tc := ⟨.hbm, 623, rfl⟩
abbrev main_cst_123 : Ref sig .tc := ⟨.hbm, 624, rfl⟩
abbrev main_v397 : Ref sig .tc := ⟨.hbm, 625, rfl⟩
abbrev main_v398 : Ref sig .tc := ⟨.hbm, 626, rfl⟩
abbrev main_cst_124 : Ref sig .tc := ⟨.hbm, 627, rfl⟩
abbrev main_v399 : Ref sig .tc := ⟨.hbm, 628, rfl⟩
abbrev main_v400 : Ref sig .tc := ⟨.hbm, 629, rfl⟩
abbrev main_cst_125 : Ref sig .tc := ⟨.hbm, 630, rfl⟩
abbrev main_v401 : Ref sig .tc := ⟨.hbm, 631, rfl⟩
abbrev main_v402 : Ref sig .tc := ⟨.hbm, 632, rfl⟩
abbrev main_v403 : Ref sig .tc := ⟨.hbm, 633, rfl⟩
abbrev main_cst_126 : Ref sig .tc := ⟨.hbm, 634, rfl⟩
abbrev main_v404 : Ref sig .tc := ⟨.hbm, 635, rfl⟩
abbrev main_v405 : Ref sig .tc := ⟨.hbm, 636, rfl⟩
abbrev main_v406 : Ref sig .tc := ⟨.hbm, 637, rfl⟩
abbrev main_cst_127 : Ref sig .tc := ⟨.hbm, 638, rfl⟩
abbrev main_v407 : Ref sig .tc := ⟨.hbm, 639, rfl⟩
abbrev main_v408 : Ref sig .tc := ⟨.hbm, 640, rfl⟩
abbrev main_v409 : Ref sig .tc := ⟨.hbm, 641, rfl⟩
abbrev main_c_128 : Ref sig .tc := ⟨.hbm, 642, rfl⟩
abbrev main_c_129 : Ref sig .tc := ⟨.hbm, 643, rfl⟩
abbrev main_call14_v0 : Ref sig .tc := ⟨.hbm, 644, rfl⟩
abbrev main_call14_v1 : Ref sig .tc := ⟨.hbm, 645, rfl⟩
abbrev main_call14_v2 : Ref sig .tc := ⟨.hbm, 646, rfl⟩
abbrev main_call14_v3 : Ref sig .tc := ⟨.hbm, 647, rfl⟩
abbrev main_call14_v4 : Ref sig .tc := ⟨.hbm, 648, rfl⟩
abbrev main_v410 : Ref sig .tc := ⟨.hbm, 649, rfl⟩
abbrev main_v411 : Ref sig .tc := ⟨.hbm, 650, rfl⟩
abbrev main_c_130 : Ref sig .tc := ⟨.hbm, 651, rfl⟩
abbrev main_c_131 : Ref sig .tc := ⟨.hbm, 652, rfl⟩
abbrev main_call15_v0 : Ref sig .tc := ⟨.hbm, 653, rfl⟩
abbrev main_call15_v1 : Ref sig .tc := ⟨.hbm, 654, rfl⟩
abbrev main_call15_v2 : Ref sig .tc := ⟨.hbm, 655, rfl⟩
abbrev main_call15_v3 : Ref sig .tc := ⟨.hbm, 656, rfl⟩
abbrev main_call15_v4 : Ref sig .tc := ⟨.hbm, 657, rfl⟩
abbrev main_v412 : Ref sig .tc := ⟨.hbm, 658, rfl⟩
abbrev main_v413 : Ref sig .tc := ⟨.hbm, 659, rfl⟩
abbrev main_v414 : Ref sig .tc := ⟨.hbm, 660, rfl⟩
abbrev main_v415 : Ref sig .tc := ⟨.hbm, 661, rfl⟩
abbrev main_c_132 : Ref sig .tc := ⟨.hbm, 662, rfl⟩
abbrev main_v416 : Ref sig .tc := ⟨.hbm, 663, rfl⟩
abbrev main_v417 : Ref sig .tc := ⟨.hbm, 664, rfl⟩
abbrev main_c_133 : Ref sig .tc := ⟨.hbm, 665, rfl⟩
abbrev main_v418 : Ref sig .tc := ⟨.hbm, 666, rfl⟩
abbrev main_v419 : Ref sig .tc := ⟨.hbm, 667, rfl⟩
abbrev main_v420 : Ref sig .tc := ⟨.hbm, 668, rfl⟩
abbrev main_c_134 : Ref sig .tc := ⟨.hbm, 669, rfl⟩
abbrev main_v421 : Ref sig .tc := ⟨.hbm, 670, rfl⟩
abbrev main_v422 : Ref sig .tc := ⟨.hbm, 671, rfl⟩
abbrev main_c_135 : Ref sig .tc := ⟨.hbm, 672, rfl⟩
abbrev main_v423 : Ref sig .tc := ⟨.hbm, 673, rfl⟩
abbrev main_v424 : Ref sig .tc := ⟨.hbm, 674, rfl⟩
abbrev main_v425 : Ref sig .tc := ⟨.hbm, 675, rfl⟩
abbrev main_c_136 : Ref sig .tc := ⟨.hbm, 676, rfl⟩
abbrev main_v426 : Ref sig .tc := ⟨.hbm, 677, rfl⟩
abbrev main_v427 : Ref sig .tc := ⟨.hbm, 678, rfl⟩
abbrev main_c_137 : Ref sig .tc := ⟨.hbm, 679, rfl⟩
abbrev main_v428 : Ref sig .tc := ⟨.hbm, 680, rfl⟩
abbrev main_v429 : Ref sig .tc := ⟨.hbm, 681, rfl⟩
abbrev main_v430 : Ref sig .tc := ⟨.hbm, 682, rfl⟩
abbrev main_v431 : Ref sig .tc := ⟨.hbm, 683, rfl⟩
abbrev main_v432 : Ref sig .tc := ⟨.hbm, 684, rfl⟩
abbrev main_v433 : Ref sig .tc := ⟨.hbm, 685, rfl⟩
abbrev main_v434 : Ref sig .tc := ⟨.hbm, 686, rfl⟩
abbrev main_v435 : Ref sig .tc := ⟨.hbm, 687, rfl⟩
abbrev main_v436 : Ref sig .tc := ⟨.hbm, 688, rfl⟩
abbrev main_v437 : Ref sig .tc := ⟨.hbm, 689, rfl⟩
abbrev main_v438 : Ref sig .tc := ⟨.hbm, 690, rfl⟩
abbrev main_v439 : Ref sig .tc := ⟨.hbm, 691, rfl⟩
abbrev main_v440 : Ref sig .tc := ⟨.hbm, 692, rfl⟩
abbrev main_cst_138 : Ref sig .tc := ⟨.hbm, 693, rfl⟩
abbrev main_v441 : Ref sig .tc := ⟨.hbm, 694, rfl⟩
abbrev main_v442 : Ref sig .tc := ⟨.hbm, 695, rfl⟩
abbrev main_v443 : Ref sig .tc := ⟨.hbm, 696, rfl⟩
abbrev main_v444 : Ref sig .tc := ⟨.hbm, 697, rfl⟩
abbrev main_v445 : Ref sig .tc := ⟨.hbm, 698, rfl⟩
abbrev main_v446 : Ref sig .tc := ⟨.hbm, 699, rfl⟩
abbrev main_v447 : Ref sig .tc := ⟨.hbm, 700, rfl⟩
abbrev main_cst_139 : Ref sig .tc := ⟨.hbm, 701, rfl⟩
abbrev main_v448 : Ref sig .tc := ⟨.hbm, 702, rfl⟩
abbrev main_v449 : Ref sig .tc := ⟨.hbm, 703, rfl⟩
abbrev main_cst_140 : Ref sig .tc := ⟨.hbm, 704, rfl⟩
abbrev main_v450 : Ref sig .tc := ⟨.hbm, 705, rfl⟩
abbrev main_v451 : Ref sig .tc := ⟨.hbm, 706, rfl⟩
abbrev main_cst_141 : Ref sig .tc := ⟨.hbm, 707, rfl⟩
abbrev main_v452 : Ref sig .tc := ⟨.hbm, 708, rfl⟩
abbrev main_v453 : Ref sig .tc := ⟨.hbm, 709, rfl⟩
abbrev main_cst_142 : Ref sig .tc := ⟨.hbm, 710, rfl⟩
abbrev main_v454 : Ref sig .tc := ⟨.hbm, 711, rfl⟩
abbrev main_v455 : Ref sig .tc := ⟨.hbm, 712, rfl⟩
abbrev main_v456 : Ref sig .tc := ⟨.hbm, 713, rfl⟩
abbrev main_cst_143 : Ref sig .tc := ⟨.hbm, 714, rfl⟩
abbrev main_v457 : Ref sig .tc := ⟨.hbm, 715, rfl⟩
abbrev main_v458 : Ref sig .tc := ⟨.hbm, 716, rfl⟩
abbrev main_v459 : Ref sig .tc := ⟨.hbm, 717, rfl⟩
abbrev main_cst_144 : Ref sig .tc := ⟨.hbm, 718, rfl⟩
abbrev main_v460 : Ref sig .tc := ⟨.hbm, 719, rfl⟩
abbrev main_v461 : Ref sig .tc := ⟨.hbm, 720, rfl⟩
abbrev main_v462 : Ref sig .tc := ⟨.hbm, 721, rfl⟩
abbrev main_c_145 : Ref sig .tc := ⟨.hbm, 722, rfl⟩
abbrev main_c_146 : Ref sig .tc := ⟨.hbm, 723, rfl⟩
abbrev main_call16_v0 : Ref sig .tc := ⟨.hbm, 724, rfl⟩
abbrev main_call16_v1 : Ref sig .tc := ⟨.hbm, 725, rfl⟩
abbrev main_call16_v2 : Ref sig .tc := ⟨.hbm, 726, rfl⟩
abbrev main_call16_v3 : Ref sig .tc := ⟨.hbm, 727, rfl⟩
abbrev main_call16_v4 : Ref sig .tc := ⟨.hbm, 728, rfl⟩
abbrev main_v463 : Ref sig .tc := ⟨.hbm, 729, rfl⟩
abbrev main_v464 : Ref sig .tc := ⟨.hbm, 730, rfl⟩
abbrev main_c_147 : Ref sig .tc := ⟨.hbm, 731, rfl⟩
abbrev main_c_148 : Ref sig .tc := ⟨.hbm, 732, rfl⟩
abbrev main_call17_v0 : Ref sig .tc := ⟨.hbm, 733, rfl⟩
abbrev main_call17_v1 : Ref sig .tc := ⟨.hbm, 734, rfl⟩
abbrev main_call17_v2 : Ref sig .tc := ⟨.hbm, 735, rfl⟩
abbrev main_call17_v3 : Ref sig .tc := ⟨.hbm, 736, rfl⟩
abbrev main_call17_v4 : Ref sig .tc := ⟨.hbm, 737, rfl⟩
abbrev main_v465 : Ref sig .tc := ⟨.hbm, 738, rfl⟩
abbrev main_v466 : Ref sig .tc := ⟨.hbm, 739, rfl⟩
abbrev main_v467 : Ref sig .tc := ⟨.hbm, 740, rfl⟩
abbrev main_v468 : Ref sig .tc := ⟨.hbm, 741, rfl⟩
abbrev main_c_149 : Ref sig .tc := ⟨.hbm, 742, rfl⟩
abbrev main_v469 : Ref sig .tc := ⟨.hbm, 743, rfl⟩
abbrev main_v470 : Ref sig .tc := ⟨.hbm, 744, rfl⟩
abbrev main_c_150 : Ref sig .tc := ⟨.hbm, 745, rfl⟩
abbrev main_v471 : Ref sig .tc := ⟨.hbm, 746, rfl⟩
abbrev main_v472 : Ref sig .tc := ⟨.hbm, 747, rfl⟩
abbrev main_v473 : Ref sig .tc := ⟨.hbm, 748, rfl⟩
abbrev main_c_151 : Ref sig .tc := ⟨.hbm, 749, rfl⟩
abbrev main_v474 : Ref sig .tc := ⟨.hbm, 750, rfl⟩
abbrev main_v475 : Ref sig .tc := ⟨.hbm, 751, rfl⟩
abbrev main_c_152 : Ref sig .tc := ⟨.hbm, 752, rfl⟩
abbrev main_v476 : Ref sig .tc := ⟨.hbm, 753, rfl⟩
abbrev main_v477 : Ref sig .tc := ⟨.hbm, 754, rfl⟩
abbrev main_v478 : Ref sig .tc := ⟨.hbm, 755, rfl⟩
abbrev main_c_153 : Ref sig .tc := ⟨.hbm, 756, rfl⟩
abbrev main_v479 : Ref sig .tc := ⟨.hbm, 757, rfl⟩
abbrev main_v480 : Ref sig .tc := ⟨.hbm, 758, rfl⟩
abbrev main_c_154 : Ref sig .tc := ⟨.hbm, 759, rfl⟩
abbrev main_v481 : Ref sig .tc := ⟨.hbm, 760, rfl⟩
abbrev main_v482 : Ref sig .tc := ⟨.hbm, 761, rfl⟩
abbrev main_v483 : Ref sig .tc := ⟨.hbm, 762, rfl⟩
abbrev main_v484 : Ref sig .tc := ⟨.hbm, 763, rfl⟩
abbrev main_v485 : Ref sig .tc := ⟨.hbm, 764, rfl⟩
abbrev main_v486 : Ref sig .tc := ⟨.hbm, 765, rfl⟩
abbrev main_v487 : Ref sig .tc := ⟨.hbm, 766, rfl⟩
abbrev main_v488 : Ref sig .tc := ⟨.hbm, 767, rfl⟩
abbrev main_v489 : Ref sig .tc := ⟨.hbm, 768, rfl⟩
abbrev main_v490 : Ref sig .tc := ⟨.hbm, 769, rfl⟩
abbrev main_v491 : Ref sig .tc := ⟨.hbm, 770, rfl⟩
abbrev main_v492 : Ref sig .tc := ⟨.hbm, 771, rfl⟩
abbrev main_v493 : Ref sig .tc := ⟨.hbm, 772, rfl⟩
abbrev main_v494 : Ref sig .tc := ⟨.hbm, 773, rfl⟩
abbrev main_v495 : Ref sig .tc := ⟨.hbm, 774, rfl⟩
abbrev main_v496 : Ref sig .tc := ⟨.hbm, 775, rfl⟩
abbrev main_v497 : Ref sig .tc := ⟨.hbm, 776, rfl⟩
abbrev main_v498 : Ref sig .tc := ⟨.hbm, 777, rfl⟩
abbrev main_v499 : Ref sig .tc := ⟨.hbm, 778, rfl⟩
abbrev main_v500 : Ref sig .tc := ⟨.hbm, 779, rfl⟩
abbrev main_v501 : Ref sig .tc := ⟨.hbm, 780, rfl⟩
abbrev main_v502 : Ref sig .tc := ⟨.hbm, 781, rfl⟩
abbrev main_v503 : Ref sig .tc := ⟨.hbm, 782, rfl⟩
abbrev main_v504 : Ref sig .tc := ⟨.hbm, 783, rfl⟩
abbrev main_v505 : Ref sig .tc := ⟨.hbm, 784, rfl⟩
abbrev main_cst_155 : Ref sig .tc := ⟨.hbm, 785, rfl⟩
abbrev main_v506 : Ref sig .tc := ⟨.hbm, 786, rfl⟩
abbrev main_v507 : Ref sig .tc := ⟨.hbm, 787, rfl⟩
abbrev main_cst_156 : Ref sig .tc := ⟨.hbm, 788, rfl⟩
abbrev main_v508 : Ref sig .tc := ⟨.hbm, 789, rfl⟩
abbrev main_v509 : Ref sig .tc := ⟨.hbm, 790, rfl⟩
abbrev main_cst_157 : Ref sig .tc := ⟨.hbm, 791, rfl⟩
abbrev main_v510 : Ref sig .tc := ⟨.hbm, 792, rfl⟩
abbrev main_v511 : Ref sig .tc := ⟨.hbm, 793, rfl⟩
abbrev main_cst_158 : Ref sig .tc := ⟨.hbm, 794, rfl⟩
abbrev main_v512 : Ref sig .tc := ⟨.hbm, 795, rfl⟩
abbrev main_v513 : Ref sig .tc := ⟨.hbm, 796, rfl⟩
abbrev main_cst_159 : Ref sig .tc := ⟨.hbm, 797, rfl⟩
abbrev main_v514 : Ref sig .tc := ⟨.hbm, 798, rfl⟩
abbrev main_v515 : Ref sig .tc := ⟨.hbm, 799, rfl⟩
abbrev main_cst_160 : Ref sig .tc := ⟨.hbm, 800, rfl⟩
abbrev main_v516 : Ref sig .tc := ⟨.hbm, 801, rfl⟩
abbrev main_v517 : Ref sig .tc := ⟨.hbm, 802, rfl⟩
abbrev main_v518 : Ref sig .tc := ⟨.hbm, 803, rfl⟩
abbrev main_v519 : Ref sig .tc := ⟨.hbm, 804, rfl⟩
abbrev main_v520 : Ref sig .tc := ⟨.hbm, 805, rfl⟩
abbrev main_v521 : Ref sig .tc := ⟨.hbm, 806, rfl⟩
abbrev main_cst_161 : Ref sig .tc := ⟨.hbm, 807, rfl⟩
abbrev main_v522 : Ref sig .tc := ⟨.hbm, 808, rfl⟩
abbrev main_v523 : Ref sig .tc := ⟨.hbm, 809, rfl⟩
abbrev main_cst_162 : Ref sig .tc := ⟨.hbm, 810, rfl⟩
abbrev main_v524 : Ref sig .tc := ⟨.hbm, 811, rfl⟩
abbrev main_v525 : Ref sig .tc := ⟨.hbm, 812, rfl⟩
abbrev main_v526 : Ref sig .tc := ⟨.hbm, 813, rfl⟩
abbrev main_cst_163 : Ref sig .tc := ⟨.hbm, 814, rfl⟩
abbrev main_v527 : Ref sig .tc := ⟨.hbm, 815, rfl⟩
abbrev main_v528 : Ref sig .tc := ⟨.hbm, 816, rfl⟩
abbrev main_v529 : Ref sig .tc := ⟨.hbm, 817, rfl⟩
abbrev main_cst_164 : Ref sig .tc := ⟨.hbm, 818, rfl⟩
abbrev main_v530 : Ref sig .tc := ⟨.hbm, 819, rfl⟩
abbrev main_v531 : Ref sig .tc := ⟨.hbm, 820, rfl⟩
abbrev main_v532 : Ref sig .tc := ⟨.hbm, 821, rfl⟩
abbrev main_c_165 : Ref sig .tc := ⟨.hbm, 822, rfl⟩
abbrev main_c_166 : Ref sig .tc := ⟨.hbm, 823, rfl⟩
abbrev main_call18_v0 : Ref sig .tc := ⟨.hbm, 824, rfl⟩
abbrev main_call18_v1 : Ref sig .tc := ⟨.hbm, 825, rfl⟩
abbrev main_call18_v2 : Ref sig .tc := ⟨.hbm, 826, rfl⟩
abbrev main_call18_v3 : Ref sig .tc := ⟨.hbm, 827, rfl⟩
abbrev main_call18_v4 : Ref sig .tc := ⟨.hbm, 828, rfl⟩
abbrev main_v533 : Ref sig .tc := ⟨.hbm, 829, rfl⟩
abbrev main_v534 : Ref sig .tc := ⟨.hbm, 830, rfl⟩
abbrev main_c_167 : Ref sig .tc := ⟨.hbm, 831, rfl⟩
abbrev main_c_168 : Ref sig .tc := ⟨.hbm, 832, rfl⟩
abbrev main_call19_v0 : Ref sig .tc := ⟨.hbm, 833, rfl⟩
abbrev main_call19_v1 : Ref sig .tc := ⟨.hbm, 834, rfl⟩
abbrev main_call19_v2 : Ref sig .tc := ⟨.hbm, 835, rfl⟩
abbrev main_call19_v3 : Ref sig .tc := ⟨.hbm, 836, rfl⟩
abbrev main_call19_v4 : Ref sig .tc := ⟨.hbm, 837, rfl⟩
abbrev main_v535 : Ref sig .tc := ⟨.hbm, 838, rfl⟩
abbrev main_v536 : Ref sig .tc := ⟨.hbm, 839, rfl⟩
abbrev main_v537 : Ref sig .tc := ⟨.hbm, 840, rfl⟩
abbrev main_v538 : Ref sig .tc := ⟨.hbm, 841, rfl⟩
abbrev main_c_169 : Ref sig .tc := ⟨.hbm, 842, rfl⟩
abbrev main_v539 : Ref sig .tc := ⟨.hbm, 843, rfl⟩
abbrev main_v540 : Ref sig .tc := ⟨.hbm, 844, rfl⟩
abbrev main_c_170 : Ref sig .tc := ⟨.hbm, 845, rfl⟩
abbrev main_v541 : Ref sig .tc := ⟨.hbm, 846, rfl⟩
abbrev main_v542 : Ref sig .tc := ⟨.hbm, 847, rfl⟩
abbrev main_v543 : Ref sig .tc := ⟨.hbm, 848, rfl⟩
abbrev main_c_171 : Ref sig .tc := ⟨.hbm, 849, rfl⟩
abbrev main_v544 : Ref sig .tc := ⟨.hbm, 850, rfl⟩
abbrev main_v545 : Ref sig .tc := ⟨.hbm, 851, rfl⟩
abbrev main_c_172 : Ref sig .tc := ⟨.hbm, 852, rfl⟩
abbrev main_v546 : Ref sig .tc := ⟨.hbm, 853, rfl⟩
abbrev main_v547 : Ref sig .tc := ⟨.hbm, 854, rfl⟩
abbrev main_v548 : Ref sig .tc := ⟨.hbm, 855, rfl⟩
abbrev main_c_173 : Ref sig .tc := ⟨.hbm, 856, rfl⟩
abbrev main_v549 : Ref sig .tc := ⟨.hbm, 857, rfl⟩
abbrev main_v550 : Ref sig .tc := ⟨.hbm, 858, rfl⟩
abbrev main_c_174 : Ref sig .tc := ⟨.hbm, 859, rfl⟩
abbrev main_v551 : Ref sig .tc := ⟨.hbm, 860, rfl⟩
abbrev main_v552 : Ref sig .tc := ⟨.hbm, 861, rfl⟩
abbrev main_v553 : Ref sig .tc := ⟨.hbm, 862, rfl⟩
abbrev main_v554 : Ref sig .tc := ⟨.hbm, 863, rfl⟩
abbrev main_v555 : Ref sig .tc := ⟨.hbm, 864, rfl⟩
abbrev main_v556 : Ref sig .tc := ⟨.hbm, 865, rfl⟩
abbrev main_v557 : Ref sig .tc := ⟨.hbm, 866, rfl⟩
abbrev main_v558 : Ref sig .tc := ⟨.hbm, 867, rfl⟩
abbrev main_v559 : Ref sig .tc := ⟨.hbm, 868, rfl⟩
abbrev main_v560 : Ref sig .tc := ⟨.hbm, 869, rfl⟩
abbrev main_v561 : Ref sig .tc := ⟨.hbm, 870, rfl⟩
abbrev main_v562 : Ref sig .tc := ⟨.hbm, 871, rfl⟩
abbrev main_v563 : Ref sig .tc := ⟨.hbm, 872, rfl⟩
abbrev main_cst_175 : Ref sig .tc := ⟨.hbm, 873, rfl⟩
abbrev main_v564 : Ref sig .tc := ⟨.hbm, 874, rfl⟩
abbrev main_v565 : Ref sig .tc := ⟨.hbm, 875, rfl⟩
abbrev main_cst_176 : Ref sig .tc := ⟨.hbm, 876, rfl⟩
abbrev main_v566 : Ref sig .tc := ⟨.hbm, 877, rfl⟩
abbrev main_v567 : Ref sig .tc := ⟨.hbm, 878, rfl⟩
abbrev main_v568 : Ref sig .tc := ⟨.hbm, 879, rfl⟩
abbrev main_v569 : Ref sig .tc := ⟨.hbm, 880, rfl⟩
abbrev main_v570 : Ref sig .tc := ⟨.hbm, 881, rfl⟩
abbrev main_v571 : Ref sig .tc := ⟨.hbm, 882, rfl⟩
abbrev main_cst_177 : Ref sig .tc := ⟨.hbm, 883, rfl⟩
abbrev main_v572 : Ref sig .tc := ⟨.hbm, 884, rfl⟩
abbrev main_v573 : Ref sig .tc := ⟨.hbm, 885, rfl⟩
abbrev main_cst_178 : Ref sig .tc := ⟨.hbm, 886, rfl⟩
abbrev main_v574 : Ref sig .tc := ⟨.hbm, 887, rfl⟩
abbrev main_v575 : Ref sig .tc := ⟨.hbm, 888, rfl⟩
abbrev main_cst_179 : Ref sig .tc := ⟨.hbm, 889, rfl⟩
abbrev main_v576 : Ref sig .tc := ⟨.hbm, 890, rfl⟩
abbrev main_v577 : Ref sig .tc := ⟨.hbm, 891, rfl⟩
abbrev main_v578 : Ref sig .tc := ⟨.hbm, 892, rfl⟩
abbrev main_cst_180 : Ref sig .tc := ⟨.hbm, 893, rfl⟩
abbrev main_v579 : Ref sig .tc := ⟨.hbm, 894, rfl⟩
abbrev main_v580 : Ref sig .tc := ⟨.hbm, 895, rfl⟩
abbrev main_v581 : Ref sig .tc := ⟨.hbm, 896, rfl⟩
abbrev main_cst_181 : Ref sig .tc := ⟨.hbm, 897, rfl⟩
abbrev main_v582 : Ref sig .tc := ⟨.hbm, 898, rfl⟩
abbrev main_v583 : Ref sig .tc := ⟨.hbm, 899, rfl⟩
abbrev main_v584 : Ref sig .tc := ⟨.hbm, 900, rfl⟩
abbrev main_c_182 : Ref sig .tc := ⟨.hbm, 901, rfl⟩
abbrev main_c_183 : Ref sig .tc := ⟨.hbm, 902, rfl⟩
abbrev main_call20_v0 : Ref sig .tc := ⟨.hbm, 903, rfl⟩
abbrev main_call20_v1 : Ref sig .tc := ⟨.hbm, 904, rfl⟩
abbrev main_call20_v2 : Ref sig .tc := ⟨.hbm, 905, rfl⟩
abbrev main_call20_v3 : Ref sig .tc := ⟨.hbm, 906, rfl⟩
abbrev main_call20_v4 : Ref sig .tc := ⟨.hbm, 907, rfl⟩
abbrev main_v585 : Ref sig .tc := ⟨.hbm, 908, rfl⟩
abbrev main_v586 : Ref sig .tc := ⟨.hbm, 909, rfl⟩
abbrev main_c_184 : Ref sig .tc := ⟨.hbm, 910, rfl⟩
abbrev main_c_185 : Ref sig .tc := ⟨.hbm, 911, rfl⟩
abbrev main_call21_v0 : Ref sig .tc := ⟨.hbm, 912, rfl⟩
abbrev main_call21_v1 : Ref sig .tc := ⟨.hbm, 913, rfl⟩
abbrev main_call21_v2 : Ref sig .tc := ⟨.hbm, 914, rfl⟩
abbrev main_call21_v3 : Ref sig .tc := ⟨.hbm, 915, rfl⟩
abbrev main_call21_v4 : Ref sig .tc := ⟨.hbm, 916, rfl⟩
abbrev main_v587 : Ref sig .tc := ⟨.hbm, 917, rfl⟩
abbrev main_v588 : Ref sig .tc := ⟨.hbm, 918, rfl⟩
abbrev main_v589 : Ref sig .tc := ⟨.hbm, 919, rfl⟩
abbrev main_v590 : Ref sig .tc := ⟨.hbm, 920, rfl⟩
abbrev main_c_186 : Ref sig .tc := ⟨.hbm, 921, rfl⟩
abbrev main_v591 : Ref sig .tc := ⟨.hbm, 922, rfl⟩
abbrev main_v592 : Ref sig .tc := ⟨.hbm, 923, rfl⟩
abbrev main_c_187 : Ref sig .tc := ⟨.hbm, 924, rfl⟩
abbrev main_v593 : Ref sig .tc := ⟨.hbm, 925, rfl⟩
abbrev main_v594 : Ref sig .tc := ⟨.hbm, 926, rfl⟩
abbrev main_v595 : Ref sig .tc := ⟨.hbm, 927, rfl⟩
abbrev main_c_188 : Ref sig .tc := ⟨.hbm, 928, rfl⟩
abbrev main_v596 : Ref sig .tc := ⟨.hbm, 929, rfl⟩
abbrev main_v597 : Ref sig .tc := ⟨.hbm, 930, rfl⟩
abbrev main_c_189 : Ref sig .tc := ⟨.hbm, 931, rfl⟩
abbrev main_v598 : Ref sig .tc := ⟨.hbm, 932, rfl⟩
abbrev main_v599 : Ref sig .tc := ⟨.hbm, 933, rfl⟩
abbrev main_v600 : Ref sig .tc := ⟨.hbm, 934, rfl⟩
abbrev main_c_190 : Ref sig .tc := ⟨.hbm, 935, rfl⟩
abbrev main_v601 : Ref sig .tc := ⟨.hbm, 936, rfl⟩
abbrev main_v602 : Ref sig .tc := ⟨.hbm, 937, rfl⟩
abbrev main_c_191 : Ref sig .tc := ⟨.hbm, 938, rfl⟩
abbrev main_v603 : Ref sig .tc := ⟨.hbm, 939, rfl⟩
abbrev main_v604 : Ref sig .tc := ⟨.hbm, 940, rfl⟩
abbrev main_v605 : Ref sig .tc := ⟨.hbm, 941, rfl⟩
abbrev main_v606 : Ref sig .tc := ⟨.hbm, 942, rfl⟩
abbrev main_v607 : Ref sig .tc := ⟨.hbm, 943, rfl⟩
abbrev main_v608 : Ref sig .tc := ⟨.hbm, 944, rfl⟩
abbrev main_v609 : Ref sig .tc := ⟨.hbm, 945, rfl⟩
abbrev main_v610 : Ref sig .tc := ⟨.hbm, 946, rfl⟩
abbrev main_v611 : Ref sig .tc := ⟨.hbm, 947, rfl⟩
abbrev main_v612 : Ref sig .tc := ⟨.hbm, 948, rfl⟩
abbrev main_v613 : Ref sig .tc := ⟨.hbm, 949, rfl⟩
abbrev main_v614 : Ref sig .tc := ⟨.hbm, 950, rfl⟩
abbrev main_v615 : Ref sig .tc := ⟨.hbm, 951, rfl⟩
abbrev main_cst_192 : Ref sig .tc := ⟨.hbm, 952, rfl⟩
abbrev main_v616 : Ref sig .tc := ⟨.hbm, 953, rfl⟩
abbrev main_v617 : Ref sig .tc := ⟨.hbm, 954, rfl⟩
abbrev main_v618 : Ref sig .tc := ⟨.hbm, 955, rfl⟩
abbrev main_v619 : Ref sig .tc := ⟨.hbm, 956, rfl⟩
abbrev main_v620 : Ref sig .tc := ⟨.hbm, 957, rfl⟩
abbrev main_v621 : Ref sig .tc := ⟨.hbm, 958, rfl⟩
abbrev main_v622 : Ref sig .tc := ⟨.hbm, 959, rfl⟩
abbrev main_cst_193 : Ref sig .tc := ⟨.hbm, 960, rfl⟩
abbrev main_v623 : Ref sig .tc := ⟨.hbm, 961, rfl⟩
abbrev main_v624 : Ref sig .tc := ⟨.hbm, 962, rfl⟩
abbrev main_cst_194 : Ref sig .tc := ⟨.hbm, 963, rfl⟩
abbrev main_v625 : Ref sig .tc := ⟨.hbm, 964, rfl⟩
abbrev main_v626 : Ref sig .tc := ⟨.hbm, 965, rfl⟩
abbrev main_cst_195 : Ref sig .tc := ⟨.hbm, 966, rfl⟩
abbrev main_v627 : Ref sig .tc := ⟨.hbm, 967, rfl⟩
abbrev main_v628 : Ref sig .tc := ⟨.hbm, 968, rfl⟩
abbrev main_v629 : Ref sig .tc := ⟨.hbm, 969, rfl⟩
abbrev main_cst_196 : Ref sig .tc := ⟨.hbm, 970, rfl⟩
abbrev main_v630 : Ref sig .tc := ⟨.hbm, 971, rfl⟩
abbrev main_v631 : Ref sig .tc := ⟨.hbm, 972, rfl⟩
abbrev main_v632 : Ref sig .tc := ⟨.hbm, 973, rfl⟩
abbrev main_cst_197 : Ref sig .tc := ⟨.hbm, 974, rfl⟩
abbrev main_v633 : Ref sig .tc := ⟨.hbm, 975, rfl⟩
abbrev main_v634 : Ref sig .tc := ⟨.hbm, 976, rfl⟩
abbrev main_v635 : Ref sig .tc := ⟨.hbm, 977, rfl⟩
abbrev main_c_198 : Ref sig .tc := ⟨.hbm, 978, rfl⟩
abbrev main_c_199 : Ref sig .tc := ⟨.hbm, 979, rfl⟩
abbrev main_call22_v0 : Ref sig .tc := ⟨.hbm, 980, rfl⟩
abbrev main_call22_v1 : Ref sig .tc := ⟨.hbm, 981, rfl⟩
abbrev main_call22_v2 : Ref sig .tc := ⟨.hbm, 982, rfl⟩
abbrev main_call22_v3 : Ref sig .tc := ⟨.hbm, 983, rfl⟩
abbrev main_call22_v4 : Ref sig .tc := ⟨.hbm, 984, rfl⟩
abbrev main_v636 : Ref sig .tc := ⟨.hbm, 985, rfl⟩
abbrev main_v637 : Ref sig .tc := ⟨.hbm, 986, rfl⟩
abbrev main_c_200 : Ref sig .tc := ⟨.hbm, 987, rfl⟩
abbrev main_c_201 : Ref sig .tc := ⟨.hbm, 988, rfl⟩
abbrev main_call23_v0 : Ref sig .tc := ⟨.hbm, 989, rfl⟩
abbrev main_call23_v1 : Ref sig .tc := ⟨.hbm, 990, rfl⟩
abbrev main_call23_v2 : Ref sig .tc := ⟨.hbm, 991, rfl⟩
abbrev main_call23_v3 : Ref sig .tc := ⟨.hbm, 992, rfl⟩
abbrev main_call23_v4 : Ref sig .tc := ⟨.hbm, 993, rfl⟩
abbrev main_v638 : Ref sig .tc := ⟨.hbm, 994, rfl⟩
abbrev main_v639 : Ref sig .tc := ⟨.hbm, 995, rfl⟩
abbrev main_v640 : Ref sig .tc := ⟨.hbm, 996, rfl⟩
abbrev main_v641 : Ref sig .tc := ⟨.hbm, 997, rfl⟩
abbrev main_c_202 : Ref sig .tc := ⟨.hbm, 998, rfl⟩
abbrev main_v642 : Ref sig .tc := ⟨.hbm, 999, rfl⟩
abbrev main_v643 : Ref sig .tc := ⟨.hbm, 1000, rfl⟩
abbrev main_c_203 : Ref sig .tc := ⟨.hbm, 1001, rfl⟩
abbrev main_v644 : Ref sig .tc := ⟨.hbm, 1002, rfl⟩
abbrev main_v645 : Ref sig .tc := ⟨.hbm, 1003, rfl⟩
abbrev main_v646 : Ref sig .tc := ⟨.hbm, 1004, rfl⟩
abbrev main_c_204 : Ref sig .tc := ⟨.hbm, 1005, rfl⟩
abbrev main_v647 : Ref sig .tc := ⟨.hbm, 1006, rfl⟩
abbrev main_v648 : Ref sig .tc := ⟨.hbm, 1007, rfl⟩
abbrev main_c_205 : Ref sig .tc := ⟨.hbm, 1008, rfl⟩
abbrev main_v649 : Ref sig .tc := ⟨.hbm, 1009, rfl⟩
abbrev main_v650 : Ref sig .tc := ⟨.hbm, 1010, rfl⟩
abbrev main_v651 : Ref sig .tc := ⟨.hbm, 1011, rfl⟩
abbrev main_c_206 : Ref sig .tc := ⟨.hbm, 1012, rfl⟩
abbrev main_v652 : Ref sig .tc := ⟨.hbm, 1013, rfl⟩
abbrev main_v653 : Ref sig .tc := ⟨.hbm, 1014, rfl⟩
abbrev main_c_207 : Ref sig .tc := ⟨.hbm, 1015, rfl⟩
abbrev main_v654 : Ref sig .tc := ⟨.hbm, 1016, rfl⟩
abbrev main_v655 : Ref sig .tc := ⟨.hbm, 1017, rfl⟩
abbrev main_v656 : Ref sig .tc := ⟨.hbm, 1018, rfl⟩
abbrev main_v657 : Ref sig .tc := ⟨.hbm, 1019, rfl⟩
abbrev main_v658 : Ref sig .tc := ⟨.hbm, 1020, rfl⟩
abbrev main_v659 : Ref sig .tc := ⟨.hbm, 1021, rfl⟩
abbrev main_v660 : Ref sig .tc := ⟨.hbm, 1022, rfl⟩
abbrev main_v661 : Ref sig .tc := ⟨.hbm, 1023, rfl⟩
abbrev main_v662 : Ref sig .tc := ⟨.hbm, 1024, rfl⟩
abbrev main_v663 : Ref sig .tc := ⟨.hbm, 1025, rfl⟩
abbrev main_v664 : Ref sig .tc := ⟨.hbm, 1026, rfl⟩
abbrev main_v665 : Ref sig .tc := ⟨.hbm, 1027, rfl⟩
abbrev main_v666 : Ref sig .tc := ⟨.hbm, 1028, rfl⟩
abbrev main_cst_208 : Ref sig .tc := ⟨.hbm, 1029, rfl⟩
abbrev main_v667 : Ref sig .tc := ⟨.hbm, 1030, rfl⟩
abbrev main_v668 : Ref sig .tc := ⟨.hbm, 1031, rfl⟩
abbrev main_v669 : Ref sig .tc := ⟨.hbm, 1032, rfl⟩
abbrev main_v670 : Ref sig .tc := ⟨.hbm, 1033, rfl⟩
abbrev main_v671 : Ref sig .tc := ⟨.hbm, 1034, rfl⟩
abbrev main_v672 : Ref sig .tc := ⟨.hbm, 1035, rfl⟩
abbrev main_v673 : Ref sig .tc := ⟨.hbm, 1036, rfl⟩
abbrev main_cst_209 : Ref sig .tc := ⟨.hbm, 1037, rfl⟩
abbrev main_v674 : Ref sig .tc := ⟨.hbm, 1038, rfl⟩
abbrev main_v675 : Ref sig .tc := ⟨.hbm, 1039, rfl⟩
abbrev main_cst_210 : Ref sig .tc := ⟨.hbm, 1040, rfl⟩
abbrev main_v676 : Ref sig .tc := ⟨.hbm, 1041, rfl⟩
abbrev main_v677 : Ref sig .tc := ⟨.hbm, 1042, rfl⟩
abbrev main_cst_211 : Ref sig .tc := ⟨.hbm, 1043, rfl⟩
abbrev main_v678 : Ref sig .tc := ⟨.hbm, 1044, rfl⟩
abbrev main_v679 : Ref sig .tc := ⟨.hbm, 1045, rfl⟩
abbrev main_cst_212 : Ref sig .tc := ⟨.hbm, 1046, rfl⟩
abbrev main_v680 : Ref sig .tc := ⟨.hbm, 1047, rfl⟩
abbrev main_v681 : Ref sig .tc := ⟨.hbm, 1048, rfl⟩
abbrev main_v682 : Ref sig .tc := ⟨.hbm, 1049, rfl⟩
abbrev main_cst_213 : Ref sig .tc := ⟨.hbm, 1050, rfl⟩
abbrev main_v683 : Ref sig .tc := ⟨.hbm, 1051, rfl⟩
abbrev main_v684 : Ref sig .tc := ⟨.hbm, 1052, rfl⟩
abbrev main_v685 : Ref sig .tc := ⟨.hbm, 1053, rfl⟩
abbrev main_cst_214 : Ref sig .tc := ⟨.hbm, 1054, rfl⟩
abbrev main_v686 : Ref sig .tc := ⟨.hbm, 1055, rfl⟩
abbrev main_v687 : Ref sig .tc := ⟨.hbm, 1056, rfl⟩
abbrev main_v688 : Ref sig .tc := ⟨.hbm, 1057, rfl⟩
abbrev main_c_215 : Ref sig .tc := ⟨.hbm, 1058, rfl⟩
abbrev main_c_216 : Ref sig .tc := ⟨.hbm, 1059, rfl⟩
abbrev main_call24_v0 : Ref sig .tc := ⟨.hbm, 1060, rfl⟩
abbrev main_call24_v1 : Ref sig .tc := ⟨.hbm, 1061, rfl⟩
abbrev main_call24_v2 : Ref sig .tc := ⟨.hbm, 1062, rfl⟩
abbrev main_call24_v3 : Ref sig .tc := ⟨.hbm, 1063, rfl⟩
abbrev main_call24_v4 : Ref sig .tc := ⟨.hbm, 1064, rfl⟩
abbrev main_v689 : Ref sig .tc := ⟨.hbm, 1065, rfl⟩
abbrev main_v690 : Ref sig .tc := ⟨.hbm, 1066, rfl⟩
abbrev main_c_217 : Ref sig .tc := ⟨.hbm, 1067, rfl⟩
abbrev main_c_218 : Ref sig .tc := ⟨.hbm, 1068, rfl⟩
abbrev main_call25_v0 : Ref sig .tc := ⟨.hbm, 1069, rfl⟩
abbrev main_call25_v1 : Ref sig .tc := ⟨.hbm, 1070, rfl⟩
abbrev main_call25_v2 : Ref sig .tc := ⟨.hbm, 1071, rfl⟩
abbrev main_call25_v3 : Ref sig .tc := ⟨.hbm, 1072, rfl⟩
abbrev main_call25_v4 : Ref sig .tc := ⟨.hbm, 1073, rfl⟩
abbrev main_v691 : Ref sig .tc := ⟨.hbm, 1074, rfl⟩
abbrev main_v692 : Ref sig .tc := ⟨.hbm, 1075, rfl⟩
abbrev main_v693 : Ref sig .tc := ⟨.hbm, 1076, rfl⟩
abbrev main_v694 : Ref sig .tc := ⟨.hbm, 1077, rfl⟩
abbrev main_c_219 : Ref sig .tc := ⟨.hbm, 1078, rfl⟩
abbrev main_v695 : Ref sig .tc := ⟨.hbm, 1079, rfl⟩
abbrev main_v696 : Ref sig .tc := ⟨.hbm, 1080, rfl⟩
abbrev main_c_220 : Ref sig .tc := ⟨.hbm, 1081, rfl⟩
abbrev main_v697 : Ref sig .tc := ⟨.hbm, 1082, rfl⟩
abbrev main_v698 : Ref sig .tc := ⟨.hbm, 1083, rfl⟩
abbrev main_v699 : Ref sig .tc := ⟨.hbm, 1084, rfl⟩
abbrev main_c_221 : Ref sig .tc := ⟨.hbm, 1085, rfl⟩
abbrev main_v700 : Ref sig .tc := ⟨.hbm, 1086, rfl⟩
abbrev main_v701 : Ref sig .tc := ⟨.hbm, 1087, rfl⟩
abbrev main_c_222 : Ref sig .tc := ⟨.hbm, 1088, rfl⟩
abbrev main_v702 : Ref sig .tc := ⟨.hbm, 1089, rfl⟩
abbrev main_v703 : Ref sig .tc := ⟨.hbm, 1090, rfl⟩
abbrev main_v704 : Ref sig .tc := ⟨.hbm, 1091, rfl⟩
abbrev main_c_223 : Ref sig .tc := ⟨.hbm, 1092, rfl⟩
abbrev main_v705 : Ref sig .tc := ⟨.hbm, 1093, rfl⟩
abbrev main_v706 : Ref sig .tc := ⟨.hbm, 1094, rfl⟩
abbrev main_c_224 : Ref sig .tc := ⟨.hbm, 1095, rfl⟩
abbrev main_v707 : Ref sig .tc := ⟨.hbm, 1096, rfl⟩
abbrev main_v708 : Ref sig .tc := ⟨.hbm, 1097, rfl⟩
abbrev main_v709 : Ref sig .tc := ⟨.hbm, 1098, rfl⟩
abbrev main_v710 : Ref sig .tc := ⟨.hbm, 1099, rfl⟩
abbrev main_v711 : Ref sig .tc := ⟨.hbm, 1100, rfl⟩
abbrev main_v712 : Ref sig .tc := ⟨.hbm, 1101, rfl⟩
abbrev main_v713 : Ref sig .tc := ⟨.hbm, 1102, rfl⟩
abbrev main_v714 : Ref sig .tc := ⟨.hbm, 1103, rfl⟩
abbrev main_v715 : Ref sig .tc := ⟨.hbm, 1104, rfl⟩
abbrev main_v716 : Ref sig .tc := ⟨.hbm, 1105, rfl⟩
abbrev main_v717 : Ref sig .tc := ⟨.hbm, 1106, rfl⟩
abbrev main_v718 : Ref sig .tc := ⟨.hbm, 1107, rfl⟩
abbrev main_v719 : Ref sig .tc := ⟨.hbm, 1108, rfl⟩
abbrev main_v720 : Ref sig .tc := ⟨.hbm, 1109, rfl⟩
abbrev main_v721 : Ref sig .tc := ⟨.hbm, 1110, rfl⟩
abbrev main_v722 : Ref sig .tc := ⟨.hbm, 1111, rfl⟩
abbrev main_v723 : Ref sig .tc := ⟨.hbm, 1112, rfl⟩
abbrev main_v724 : Ref sig .tc := ⟨.hbm, 1113, rfl⟩
abbrev main_v725 : Ref sig .tc := ⟨.hbm, 1114, rfl⟩
abbrev main_v726 : Ref sig .tc := ⟨.hbm, 1115, rfl⟩
abbrev main_v727 : Ref sig .tc := ⟨.hbm, 1116, rfl⟩
abbrev main_v728 : Ref sig .tc := ⟨.hbm, 1117, rfl⟩
abbrev main_v729 : Ref sig .tc := ⟨.hbm, 1118, rfl⟩
abbrev main_v730 : Ref sig .tc := ⟨.hbm, 1119, rfl⟩
abbrev main_v731 : Ref sig .tc := ⟨.hbm, 1120, rfl⟩
abbrev main_v732 : Ref sig .tc := ⟨.hbm, 1121, rfl⟩
abbrev main_v733 : Ref sig .tc := ⟨.hbm, 1122, rfl⟩
abbrev main_v734 : Ref sig .tc := ⟨.hbm, 1123, rfl⟩
abbrev main_v735 : Ref sig .tc := ⟨.hbm, 1124, rfl⟩
abbrev main_v736 : Ref sig .tc := ⟨.hbm, 1125, rfl⟩
abbrev main_v737 : Ref sig .tc := ⟨.hbm, 1126, rfl⟩
abbrev main_v738 : Ref sig .tc := ⟨.hbm, 1127, rfl⟩
abbrev main_v739 : Ref sig .tc := ⟨.hbm, 1128, rfl⟩
abbrev main_v740 : Ref sig .tc := ⟨.hbm, 1129, rfl⟩
abbrev main_v741 : Ref sig .tc := ⟨.hbm, 1130, rfl⟩
abbrev main_v742 : Ref sig .tc := ⟨.hbm, 1131, rfl⟩
abbrev main_v743 : Ref sig .tc := ⟨.hbm, 1132, rfl⟩
abbrev main_v744 : Ref sig .tc := ⟨.hbm, 1133, rfl⟩
abbrev main_v745 : Ref sig .tc := ⟨.hbm, 1134, rfl⟩
abbrev main_v746 : Ref sig .tc := ⟨.hbm, 1135, rfl⟩
abbrev main_v747 : Ref sig .tc := ⟨.hbm, 1136, rfl⟩
abbrev main_v748 : Ref sig .tc := ⟨.hbm, 1137, rfl⟩
abbrev main_v749 : Ref sig .tc := ⟨.hbm, 1138, rfl⟩
abbrev main_v750 : Ref sig .tc := ⟨.hbm, 1139, rfl⟩
abbrev main_cst_225 : Ref sig .tc := ⟨.hbm, 1140, rfl⟩
abbrev main_v751 : Ref sig .tc := ⟨.hbm, 1141, rfl⟩
abbrev main_v752 : Ref sig .tc := ⟨.hbm, 1142, rfl⟩
abbrev main_cst_226 : Ref sig .tc := ⟨.hbm, 1143, rfl⟩
abbrev main_v753 : Ref sig .tc := ⟨.hbm, 1144, rfl⟩
abbrev main_cst_227 : Ref sig .tc := ⟨.hbm, 1145, rfl⟩
abbrev main_v754 : Ref sig .tc := ⟨.hbm, 1146, rfl⟩
abbrev main_v755 : Ref sig .tc := ⟨.hbm, 1147, rfl⟩
abbrev main_v756 : Ref sig .tc := ⟨.hbm, 1148, rfl⟩
abbrev main_v757 : Ref sig .tc := ⟨.hbm, 1149, rfl⟩
abbrev main_v758 : Ref sig .tc := ⟨.hbm, 1150, rfl⟩
abbrev main_v759 : Ref sig .tc := ⟨.hbm, 1151, rfl⟩
abbrev main_cst_228 : Ref sig .tc := ⟨.hbm, 1152, rfl⟩
abbrev main_v760 : Ref sig .tc := ⟨.hbm, 1153, rfl⟩
abbrev main_v761 : Ref sig .tc := ⟨.hbm, 1154, rfl⟩
abbrev main_v762 : Ref sig .tc := ⟨.hbm, 1155, rfl⟩
abbrev main_v763 : Ref sig .tc := ⟨.hbm, 1156, rfl⟩
abbrev main_v764 : Ref sig .tc := ⟨.hbm, 1157, rfl⟩
abbrev main_v765 : Ref sig .tc := ⟨.hbm, 1158, rfl⟩
abbrev main_v766 : Ref sig .tc := ⟨.hbm, 1159, rfl⟩
abbrev main_v767 : Ref sig .tc := ⟨.hbm, 1160, rfl⟩
abbrev main_v768 : Ref sig .tc := ⟨.hbm, 1161, rfl⟩
abbrev main_v769 : Ref sig .tc := ⟨.hbm, 1162, rfl⟩
abbrev main_v770 : Ref sig .tc := ⟨.hbm, 1163, rfl⟩
abbrev main_v771 : Ref sig .tc := ⟨.hbm, 1164, rfl⟩
abbrev main_call26_cst : Ref sig .tc := ⟨.hbm, 1165, rfl⟩
abbrev main_call26_v0 : Ref sig .tc := ⟨.hbm, 1166, rfl⟩
abbrev main_v772 : Ref sig .tc := ⟨.hbm, 1167, rfl⟩
abbrev main_v773 : Ref sig .tc := ⟨.hbm, 1168, rfl⟩
abbrev main_v774 : Ref sig .tc := ⟨.hbm, 1169, rfl⟩
abbrev main_v775 : Ref sig .tc := ⟨.hbm, 1170, rfl⟩
abbrev main_v776 : Ref sig .tc := ⟨.hbm, 1171, rfl⟩
abbrev main_v777 : Ref sig .tc := ⟨.hbm, 1172, rfl⟩
abbrev main_v778 : Ref sig .tc := ⟨.hbm, 1173, rfl⟩
abbrev main_v779 : Ref sig .tc := ⟨.hbm, 1174, rfl⟩
abbrev main_v780 : Ref sig .tc := ⟨.hbm, 1175, rfl⟩
abbrev main_v781 : Ref sig .tc := ⟨.hbm, 1176, rfl⟩
abbrev main_v782 : Ref sig .tc := ⟨.hbm, 1177, rfl⟩
abbrev main_v783 : Ref sig .tc := ⟨.hbm, 1178, rfl⟩
abbrev main_v784 : Ref sig .tc := ⟨.hbm, 1179, rfl⟩
abbrev main_call27_cst : Ref sig .tc := ⟨.hbm, 1180, rfl⟩
abbrev main_call27_v0 : Ref sig .tc := ⟨.hbm, 1181, rfl⟩
abbrev main_v785 : Ref sig .tc := ⟨.hbm, 1182, rfl⟩
abbrev main_v786 : Ref sig .tc := ⟨.hbm, 1183, rfl⟩
abbrev main_v787 : Ref sig .tc := ⟨.hbm, 1184, rfl⟩
abbrev main_v788 : Ref sig .tc := ⟨.hbm, 1185, rfl⟩
abbrev main_v789 : Ref sig .tc := ⟨.hbm, 1186, rfl⟩
abbrev main_v790 : Ref sig .tc := ⟨.hbm, 1187, rfl⟩
abbrev main_v791 : Ref sig .tc := ⟨.hbm, 1188, rfl⟩
abbrev main_v792 : Ref sig .tc := ⟨.hbm, 1189, rfl⟩
abbrev main_v793 : Ref sig .tc := ⟨.hbm, 1190, rfl⟩
abbrev main_v794 : Ref sig .tc := ⟨.hbm, 1191, rfl⟩
abbrev main_v795 : Ref sig .tc := ⟨.hbm, 1192, rfl⟩
abbrev main_v796 : Ref sig .tc := ⟨.hbm, 1193, rfl⟩
abbrev main_call28_cst : Ref sig .tc := ⟨.hbm, 1194, rfl⟩
abbrev main_call28_v0 : Ref sig .tc := ⟨.hbm, 1195, rfl⟩
abbrev main_v797 : Ref sig .tc := ⟨.hbm, 1196, rfl⟩
abbrev main_v798 : Ref sig .tc := ⟨.hbm, 1197, rfl⟩
abbrev main_v799 : Ref sig .tc := ⟨.hbm, 1198, rfl⟩
abbrev main_v800 : Ref sig .tc := ⟨.hbm, 1199, rfl⟩
abbrev main_v801 : Ref sig .tc := ⟨.hbm, 1200, rfl⟩
abbrev main_v802 : Ref sig .tc := ⟨.hbm, 1201, rfl⟩
abbrev main_v803 : Ref sig .tc := ⟨.hbm, 1202, rfl⟩
abbrev main_v804 : Ref sig .tc := ⟨.hbm, 1203, rfl⟩
abbrev main_v805 : Ref sig .tc := ⟨.hbm, 1204, rfl⟩
abbrev main_v806 : Ref sig .tc := ⟨.hbm, 1205, rfl⟩

abbrev nD : Nat := 1
abbrev τ : Topo := Topo.v7x

variable {F : FTy → Type} [FloatOps F]
-- ==== Proof.Gather.lean ====
/- The reference's two gathers, read at an index: a feature map at computed row and column, and the priors at
   computed columns. A gather's start index is read as a signed word and clamped into the operand. -/
module

public import Idealize.ShloMosaic.Lib.Pipeline.ValueKit

@[expose] public section

noncomputable section

namespace Cert.Gather

open Idealize.ShloMosaic

variable {α : Type}

/-- The dimension numbers of `feat[b, :, y, x]` for a feature map of height `H` and width `W`. -/
abbrev featDims (H W : ℕ) (wf : GatherDims.WF ⟨4, ![16, 64, H, W]⟩ ⟨3, ![16, 18432, 3]⟩ ⟨3, ![16, 18432, 64]⟩
      [2] [0, 2, 3] [] [0, 2, 3] [] 2 ![1, 64, 1, 1]) :
    GatherDims ⟨4, ![16, 64, H, W]⟩ ⟨3, ![16, 18432, 3]⟩ ⟨3, ![16, 18432, 64]⟩ where
  offsetDims := [2]
  collapsedSliceDims := [0, 2, 3]
  operandBatchingDims := []
  startIndicesBatchingDims := []
  startIndexMap := [0, 2, 3]
  indexVectorDim := 2
  sliceSizes := ![1, 64, 1, 1]
  wf := wf

/-- The feature gather at an index: batch, row and column are the three start indices, clamped. -/
theorem feat_apply {H W : ℕ} (hH : 0 < H) (hW : 0 < W) (wf) (x : (⟨4, ![16, 64, H, W]⟩ : Shape).Idx → α)
    (idx : IVec ⟨3, ![16, 18432, 3]⟩ 32) (b : Fin 16) (p : Fin 18432) (c : Fin 64) :
    Host.gather (featDims H W wf) x idx (ix3 b p c)
      = x (ix4 ⟨min (idx (ix3 b p 0)).toInt.toNat (16 - 1), by omega⟩ c
          ⟨min (idx (ix3 b p 1)).toInt.toNat (H - 1), by omega⟩ ⟨min (idx (ix3 b p 2)).toInt.toNat (W - 1), by omega⟩) := by
  unfold Host.gather
  congr 1
  have hsi : ∀ k : Fin 3, (featDims H W wf).siIdx (ix3 b p c) k = ix3 b p k := fun k => by
    funext a
    match a with
    | ⟨0, _⟩ => rfl
    | ⟨1, _⟩ => rfl
    | ⟨2, _⟩ => rfl
  have hoff : ∀ a : Fin 4, a ∈ [(0 : Fin 4), 2, 3] → (featDims H W wf).offCoord (ix3 b p c) a = 0 := fun a ha =>
    GatherDims.offCoord_eq_zero _ _ _ fun h => ((GatherDims.mem_sKept _ _).mp h).1 ha
  have hb : ∀ a : Fin 4, (featDims H W wf).batchCoord (ix3 b p c) a = 0 := fun a =>
    GatherDims.batchCoord_eq_zero _ _ _ List.not_mem_nil
  funext a
  refine Fin.ext ?_
  show (featDims H W wf).start (ix3 b p c) idx a + (featDims H W wf).batchCoord (ix3 b p c) a
    + (featDims H W wf).offCoord (ix3 b p c) a = _
  rw [hb, Nat.add_zero]
  match a with
  | ⟨0, _⟩ =>
    rw [hoff _ (by simp), Nat.add_zero]
    show min (idx ((featDims H W wf).siIdx (ix3 b p c) (0 : Fin 3))).toInt.toNat (16 - 1) = _
    rw [hsi]; rfl
  | ⟨1, _⟩ =>
    rw [GatherDims.start, dif_neg (by simp), Nat.zero_add]
    rfl
  | ⟨2, _⟩ =>
    rw [hoff _ (by simp), Nat.add_zero]
    show min (idx ((featDims H W wf).siIdx (ix3 b p c) (1 : Fin 3))).toInt.toNat (H - 1) = _
    rw [hsi]; rfl
  | ⟨3, _⟩ =>
    rw [hoff _ (by simp), Nat.add_zero]
    show min (idx ((featDims H W wf).siIdx (ix3 b p c) (2 : Fin 3))).toInt.toNat (W - 1) = _
    rw [hsi]; rfl

/-- The dimension numbers of `priors[:, :, cols]`. -/
abbrev colDims (wf : GatherDims.WF ⟨3, ![16, 512, 76]⟩ ⟨2, ![36, 1]⟩ ⟨3, ![16, 512, 36]⟩
      [0, 1] [2] [] [2] [] 1 ![16, 512, 1]) :
    GatherDims ⟨3, ![16, 512, 76]⟩ ⟨2, ![36, 1]⟩ ⟨3, ![16, 512, 36]⟩ where
  offsetDims := [0, 1]
  collapsedSliceDims := [2]
  operandBatchingDims := []
  startIndicesBatchingDims := []
  startIndexMap := [2]
  indexVectorDim := 1
  sliceSizes := ![16, 512, 1]
  wf := wf

/-- The prior gather at an index: the column is the start index, clamped. -/
theorem col_apply (wf) (x : (⟨3, ![16, 512, 76]⟩ : Shape).Idx → α)
    (idx : IVec ⟨2, ![36, 1]⟩ 32) (b : Fin 16) (n : Fin 512) (s : Fin 36) :
    Host.gather (colDims wf) x idx (ix3 b n s)
      = x (ix3 b n ⟨min (idx (ix2 s 0)).toInt.toNat (76 - 1), by omega⟩) := by
  unfold Host.gather
  congr 1
  have hsi : (colDims wf).siIdx (ix3 b n s) (0 : Fin 1) = ix2 s 0 := by
    funext a
    match a with
    | ⟨0, _⟩ => rfl
    | ⟨1, _⟩ => rfl
  have hb : ∀ a : Fin 3, (colDims wf).batchCoord (ix3 b n s) a = 0 := fun a =>
    GatherDims.batchCoord_eq_zero _ _ _ List.not_mem_nil
  funext a
  refine Fin.ext ?_
  show (colDims wf).start (ix3 b n s) idx a + (colDims wf).batchCoord (ix3 b n s) a
    + (colDims wf).offCoord (ix3 b n s) a = _
  rw [hb, Nat.add_zero]
  match a with
  | ⟨0, _⟩ =>
    rw [GatherDims.start, dif_neg (by simp), Nat.zero_add]
    rfl
  | ⟨1, _⟩ =>
    rw [GatherDims.start, dif_neg (by simp), Nat.zero_add]
    rfl
  | ⟨2, _⟩ =>
    rw [GatherDims.offCoord_eq_zero _ _ _ fun h => ((GatherDims.mem_sKept _ _).mp h).1 (by simp), Nat.add_zero]
    show min (idx ((colDims wf).siIdx (ix3 b n s) (0 : Fin 1))).toInt.toNat (76 - 1) = _
    rw [hsi]; rfl

end Cert.Gather

end
-- ==== Proof.RealMath.lean ====
/- Facts about extended reals that the two programs' values meet on: interpolation by a hat function is the
   two-corner sum with zero padding, and a softmax without the maximum subtracted is the softmax with it. -/
module

public import Idealize.ShloMosaic.PureOps.Ideal
public import Mathlib.Algebra.BigOperators.Fin

@[expose] public section

noncomputable section

namespace Cert.RealMath

open Idealize.ShloMosaic

/-- The hat function around `w`: one at `w`, zero at distance one and more. -/
def hat (t w : ℝ) : ℝ := max 0 (1 - |w - t|)

/-- Whether the integer `n` is a column of a row of `W` columns, as a number. -/
def inside (W : ℕ) (n : ℤ) : ℝ := if 0 ≤ n ∧ n ≤ (W : ℤ) - 1 then 1 else 0

/-- Only the two integers around `t` carry any of the hat's weight. -/
theorem hat_eq (t : ℝ) (w : ℕ) :
    hat t w = (if (w : ℤ) = ⌊t⌋ then 1 - (t - ⌊t⌋) else 0) + (if (w : ℤ) = ⌊t⌋ + 1 then t - ⌊t⌋ else 0) := by
  have h0 := Int.floor_le t
  have h1 := Int.lt_floor_add_one t
  unfold hat
  by_cases ha : (w : ℤ) = ⌊t⌋
  · have hb : (w : ℝ) = (⌊t⌋ : ℝ) := by exact_mod_cast ha
    rw [if_pos ha, if_neg (by omega), hb, abs_of_nonpos (by linarith), max_eq_right (by linarith)]
    ring
  · by_cases hc : (w : ℤ) = ⌊t⌋ + 1
    · have hb : (w : ℝ) = (⌊t⌋ : ℝ) + 1 := by exact_mod_cast hc
      rw [if_neg ha, if_pos hc, hb, abs_of_nonneg (by linarith), max_eq_right (by linarith)]
      ring
    · rw [if_neg ha, if_neg hc, max_eq_left]
      · ring
      · rcases lt_or_gt_of_ne ha with h | h
        · have : (w : ℝ) ≤ (⌊t⌋ : ℝ) - 1 := by exact_mod_cast (by omega : (w : ℤ) ≤ ⌊t⌋ - 1)
          rw [abs_of_nonpos (by linarith)]; linarith
        · have : (⌊t⌋ : ℝ) + 2 ≤ (w : ℝ) := by exact_mod_cast (by omega : ⌊t⌋ + 2 ≤ (w : ℤ))
          rw [abs_of_nonneg (by linarith)]; linarith

/-- A sum that only one column of the row enters is that column's term, or zero when the column is not in the row. -/
theorem sum_pick (W : ℕ) (r : ℕ → ℝ) (n : ℤ) (a : ℝ) :
    ∑ w : Fin W, r w * (if ((w : ℕ) : ℤ) = n then a else 0) = r n.toNat * inside W n * a := by
  unfold inside
  by_cases h : 0 ≤ n ∧ n ≤ (W : ℤ) - 1
  · rw [if_pos h, Finset.sum_eq_single (⟨n.toNat, by omega⟩ : Fin W)]
    · rw [if_pos (by simp [h.1])]; ring
    · intro w _ hw
      rw [if_neg, mul_zero]
      intro e; exact hw (Fin.ext (by simp; omega))
    · intro h'; exact absurd (Finset.mem_univ _) h'
  · rw [if_neg h, mul_zero, zero_mul]
    refine Finset.sum_eq_zero fun w _ => ?_
    rw [if_neg, mul_zero]
    intro e; exact h (by have := w.2; omega)

/-- Interpolating a row by the hat function is the sum of its two corners, each zero outside the row. -/
theorem hat_sum (W : ℕ) (r : ℕ → ℝ) (t : ℝ) :
    ∑ w : Fin W, r w * hat t w
      = r ⌊t⌋.toNat * inside W ⌊t⌋ * (1 - (t - ⌊t⌋)) + r (⌊t⌋ + 1).toNat * inside W (⌊t⌋ + 1) * (t - ⌊t⌋) := by
  simp only [hat_eq, mul_add, Finset.sum_add_distrib, sum_pick]

/-- The value interpolated at the extended real `x` (a fraction of the row's width): nothing at an infinity. -/
def sample (W : ℕ) (r : ℕ → ℝ) (x : EReal) : ℝ :=
  if x = ⊤ ∨ x = ⊥ then 0 else ∑ w : Fin W, r w * hat (x.toReal * ((W : ℝ) - 1)) w

/-- A sample at plus infinity is zero. -/
theorem sample_top (W : ℕ) (r : ℕ → ℝ) : sample W r ⊤ = 0 := by simp [sample]

/-- A sample at minus infinity is zero. -/
theorem sample_bot (W : ℕ) (r : ℕ → ℝ) : sample W r ⊥ = 0 := by simp [sample]

/-- A sample at a real coordinate. -/
theorem sample_coe (W : ℕ) (r : ℕ → ℝ) (x : ℝ) :
    sample W r (x : EReal) = ∑ w : Fin W, r w * hat (x * ((W : ℝ) - 1)) w := by
  simp [sample]

/-- A finite sum of reals, read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The hat function as the extended reals compute it. -/
def hatE (t : EReal) (w : ℝ) : EReal := max 0 (1 - max ((w : EReal) - t) (-((w : EReal) - t)))

/-- The maximum of two reals, as extended reals. -/
theorem coe_max (a b : ℝ) : max (a : EReal) (b : EReal) = ((max a b : ℝ) : EReal) :=
  (EReal.coe_strictMono.monotone.map_max).symm

/-- The hat at a real coordinate is the real hat. -/
theorem hatE_coe (t w : ℝ) : hatE (t : EReal) w = ((hat t w : ℝ) : EReal) := by
  unfold hatE hat
  rw [← EReal.coe_sub, ← EReal.coe_neg, coe_max, ← EReal.coe_one, ← EReal.coe_sub, ← EReal.coe_zero, coe_max]
  rfl

/-- The hat at plus infinity is zero. -/
theorem hatE_top (w : ℝ) : hatE ⊤ w = 0 := by simp [hatE]

/-- The hat at minus infinity is zero. -/
theorem hatE_bot (w : ℝ) : hatE ⊥ w = 0 := by simp [hatE]

/-- The row interpolated by the extended reals' hat function, at any `x`. -/
theorem sum_hatE (W : ℕ) (hW : 2 ≤ W) (r : ℕ → ℝ) (x : EReal) :
    ∑ w : Fin W, ((r w : ℝ) : EReal) * hatE (x * (((W : ℝ) - 1 : ℝ) : EReal)) ((w : ℕ) : ℝ) = ((sample W r x : ℝ) : EReal) := by
  have hp : (0 : ℝ) < (W : ℝ) - 1 := by
    have : (2 : ℝ) ≤ W := by exact_mod_cast hW
    linarith
  induction x using EReal.rec with
  | bot => rw [EReal.bot_mul_coe_of_pos hp, sample_bot]; simp [hatE_bot]
  | top => rw [EReal.top_mul_coe_of_pos hp, sample_top]; simp [hatE_top]
  | coe x =>
    rw [sample_coe, coe_sum]
    refine Finset.sum_congr rfl fun w _ => ?_
    rw [← EReal.coe_mul, hatE_coe, ← EReal.coe_mul]

end Cert.RealMath

end
-- ==== Proof.Level.lean ====
/- One level of the reference's bilinear sampling, as the reference prints it, for a feature map of any height and
   width: the three levels are its instances. -/
module

public import proofs.«01_k».proof.Proof.Gen.ReferenceIdeal
public import proofs.«01_k».proof.Proof.Gather
public import proofs.«01_k».proof.Proof.RealMath
public import Idealize.ShloMosaic.Lib.Pointwise

@[expose] public section

set_option maxRecDepth 16384

noncomputable section

namespace Cert.Level

open Idealize.ShloMosaic Cert.ReferenceIdeal Cert.ReferenceIdeal.Gen

/-- A coordinate clipped into the map and turned into a word (`top` the last one). -/
def clip (top : BitVec 32) (x : FVec Ideal S16x18432 .f32) : IVec S16x18432 32 :=
  fptosi 32 (minimumf (broadcastInDim S16x18432 ![] bcast_S_S16x18432 (sitofp (F := Ideal) .f32 (constantI S_ 32 top)))
    (maximumf (broadcastInDim S16x18432 ![] bcast_S_S16x18432 (sitofp (F := Ideal) .f32 (constantI S_ 32 0#32))) x))

/-- A negative index counts from the end (`n` the length). -/
def wrap (n : BitVec 32) (v : IVec S16x18432 32) : IVec S16x18432 32 :=
  select (cmpi .slt v (broadcastInDim S16x18432 ![] bcast_S_S16x18432 (constantI S_ 32 0#32)))
    (addi v (broadcastInDim S16x18432 ![] bcast_S_S16x18432 (constantI S_ 32 n))) v

/-- The batch index of every point. -/
def batch : IVec S16x1 32 := broadcastInDim S16x1 ![0] bcast_S16_S16x1_0 (iotaInDim S16 32 0)

/-- The batch index, a negative one counting from the end. -/
def batchW : IVec S16x18432 32 :=
  broadcastInDim S16x18432 ![0, 1] bcast_S16x1_S16x18432_0_1
    (select (cmpi .slt batch (broadcastInDim S16x1 ![] bcast_S_S16x1 (constantI S_ 32 0#32)))
      (addi batch (broadcastInDim S16x1 ![] bcast_S_S16x1 (constantI S_ 32 16#32))) batch)

/-- The gather's start indices: batch, row, column. -/
def starts (y x : IVec S16x18432 32) : IVec S16x18432x3 32 :=
  concatenate S16x18432x3 2
    [⟨S16x18432x1, broadcastInDim S16x18432x1 ![0, 1] bcast_S16x18432_S16x18432x1_0_1 batchW⟩,
     ⟨S16x18432x1, broadcastInDim S16x18432x1 ![0, 1] bcast_S16x18432_S16x18432x1_0_1 y⟩,
     ⟨S16x18432x1, broadcastInDim S16x18432x1 ![0, 1] bcast_S16x18432_S16x18432x1_0_1 x⟩]
    concatenates_S16x18432x1_S16x18432x1_S16x18432x1_S16x18432x3_d2

/-- Whether a corner lies in the map, as a number (`wl`, `hl` the last column and row as literals). -/
def valid (hl wl : BitVec 32) (y x : FVec Ideal S16x18432 .f32) : FVec Ideal S16x18432x1 .f32 :=
  uitofp .f32 (broadcastInDim S16x18432x1 ![0, 1] bcast_S16x18432_S16x18432x1_0_1
    (andi (andi (andi (cmpf .oge x (broadcastInDim S16x18432 ![] bcast_S_S16x18432 (constant S_ .f32 0x00000000#32)))
      (cmpf .ole x (broadcastInDim S16x18432 ![] bcast_S_S16x18432 (constant S_ .f32 wl))))
      (cmpf .oge y (broadcastInDim S16x18432 ![] bcast_S_S16x18432 (constant S_ .f32 0x00000000#32))))
      (cmpf .ole y (broadcastInDim S16x18432 ![] bcast_S_S16x18432 (constant S_ .f32 hl)))))

/-- One corner's part of the sample: the feature there, zero outside the map, times the corner's weight. -/
def corner {H W : ℕ} (d : GatherDims ⟨4, ![16, 64, H, W]⟩ S16x18432x3 S16x18432x64) (ht wt hn wn hl wl : BitVec 32)
    (feat : (⟨4, ![16, 64, H, W]⟩ : Shape).Idx → EReal) (y x weight : FVec Ideal S16x18432 .f32) :
    FVec Ideal S16x18432x64 .f32 :=
  mulf (φ := .f32) (mulf (φ := .f32) (Host.gather d feat (starts (wrap hn (clip ht y)) (wrap wn (clip wt x))))
      (broadcastInDim S16x18432x64 ![0, 1, 2] bcast_S16x18432x1_S16x18432x64_0_1_2 (valid hl wl y x)))
    (broadcastInDim S16x18432x64 ![0, 1, 2] bcast_S16x18432x1_S16x18432x64_0_1_2
      (broadcastInDim S16x18432x1 ![0, 1] bcast_S16x18432_S16x18432x1_0_1 weight))

/-- The literal one at every point. -/
def one : FVec Ideal S16x18432 .f32 := broadcastInDim S16x18432 ![] bcast_S_S16x18432 (constant S_ .f32 0x3F800000#32)

/-- A normalized coordinate in pixels (`l` the last pixel as a literal). -/
def pixel (l : BitVec 32) (g : FVec Ideal S16x18432 .f32) : FVec Ideal S16x18432 .f32 :=
  mulf (mulf (addf g one) (broadcastInDim S16x18432 ![] bcast_S_S16x18432 (constant S_ .f32 0x3F000000#32)))
    (broadcastInDim S16x18432 ![] bcast_S_S16x18432 (constant S_ .f32 l))

/-- The four corners' sum. -/
def level {H W : ℕ} (d : GatherDims ⟨4, ![16, 64, H, W]⟩ S16x18432x3 S16x18432x64) (ht wt hn wn hl wl : BitVec 32)
    (feat : (⟨4, ![16, 64, H, W]⟩ : Shape).Idx → EReal) (gy gx : FVec Ideal S16x18432 .f32) :
    FVec Ideal S16x18432x64 .f32 :=
  have y := pixel hl gy
  have x := pixel wl gx
  have y0 := Host.floor y
  have x0 := Host.floor x
  have fy := subf y y0
  have fx := subf x x0
  addf (addf (addf (corner d ht wt hn wn hl wl feat y0 x0 (mulf (subf one fx) (subf one fy)))
    (corner d ht wt hn wn hl wl feat y0 (addf x0 one) (mulf fx (subf one fy))))
    (corner d ht wt hn wn hl wl feat (addf y0 one) x0 (mulf (subf one fx) fy)))
    (corner d ht wt hn wn hl wl feat (addf y0 one) (addf x0 one) (mulf fx fy))

/-- The start index along a side of `n` pixels that a clipped and wrapped coordinate names, read as a number. -/
def spot (top n : BitVec 32) (x : EReal) : ℕ :=
  (Scalar.select (IntOp.cmpi .slt (Ideal.fptosi 32 (min ((top.toInt : ℝ) : EReal) (max (((0#32 : BitVec 32).toInt : ℝ) : EReal) x))) 0#32)
    (Ideal.fptosi 32 (min ((top.toInt : ℝ) : EReal) (max (((0#32 : BitVec 32).toInt : ℝ) : EReal) x)) + n)
    (Ideal.fptosi 32 (min ((top.toInt : ℝ) : EReal) (max (((0#32 : BitVec 32).toInt : ℝ) : EReal) x)))).toInt.toNat

/-- A clipped coordinate at one place. -/
theorem wrap_clip_apply (top n : BitVec 32) (x : FVec Ideal S16x18432 .f32) (b : Fin 16) (p : Fin 18432) :
    (wrap n (clip top x) (ix2 b p)).toInt.toNat = spot top n (x (ix2 b p)) := by
  pointwise [wrap, clip]
  rfl

/-- The batch coordinate of a gather is the batch. -/
theorem batchW_apply (b : Fin 16) (p : Fin 18432) : (batchW (ix2 b p)).toInt.toNat = b := by
  pointwise [batchW, batch]
  revert b
  decide +kernel

/-- The three coordinates a gather starts from. -/
theorem starts_apply (y x : IVec S16x18432 32) (b : Fin 16) (p : Fin 18432) :
    starts y x (ix3 b p 0) = batchW (ix2 b p) ∧ starts y x (ix3 b p 1) = y (ix2 b p) ∧ starts y x (ix3 b p 2) = x (ix2 b p) := by
  refine ⟨?_, ?_, ?_⟩ <;> pointwise [starts]

/-- A coordinate that is an integer of the map names itself. -/
theorem spot_int (top n : BitVec 32) (k : ℤ) (h0 : 0 ≤ k) (h1 : k ≤ top.toInt) (h2 : top.toInt < 2 ^ 30) :
    spot top n (((k : ℝ) : ℝ) : EReal) = k.toNat := by
  have e : Ideal.fptosi 32 (min ((top.toInt : ℝ) : EReal) (max (((0#32 : BitVec 32).toInt : ℝ) : EReal) ((k : ℝ) : EReal)))
      = BitVec.ofInt 32 k := by
    have r0 : (0 : ℝ) ≤ (k : ℝ) := by exact_mod_cast h0
    have r1 : (k : ℝ) ≤ (top.toInt : ℝ) := by exact_mod_cast h1
    have z : (((0#32 : BitVec 32).toInt : ℝ) : EReal) = ((0 : ℝ) : EReal) := by norm_num
    rw [z, max_eq_right (by exact_mod_cast r0), min_eq_right (by exact_mod_cast r1)]
    show BitVec.ofInt 32 (max (-((2 ^ (32 - 1) : ℕ) : ℤ)) (min (((2 ^ (32 - 1) : ℕ) : ℤ) - 1)
      (if 0 ≤ (k : ℝ) then ⌊(k : ℝ)⌋ else ⌈(k : ℝ)⌉))) = _
    rw [if_pos r0, Int.floor_intCast]
    congr 1
    norm_num
    omega
  have t : (BitVec.ofInt 32 k).toInt = k := by
    rw [BitVec.toInt_ofInt]
    exact Int.bmod_eq_of_le (by norm_num; omega) (by norm_num; omega)
  unfold spot
  rw [e]
  have c : IntOp.cmpi .slt (BitVec.ofInt 32 k) 0#32 = 0#1 := by
    show BitVec.ofBool ((BitVec.ofInt 32 k).slt 0#32) = 0#1
    rw [BitVec.slt_eq_decide, t, decide_eq_false (by simpa using h0)]
    rfl
  rw [c]
  show (BitVec.ofInt 32 k).toInt.toNat = _
  rw [t]

open Classical in
/-- The validity of a corner is one inside the map and zero outside. -/
theorem valid_apply (hl wl : BitVec 32) (y x : FVec Ideal S16x18432 .f32) (b : Fin 16) (p : Fin 18432) :
    valid hl wl y x (ix3 b p 0)
      = if (0 ≤ x (ix2 b p) ∧ x (ix2 b p) ≤ Ideal.ofBits .f32 wl) ∧ 0 ≤ y (ix2 b p) ∧ y (ix2 b p) ≤ Ideal.ofBits .f32 hl
        then 1 else 0 := by
  pointwise [valid]
  by_cases h1 : 0 ≤ x (ix2 b p) <;> by_cases h2 : x (ix2 b p) ≤ Ideal.ofBits .f32 wl <;>
    by_cases h3 : 0 ≤ y (ix2 b p) <;> by_cases h4 : y (ix2 b p) ≤ Ideal.ofBits .f32 hl <;>
    simp only [h1, h2, h3, h4, decide_true, decide_false, and_true, and_false, true_and, false_and, if_true, if_false] <;>
    first
    | exact (show (((1 : ℕ) : ℝ) : EReal) = 1 by norm_num)
    | exact (show (((0 : ℕ) : ℝ) : EReal) = 0 by norm_num)

/-- The index `k` clamped into a side of `n` pixels. -/
def last {n : ℕ} (h : 0 < n) (k : ℕ) : Fin n := ⟨min k (n - 1), by omega⟩

/-- A feature map's entries as reals, zero beyond the map. -/
def cell {H W : ℕ} (feat : (⟨4, ![16, 64, H, W]⟩ : Shape).Idx → EReal) (b : Fin 16) (c : Fin 64) (h w : ℕ) : ℝ :=
  if k : h < H ∧ w < W then (feat (ix4 b c ⟨h, k.1⟩ ⟨w, k.2⟩)).toReal else 0

section Read

variable {H W : ℕ} (hH : 0 < H) (hW : 0 < W)
  (wf : GatherDims.WF ⟨4, ![16, 64, H, W]⟩ ⟨3, ![16, 18432, 3]⟩ ⟨3, ![16, 18432, 64]⟩
    [2] [0, 2, 3] [] [0, 2, 3] [] 2 ![1, 64, 1, 1])
  (ht wt hn wn hl wl : BitVec 32) (feat : (⟨4, ![16, 64, H, W]⟩ : Shape).Idx → EReal)
  (y x weight : FVec Ideal S16x18432 .f32) (b : Fin 16) (p : Fin 18432) (c : Fin 64)

include hH hW in
/-- A corner at an index, down to scalars. -/
theorem corner_apply :
    corner (Gather.featDims H W wf) ht wt hn wn hl wl feat y x weight (ix3 b p c)
      = feat (ix4 b c (last hH (spot ht hn (y (ix2 b p)))) (last hW (spot wt wn (x (ix2 b p)))))
        * valid hl wl y x (ix3 b p 0) * weight (ix2 b p) := by
  pointwise [corner]
  rw [Gather.feat_apply hH hW wf]
  have hb : (⟨min (starts (wrap hn (clip ht y)) (wrap wn (clip wt x)) (ix3 b p 0)).toInt.toNat (16 - 1), by omega⟩ : Fin 16) = b := by
    refine Fin.ext ?_
    show min _ _ = _
    rw [(starts_apply _ _ b p).1, batchW_apply]
    omega
  simp only [hb, (starts_apply _ _ b p).2.1, (starts_apply _ _ b p).2.2, wrap_clip_apply]
  rfl

variable (hht : ht.toInt = (H : ℤ) - 1) (hwt : wt.toInt = (W : ℤ) - 1) (hhl : Ideal.ofBits .f32 hl = (((H : ℝ) - 1 : ℝ) : EReal))
  (hwl : Ideal.ofBits .f32 wl = (((W : ℝ) - 1 : ℝ) : EReal)) (hHs : H < 2 ^ 30) (hWs : W < 2 ^ 30)
  (hfeat : ∀ i, ∃ r : ℝ, feat i = r)

include hH hW hht hwt hhl hwl hHs hWs hfeat in
/-- A corner at integer coordinates: the entry there, or zero outside the map, times the weight. -/
theorem corner_int (yi xi : ℤ) (hy : y (ix2 b p) = ((yi : ℝ) : EReal)) (hx : x (ix2 b p) = ((xi : ℝ) : EReal)) (wr : ℝ)
    (hw : weight (ix2 b p) = (wr : EReal)) :
    corner (Gather.featDims H W wf) ht wt hn wn hl wl feat y x weight (ix3 b p c)
      = ((cell feat b c yi.toNat xi.toNat * (RealMath.inside W xi * RealMath.inside H yi) * wr : ℝ) : EReal) := by
  classical
  rw [corner_apply hH hW, valid_apply, hw, hhl, hwl]
  rw [hy, hx]
  by_cases h : (0 ≤ xi ∧ xi ≤ (W : ℤ) - 1) ∧ 0 ≤ yi ∧ yi ≤ (H : ℤ) - 1
  · have h' : ((0 : EReal) ≤ ((xi : ℝ) : EReal) ∧ ((xi : ℝ) : EReal) ≤ (((W : ℝ) - 1 : ℝ) : EReal)) ∧
        (0 : EReal) ≤ ((yi : ℝ) : EReal) ∧ ((yi : ℝ) : EReal) ≤ (((H : ℝ) - 1 : ℝ) : EReal) := by
      refine ⟨⟨?_, ?_⟩, ?_, ?_⟩
      · exact_mod_cast h.1.1
      · rw [EReal.coe_le_coe_iff]; exact_mod_cast h.1.2
      · exact_mod_cast h.2.1
      · rw [EReal.coe_le_coe_iff]; exact_mod_cast h.2.2
    rw [if_pos h', RealMath.inside, if_pos h.1, RealMath.inside, if_pos h.2]
    have k : yi.toNat < H ∧ xi.toNat < W := ⟨by omega, by omega⟩
    have e : feat (ix4 b c (last hH (spot ht hn ((yi : ℝ) : EReal))) (last hW (spot wt wn ((xi : ℝ) : EReal))))
        = ((cell feat b c yi.toNat xi.toNat : ℝ) : EReal) := by
      unfold cell
      rw [dif_pos k]
      have e1 : last hH (spot ht hn ((yi : ℝ) : EReal)) = ⟨yi.toNat, k.1⟩ := by
        refine Fin.ext ?_
        show min _ _ = yi.toNat
        rw [spot_int _ _ _ h.2.1 (by omega) (by omega)]
        omega
      have e2 : last hW (spot wt wn ((xi : ℝ) : EReal)) = ⟨xi.toNat, k.2⟩ := by
        refine Fin.ext ?_
        show min _ _ = xi.toNat
        rw [spot_int _ _ _ h.1.1 (by omega) (by omega)]
        omega
      rw [e1, e2]
      obtain ⟨r, hr⟩ := hfeat (ix4 b c ⟨yi.toNat, k.1⟩ ⟨xi.toNat, k.2⟩)
      rw [hr, EReal.toReal_coe]
    rw [e, ← EReal.coe_one, ← EReal.coe_mul, ← EReal.coe_mul]
    norm_num
  · have h' : ¬ (((0 : EReal) ≤ ((xi : ℝ) : EReal) ∧ ((xi : ℝ) : EReal) ≤ (((W : ℝ) - 1 : ℝ) : EReal)) ∧
        (0 : EReal) ≤ ((yi : ℝ) : EReal) ∧ ((yi : ℝ) : EReal) ≤ (((H : ℝ) - 1 : ℝ) : EReal)) := by
      rintro ⟨⟨a1, a2⟩, a3, a4⟩
      refine h ⟨⟨?_, ?_⟩, ?_, ?_⟩
      · exact_mod_cast a1
      · rw [EReal.coe_le_coe_iff] at a2; exact_mod_cast a2
      · exact_mod_cast a3
      · rw [EReal.coe_le_coe_iff] at a4; exact_mod_cast a4
    have z : RealMath.inside W xi * RealMath.inside H yi = 0 := by
      unfold RealMath.inside
      rcases not_and_or.1 h with h | h
      · rw [if_neg h, zero_mul]
      · rw [if_neg h, mul_zero]
    rw [if_neg h', z]
    simp

include hH hW hwl in
/-- A corner at an infinite column is zero, whatever its weight. -/
theorem corner_inf (hx : x (ix2 b p) = ⊤ ∨ x (ix2 b p) = ⊥) :
    corner (Gather.featDims H W wf) ht wt hn wn hl wl feat y x weight (ix3 b p c) = 0 := by
  classical
  rw [corner_apply hH hW, valid_apply, if_neg, mul_zero, zero_mul]
  rintro ⟨⟨a1, a2⟩, -⟩
  rw [hwl] at a2
  rcases hx with hx | hx <;> rw [hx] at a1 a2
  · exact absurd a2 (not_le.2 (EReal.coe_lt_top _))
  · exact absurd a1 (not_le.2 EReal.bot_lt_zero)

end Read

/-- The literal one half. -/
theorem half_lit : Ideal.ofBits .f32 0x3F000000#32 = ((1 / 2 : ℝ) : EReal) := by
  simp [Ideal.ofBits, Ideal.ieee, -EReal.coe_mul]; norm_num

/-- A pixel coordinate at an index. -/
theorem pixel_apply (l : BitVec 32) (g : FVec Ideal S16x18432 .f32) (b : Fin 16) (p : Fin 18432) :
    pixel l g (ix2 b p) = (g (ix2 b p) + 1) * ((1 / 2 : ℝ) : EReal) * Ideal.ofBits .f32 l := by
  pointwise [pixel, one, half_lit]

/-- The floor of an array, entry by entry. -/
theorem floor_read (x : FVec Ideal S16x18432 .f32) (i : S16x18432.Idx) : Host.floor x i = Ideal.liftRound Int.floor (x i) := rfl

/-- The array of ones, entry by entry. -/
theorem one_apply (i : S16x18432.Idx) : one i = 1 := by
  idx_vars i
  pointwise [one]

section Whole

variable {H W : ℕ} (hH : 0 < H) (hW : 2 ≤ W)
  (wf : GatherDims.WF ⟨4, ![16, 64, H, W]⟩ ⟨3, ![16, 18432, 3]⟩ ⟨3, ![16, 18432, 64]⟩
    [2] [0, 2, 3] [] [0, 2, 3] [] 2 ![1, 64, 1, 1])
  (ht wt hn wn hl wl : BitVec 32) (feat : (⟨4, ![16, 64, H, W]⟩ : Shape).Idx → EReal)
  (gy gx : FVec Ideal S16x18432 .f32) (b : Fin 16) (p : Fin 18432) (c : Fin 64)
  (hht : ht.toInt = (H : ℤ) - 1) (hwt : wt.toInt = (W : ℤ) - 1) (hhl : Ideal.ofBits .f32 hl = (((H : ℝ) - 1 : ℝ) : EReal))
  (hwl : Ideal.ofBits .f32 wl = (((W : ℝ) - 1 : ℝ) : EReal)) (hHs : H < 2 ^ 30) (hWs : W < 2 ^ 30)
  (hfeat : ∀ i, ∃ r : ℝ, feat i = r)

include hH hW hht hwt hhl hwl hHs hWs hfeat in
/-- One level's sample: the map interpolated down its rows at `yn` and along its columns at `xs`. -/
theorem level_apply (yn : ℝ) (xs : EReal) (hy : gy (ix2 b p) = ((yn * 2 - 1 : ℝ) : EReal))
    (hx : gx (ix2 b p) = xs * ((2 : ℝ) : EReal) - 1) :
    level (Gather.featDims H W wf) ht wt hn wn hl wl feat gy gx (ix3 b p c)
      = ((RealMath.sample W (fun w => ∑ h : Fin H, cell feat b c h w * RealMath.hat (yn * ((H : ℝ) - 1)) (h : ℕ)) xs : ℝ) : EReal) := by
  have hW0 : 0 < W := by omega
  have py : pixel hl gy (ix2 b p) = ((yn * ((H : ℝ) - 1) : ℝ) : EReal) := by
    rw [pixel_apply, hy, hhl, ← EReal.coe_one, ← EReal.coe_add, ← EReal.coe_mul, ← EReal.coe_mul]
    congr 1; ring
  have hp : (0 : ℝ) < (W : ℝ) - 1 := by
    have : (2 : ℝ) ≤ W := by exact_mod_cast hW
    linarith
  show corner _ _ _ _ _ _ _ _ _ _ _ _ + corner _ _ _ _ _ _ _ _ _ _ _ _ + corner _ _ _ _ _ _ _ _ _ _ _ _
    + corner _ _ _ _ _ _ _ _ _ _ _ _ = _
  have y0 : Host.floor (pixel hl gy) (ix2 b p) = (((⌊yn * ((H : ℝ) - 1)⌋ : ℤ) : ℝ) : EReal) := by
    rw [floor_read, py]; rfl
  have y1 : addf (Host.floor (pixel hl gy)) one (ix2 b p) = (((⌊yn * ((H : ℝ) - 1)⌋ + 1 : ℤ) : ℝ) : EReal) := by
    show Host.floor (pixel hl gy) (ix2 b p) + one (ix2 b p) = _
    rw [y0, one_apply]; push_cast; rfl
  induction xs using EReal.rec with
  | bot =>
    have px : pixel wl gx (ix2 b p) = ⊥ := by
      rw [pixel_apply, hx, hwl, EReal.bot_mul_coe_of_pos (by norm_num), EReal.bot_sub, EReal.bot_add, EReal.bot_mul_coe_of_pos (by norm_num), EReal.bot_mul_coe_of_pos hp]
    have x0 : Host.floor (pixel wl gx) (ix2 b p) = ⊥ := by rw [floor_read, px]; rfl
    have x1 : addf (Host.floor (pixel wl gx)) one (ix2 b p) = ⊥ := by
      show Host.floor (pixel wl gx) (ix2 b p) + one (ix2 b p) = _
      rw [x0]; exact EReal.bot_add _
    rw [corner_inf hH hW0 wf ht wt hn wn hl wl feat _ _ _ b p c hwl (Or.inr x0), corner_inf hH hW0 wf ht wt hn wn hl wl feat _ _ _ b p c hwl (Or.inr x1),
      corner_inf hH hW0 wf ht wt hn wn hl wl feat _ _ _ b p c hwl (Or.inr x0), corner_inf hH hW0 wf ht wt hn wn hl wl feat _ _ _ b p c hwl (Or.inr x1),
      RealMath.sample_bot]
    simp
  | top =>
    have px : pixel wl gx (ix2 b p) = ⊤ := by
      rw [pixel_apply, hx, hwl, EReal.top_mul_coe_of_pos (by norm_num), ← EReal.coe_one, EReal.top_sub_coe, EReal.top_add_coe,
        EReal.top_mul_coe_of_pos (by norm_num), EReal.top_mul_coe_of_pos hp]
    have x0 : Host.floor (pixel wl gx) (ix2 b p) = ⊤ := by rw [floor_read, px]; rfl
    have x1 : addf (Host.floor (pixel wl gx)) one (ix2 b p) = ⊤ := by
      show Host.floor (pixel wl gx) (ix2 b p) + one (ix2 b p) = _
      rw [x0, one_apply, ← EReal.coe_one, EReal.top_add_coe]
    rw [corner_inf hH hW0 wf ht wt hn wn hl wl feat _ _ _ b p c hwl (Or.inl x0), corner_inf hH hW0 wf ht wt hn wn hl wl feat _ _ _ b p c hwl (Or.inl x1),
      corner_inf hH hW0 wf ht wt hn wn hl wl feat _ _ _ b p c hwl (Or.inl x0), corner_inf hH hW0 wf ht wt hn wn hl wl feat _ _ _ b p c hwl (Or.inl x1),
      RealMath.sample_top]
    simp
  | coe x =>
    have px : pixel wl gx (ix2 b p) = ((x * ((W : ℝ) - 1) : ℝ) : EReal) := by
      rw [pixel_apply, hx, hwl, ← EReal.coe_mul, ← EReal.coe_one, ← EReal.coe_sub, ← EReal.coe_add, ← EReal.coe_mul, ← EReal.coe_mul]
      congr 1; ring
    have x0 : Host.floor (pixel wl gx) (ix2 b p) = (((⌊x * ((W : ℝ) - 1)⌋ : ℤ) : ℝ) : EReal) := by
      rw [floor_read, px]; rfl
    have x1 : addf (Host.floor (pixel wl gx)) one (ix2 b p) = (((⌊x * ((W : ℝ) - 1)⌋ + 1 : ℤ) : ℝ) : EReal) := by
      show Host.floor (pixel wl gx) (ix2 b p) + one (ix2 b p) = _
      rw [x0, one_apply]; push_cast; rfl
    have fy : subf (pixel hl gy) (Host.floor (pixel hl gy)) (ix2 b p) = ((yn * ((H : ℝ) - 1) - ⌊yn * ((H : ℝ) - 1)⌋ : ℝ) : EReal) := by
      show pixel hl gy (ix2 b p) - Host.floor (pixel hl gy) (ix2 b p) = _
      rw [y0, py]; rfl
    have fx : subf (pixel wl gx) (Host.floor (pixel wl gx)) (ix2 b p) = ((x * ((W : ℝ) - 1) - ⌊x * ((W : ℝ) - 1)⌋ : ℝ) : EReal) := by
      show pixel wl gx (ix2 b p) - Host.floor (pixel wl gx) (ix2 b p) = _
      rw [x0, px]; rfl
    have gy1 : subf one (subf (pixel hl gy) (Host.floor (pixel hl gy))) (ix2 b p)
        = ((1 - (yn * ((H : ℝ) - 1) - ⌊yn * ((H : ℝ) - 1)⌋) : ℝ) : EReal) := by
      show one (ix2 b p) - subf (pixel hl gy) (Host.floor (pixel hl gy)) (ix2 b p) = _
      rw [one_apply, fy]; rfl
    have gx1 : subf one (subf (pixel wl gx) (Host.floor (pixel wl gx))) (ix2 b p)
        = ((1 - (x * ((W : ℝ) - 1) - ⌊x * ((W : ℝ) - 1)⌋) : ℝ) : EReal) := by
      show one (ix2 b p) - subf (pixel wl gx) (Host.floor (pixel wl gx)) (ix2 b p) = _
      rw [one_apply, fx]; rfl
    have mul : ∀ (u v : FVec Ideal S16x18432 .f32) (r q : ℝ), u (ix2 b p) = (r : EReal) → v (ix2 b p) = (q : EReal) →
        mulf u v (ix2 b p) = ((r * q : ℝ) : EReal) := fun u v r q hu hv => by
      show u (ix2 b p) * v (ix2 b p) = _
      rw [hu, hv, EReal.coe_mul]
    rw [corner_int hH hW0 wf ht wt hn wn hl wl feat _ _ _ b p c hht hwt hhl hwl hHs hWs hfeat _ _ y0 x0 _ (mul _ _ _ _ gx1 gy1),
      corner_int hH hW0 wf ht wt hn wn hl wl feat _ _ _ b p c hht hwt hhl hwl hHs hWs hfeat _ _ y0 x1 _ (mul _ _ _ _ fx gy1),
      corner_int hH hW0 wf ht wt hn wn hl wl feat _ _ _ b p c hht hwt hhl hwl hHs hWs hfeat _ _ y1 x0 _ (mul _ _ _ _ gx1 fy),
      corner_int hH hW0 wf ht wt hn wn hl wl feat _ _ _ b p c hht hwt hhl hwl hHs hWs hfeat _ _ y1 x1 _ (mul _ _ _ _ fx fy),
      RealMath.sample_coe, RealMath.hat_sum W (fun w => ∑ h : Fin H, cell feat b c h w * RealMath.hat (yn * ((H : ℝ) - 1)) (h : ℕ)),
      ← EReal.coe_add, ← EReal.coe_add, ← EReal.coe_add]
    simp only [fun w => RealMath.hat_sum H (fun h => cell feat b c h w)]
    congr 1
    ring

end Whole

end Cert.Level

end
-- ==== Proof.Softmax.lean ====
/- A softmax taken with powers of two of scaled scores, no maximum subtracted, is the softmax with exponentials and
   the maximum subtracted: for real scores the shift cancels in the quotient. -/
module

public import proofs.«01_k».proof.Proof.RealMath
public import Mathlib.Analysis.SpecialFunctions.Pow.Real

@[expose] public section

noncomputable section

namespace Cert.RealMath

open Idealize.ShloMosaic

/-- The exponential of a real. -/
theorem exp_coe (r : ℝ) : Ideal.exp (r : EReal) = ((Real.exp r : ℝ) : EReal) := rfl

/-- The power of two of a real. -/
theorem exp2_coe (r : ℝ) : Ideal.exp2 (r : EReal) = ((Real.exp (r * Real.log 2) : ℝ) : EReal) := by
  show (((2 : ℝ) ^ r : ℝ) : EReal) = _
  rw [Real.rpow_def_of_pos (by norm_num), mul_comm]

/-- The quotient of two reals, the second not zero. -/
theorem div_coe_coe (a b : ℝ) (hb : b ≠ 0) : Ideal.div (a : EReal) (b : EReal) = ((a / b : ℝ) : EReal) := by
  rw [Ideal.div_coe hb, ← EReal.coe_mul, one_div, ← div_eq_mul_inv]

/-- The quotient does not see a shift of all scores. -/
theorem softmax_shift {ι : Type*} [Fintype ι] [Nonempty ι] (S : ι → ℝ) (M : ℝ) (i : ι) :
    Real.exp (S i - M) / ∑ j, Real.exp (S j - M) = Real.exp (S i) / ∑ j, Real.exp (S j) := by
  have h : ∀ j, Real.exp (S j - M) = Real.exp (S j) * Real.exp (-M) := fun j => by rw [← Real.exp_add]; rfl
  simp only [h, ← Finset.sum_mul]
  exact mul_div_mul_right _ _ (Real.exp_pos _).ne'

/-- A sum of exponentials is not zero. -/
theorem sum_exp_ne {ι : Type*} [Fintype ι] [Nonempty ι] (S : ι → ℝ) : ∑ j, Real.exp (S j) ≠ 0 :=
  (Finset.sum_pos (fun j _ => Real.exp_pos _) Finset.univ_nonempty).ne'

/-- The softmax of real scores: what both programs' attention rows are. -/
def softmax {ι : Type*} [Fintype ι] (S : ι → ℝ) (i : ι) : ℝ := Real.exp (S i) / ∑ j, Real.exp (S j)

/-- The quotient of exponentials with a real number subtracted from every score is the softmax. -/
theorem softmax_exp {ι : Type*} [Fintype ι] [Nonempty ι] (S : ι → ℝ) (M : ℝ) (i : ι) :
    Ideal.div (Ideal.exp ((S i : EReal) - (M : EReal))) (∑ j, Ideal.exp ((S j : EReal) - (M : EReal)))
      = ((softmax S i : ℝ) : EReal) := by
  simp only [← EReal.coe_sub, exp_coe]
  rw [← coe_sum, div_coe_coe _ _ (sum_exp_ne fun j => S j - M), softmax_shift]
  rfl

/-- The quotient of powers of two of the scores, scaled by log two's inverse, is the softmax. -/
theorem softmax_exp2 {ι : Type*} [Fintype ι] [Nonempty ι] (S T : ι → ℝ) (h : ∀ j, T j * Real.log 2 = S j) (i : ι) :
    Ideal.div (Ideal.exp2 (T i : EReal)) (∑ j, Ideal.exp2 (T j : EReal)) = ((softmax S i : ℝ) : EReal) := by
  simp only [exp2_coe, h]
  rw [← coe_sum, div_coe_coe _ _ (sum_exp_ne S)]
  rfl

/-- Folding the maximum over a list of reals from minus infinity gives minus infinity only for the empty list. -/
theorem foldl_max_real {ι : Type*} (l : List ι) (f : ι → ℝ) (a : EReal) (ha : a ≠ ⊤) :
    ∃ b : EReal, l.foldl (fun acc i => max acc (f i : EReal)) a = b ∧ b ≠ ⊤ ∧ (l ≠ [] ∨ a ≠ ⊥ → b ≠ ⊥) := by
  induction l generalizing a with
  | nil => exact ⟨a, rfl, ha, fun h => h.resolve_left (fun h => h rfl)⟩
  | cons x l ih =>
    have h1 : max a (f x : EReal) ≠ ⊤ := by
      rcases max_choice a (f x : EReal) with h | h <;> rw [h]
      · exact ha
      · exact EReal.coe_ne_top _
    have h2 : max a (f x : EReal) ≠ ⊥ := fun h => EReal.coe_ne_bot (f x) (le_bot_iff.1 (h ▸ le_max_right a (f x : EReal)))
    obtain ⟨b, hb, hb1, hb2⟩ := ih _ h1
    exact ⟨b, hb, hb1, fun _ => hb2 (Or.inr h2)⟩

end Cert.RealMath

end
-- ==== Proof.RefGrid.lean ====
/- The reference's sampling grid: where each point of a prior samples, and the weights of the three levels. -/
module
public import proofs.«01_k».proof.Proof.Gen.ReferenceIdeal.Run
public import proofs.«01_k».proof.Proof.Level
public import proofs.«01_k».proof.Proof.Softmax
public import Idealize.ShloMosaic.Lib.Pointwise
@[expose] public section
set_option maxRecDepth 16384
noncomputable section

namespace Cert.RefGrid

open Idealize.ShloMosaic Idealize.ShloMosaic.TcCoe Idealize.SL.Sem Idealize.ShloMosaic.StableHlo Cert.ReferenceIdeal Cert.ReferenceIdeal.Gen Cert.ReferenceIdeal.Value

variable (V0 : Valuation τ sig (Elt Ideal))

/-- The literal 71. -/
theorem lit71 : Ideal.ofBits .f32 0x428E0000#32 = ((71 : ℝ) : EReal) := by
  simp [Ideal.ofBits, Ideal.ieee, -EReal.coe_mul, -EReal.coe_sub]; norm_num

/-- The literal 35. -/
theorem lit35 : Ideal.ofBits .f32 0x420C0000#32 = ((35 : ℝ) : EReal) := by
  simp [Ideal.ofBits, Ideal.ieee, -EReal.coe_mul, -EReal.coe_sub]; norm_num

/-- The literal two. -/
theorem lit2 : Ideal.ofBits .f32 0x40000000#32 = ((2 : ℝ) : EReal) := by
  simp [Ideal.ofBits, Ideal.ieee, -EReal.coe_mul, -EReal.coe_sub]; norm_num

/-- Minus infinity's literal. -/
theorem lit_bot : Ideal.ofBits .f32 0xFF800000#32 = ⊥ := by
  simp [Ideal.ofBits, Ideal.ieee]

/-- A small natural number as a word, read as a real. -/
theorem word_real (k : ℕ) (h : k < 1000) : (FloatOps.sitofp (F := Ideal) .f32 (BitVec.ofNat 32 k) : EReal) = ((k : ℝ) : EReal) := by
  show (((BitVec.ofNat 32 k).toInt : ℝ) : EReal) = _
  rw [BitVec.toInt_eq_toNat_of_lt (by rw [BitVec.toNat_ofNat]; omega), BitVec.toNat_ofNat, Nat.mod_eq_of_lt (by omega)]
  norm_cast

/-- A nonnegative real of small size truncates to its floor as a word. -/
theorem trunc_real (r : ℝ) (k : ℕ) (h : k < 1000) (h0 : (k : ℝ) ≤ r) (h1 : r < k + 1) :
    (FloatOps.fptosi (F := Ideal) (φ := .f32) 32 ((r : EReal)) : BitVec 32) = BitVec.ofNat 32 k := by
  have hr : (0 : ℝ) ≤ r := le_trans (Nat.cast_nonneg k) h0
  have hf : ⌊r⌋ = (k : ℤ) := by
    rw [Int.floor_eq_iff, Int.cast_natCast]; exact ⟨h0, h1⟩
  show BitVec.ofInt 32 (max (-((2 ^ (32 - 1) : ℕ) : ℤ)) (min (((2 ^ (32 - 1) : ℕ) : ℤ) - 1) (if 0 ≤ r then ⌊r⌋ else ⌈r⌉))) = _
  rw [if_pos hr, hf, ← BitVec.ofInt_natCast]
  congr 1
  norm_num
  omega

/-- The largest of finitely many reals, from minus infinity, is a real. -/
theorem fold_max_real {ι : Type*} (s : Finset ι) (f : ι → EReal) (hs : s.Nonempty) (hf : ∀ i ∈ s, ∃ r : ℝ, f i = r) :
    ∃ r : ℝ, s.fold max ⊥ f = r := by
  classical
  induction hs using Finset.Nonempty.cons_induction with
  | singleton a =>
    obtain ⟨r, hr⟩ := hf a (Finset.mem_singleton_self a)
    exact ⟨r, by rw [Finset.fold_singleton, hr]; exact max_eq_left bot_le⟩
  | cons a t ha ht ih =>
    obtain ⟨r, hr⟩ := hf a (Finset.mem_cons_self a t)
    obtain ⟨q, hq⟩ := ih fun i hi => hf i (Finset.mem_cons_of_mem hi)
    exact ⟨max r q, by rw [Finset.fold_cons, hr, hq, RealMath.coe_max]⟩

/-- The largest of the reals a condition picks, from minus infinity, is a real, however the condition is decided. -/
theorem fold_max_filter {ι : Type*} [Fintype ι] (p : ι → Prop) (f : ι → EReal) (hs : ∃ i, p i) (hf : ∀ i, ∃ r : ℝ, f i = r) :
    ∃ r : ℝ, ∀ inst : DecidablePred p, (@Finset.filter _ p inst Finset.univ).fold max ⊥ f = r := by
  classical
  obtain ⟨i, hi⟩ := hs
  obtain ⟨r, hr⟩ := fold_max_real (Finset.univ.filter p) f ⟨i, Finset.mem_filter.2 ⟨Finset.mem_univ i, hi⟩⟩ fun i _ => hf i
  exact ⟨r, fun inst => by rw [← hr]; congr 2⟩

/-- The strip index of point `s`. -/
theorem v3_at (s : Fin 36) : res_main_v3 V0 (ix1 s) = BitVec.ofNat 32 (71 * (s : ℕ) / 35) := by
  have hz : id (constant (F := Ideal) S_ .f32 0x00000000#32) ix0 = ((0 : ℝ) : EReal) := by
    show constant (F := Ideal) S_ .f32 0x00000000#32 ix0 = _
    pointwise []
    rfl
  have h1 : id (constant (F := Ideal) S_ .f32 0x3F800000#32) ix0 = ((1 : ℝ) : EReal) := by
    show constant (F := Ideal) S_ .f32 0x3F800000#32 ix0 = _
    pointwise []
    rfl
  unfold res_main_v3 res_main_call0_v0 res_main_call0_v1 res_main_call0_v6
  pointwise []
  rw [hz, h1, word_real _ (by omega), lit35, lit71, RealMath.div_coe_coe _ _ (by norm_num), ← EReal.coe_one, ← EReal.coe_sub,
    ← EReal.coe_mul, ← EReal.coe_mul, ← EReal.coe_add]
  have hd := Nat.div_add_mod (71 * (s : ℕ)) 35
  have hm := Nat.mod_lt (71 * (s : ℕ)) (by norm_num : 0 < 35)
  have e : (71 : ℝ) * ((s : ℕ) : ℝ) = 35 * ((71 * (s : ℕ) / 35 : ℕ) : ℝ) + ((71 * (s : ℕ) % 35 : ℕ) : ℝ) := by exact_mod_cast hd.symm
  have hm' : ((71 * (s : ℕ) % 35 : ℕ) : ℝ) < 35 := by exact_mod_cast hm
  have hm0 : (0 : ℝ) ≤ ((71 * (s : ℕ) % 35 : ℕ) : ℝ) := Nat.cast_nonneg _
  split
  · rw [← EReal.coe_mul]
    refine trunc_real _ _ (by omega) ?_ ?_ <;> linarith
  · have hs : (s : ℕ) = 35 := by omega
    rw [← EReal.coe_mul, hs]
    refine trunc_real _ _ (by norm_num) ?_ ?_ <;> norm_num

/-- The prior's column of a strip: four past the strip's index, never wrapped nor clamped. -/
theorem strip_col : ∀ k : Fin 36, (min (Scalar.select (IntOp.cmpi .slt (IntOp.addi 4#32 (BitVec.ofNat 32 (71 * (k : ℕ) / 35))) 0#32)
    (IntOp.addi (IntOp.addi 4#32 (BitVec.ofNat 32 (71 * (k : ℕ) / 35))) 76#32) (IntOp.addi 4#32 (BitVec.ofNat 32 (71 * (k : ℕ) / 35)))).toInt.toNat (76 - 1))
    = 4 + 71 * (k : ℕ) / 35 := by decide +kernel

/-- The prior's columns as the gather's start indices. -/
def cols : IVec S36x1 32 :=
  broadcastInDim S36x1 ![0] bcast_S36_S36x1_0 (select (cmpi .slt (res_main_v11 V0) (broadcastInDim S36 ![] bcast_S_S36 (constantI S_ 32 0#32)))
    (addi (res_main_v11 V0) (broadcastInDim S36 ![] bcast_S_S36 (constantI S_ 32 76#32))) (res_main_v11 V0))

/-- The start index of point `s` names the column four past its strip. -/
theorem cols_at (s : Fin 36) : min (cols V0 (ix2 s 0)).toInt.toNat (76 - 1) = 4 + 71 * (s : ℕ) / 35 := by
  have e : cols V0 (ix2 s 0) = Scalar.select (IntOp.cmpi .slt (IntOp.addi 4#32 (BitVec.ofNat 32 (71 * (s : ℕ) / 35))) 0#32)
      (IntOp.addi (IntOp.addi 4#32 (BitVec.ofNat 32 (71 * (s : ℕ) / 35))) 76#32) (IntOp.addi 4#32 (BitVec.ofNat 32 (71 * (s : ℕ) / 35))) := by
    unfold cols res_main_v11
    pointwise []
    rw [v3_at]
  rw [e]
  exact strip_col s

/-- The gathered column at an index. -/
theorem gathered_at (X : FVec Ideal S16x512x76 .f32) (b : Fin 16) (n : Fin 512) (s : Fin 36) :
    Host.gather gather_S16x512x76_S36x1_S16x512x36_01_2_n_n_2_1_165121 X (cols V0) (ix3 b n s.rev)
      = X (ix3 b n ⟨4 + 71 * (35 - (s : ℕ)) / 35, by omega⟩) := by
  have hs : (s.rev : ℕ) = 35 - (s : ℕ) := by rw [Fin.val_rev]; omega
  refine (Gather.col_apply gather_S16x512x76_S36x1_S16x512x36_01_2_n_n_2_1_165121_wf X (cols V0) b n s.rev).trans ?_
  exact congrArg (fun k => X (ix3 b n k)) (Fin.ext ((cols_at V0 s.rev).trans (congrArg (fun k => 4 + 71 * k / 35) hs)))

/-- The column a point samples at, on the grid from minus one to one. -/
theorem v24_at (X : FVec Ideal S16x512x76 .f32) (hX : V0 (Proc.devRef .tc main_arg3) = X) (b : Fin 16) (n : Fin 512) (s : Fin 36) :
    res_main_v24 V0 (ix2 b ⟨36 * (n : ℕ) + s, by omega⟩)
      = X (ix3 b n ⟨4 + 71 * (35 - (s : ℕ)) / 35, by omega⟩) * ((2 : ℝ) : EReal) - 1 := by
  have hc := gathered_at V0 X b n s
  unfold cols at hc
  unfold res_main_v24
  rw [hX]
  pointwise []
  rw [lit2, ← hc]
  rfl

/-- The row a point samples at, on the grid from minus one to one. -/
theorem v31_at (b : Fin 16) (n : Fin 512) (s : Fin 36) :
    res_main_v31 V0 (ix2 b ⟨36 * (n : ℕ) + s, by omega⟩)
      = (((1 - ((71 * (35 - (s : ℕ)) / 35 : ℕ) : ℝ) / 71) * 2 - 1 : ℝ) : EReal) := by
  unfold res_main_v31
  pointwise []
  show (1 - Ideal.div (FloatOps.sitofp (F := Ideal) .f32 (res_main_v3 V0 (ix1 s.rev))) (Ideal.ofBits .f32 0x428E0000#32))
    * Ideal.ofBits .f32 0x40000000#32 - 1 = _
  rw [v3_at]
  have hs : (s.rev : ℕ) = 35 - (s : ℕ) := by rw [Fin.val_rev]; omega
  rw [hs, word_real _ (by omega), lit71, lit2, RealMath.div_coe_coe _ _ (by norm_num), ← EReal.coe_one, ← EReal.coe_sub, ← EReal.coe_mul,
    ← EReal.coe_sub]

section Weights
variable (ζ : Fin 36 → ℝ) (hz : ∀ s, V0 (Proc.devRef .tc main_arg4) (ix1 s) = ((ζ s : ℝ) : EReal))
include hz

/-- A level's score. -/
theorem v41_at (s : Fin 36) (l : Fin 3) :
    res_main_v41 V0 (ix2 s l) = ((-((ζ s - (l : ℕ)) * (ζ s - (l : ℕ))) / 2 : ℝ) : EReal) := by
  unfold res_main_v41 res_main_v37
  pointwise []
  rw [hz, word_real _ (by omega), lit2, ← EReal.coe_sub, ← EReal.coe_mul, ← EReal.coe_neg, RealMath.div_coe_coe _ _ (by norm_num)]

/-- A level's exponential, some real number subtracted from its score. -/
theorem v48_at (s : Fin 36) :
    ∃ M : ℝ, ∀ l : Fin 3, res_main_v48 V0 (ix2 s l)
      = Ideal.exp (((-((ζ s - (l : ℕ)) * (ζ s - (l : ℕ))) / 2 : ℝ) : EReal) - (M : EReal)) := by
  obtain ⟨M, hM⟩ := fold_max_filter (fun i => reducesTo_S36x3_S36_d1.drop i = ix1 s) (res_main_v41 V0)
    ⟨ix2 s 0, funext fun a => by fin_cases a; rfl⟩
    (fun i => ⟨_, (congrArg (res_main_v41 V0) (show i = ix2 (i 0) (i 1) from funext fun a => by fin_cases a <;> rfl)).trans
      (v41_at V0 ζ hz (i 0) (i 1))⟩)
  refine ⟨M, fun l => ?_⟩
  unfold res_main_v48
  pointwise []
  rw [lit_bot, v41_at V0 ζ hz, max_eq_right bot_le]
  refine congrArg (fun q => Ideal.exp (_ - q)) ?_
  exact hM _

/-- A level's weight is the softmax of the three scores. -/
theorem v52_at (s : Fin 36) (l : Fin 3) :
    res_main_v52 V0 (ix2 s l) = ((RealMath.softmax (fun l : Fin 3 => -((ζ s - (l : ℕ)) * (ζ s - (l : ℕ))) / 2) l : ℝ) : EReal) := by
  obtain ⟨M, hM⟩ := v48_at V0 ζ hz s
  unfold res_main_v52
  pointwise []
  simp only [hM]
  exact RealMath.softmax_exp (fun l : Fin 3 => -((ζ s - (l : ℕ)) * (ζ s - (l : ℕ))) / 2) M l
end Weights

end Cert.RefGrid
-- ==== Proof.Rows.lean ====
module
public import proofs.«01_k».proof.Proof.Gen.KernelIdeal.Frame
public import proofs.«01_k».proof.Proof.RealMath
public import Idealize.ShloMosaic.Lib.Pipeline.ValueKit
public import Idealize.ShloMosaic.Lib.Pipeline.ReadBack
public import Idealize.ShloMosaic.Lib.Pointwise
public import Idealize.ShloMosaic.Lib.VecWindow
@[expose] public section
set_option maxRecDepth 16384
noncomputable section

/-! # The rows and columns the kernel stages in scratch, and the closed form of one sampled feature -/

namespace Cert.Rows

open Idealize.ShloMosaic Idealize.ShloMosaic.TcCoe Idealize.SL.Sem Cert.KernelIdeal Cert.KernelIdeal.Gen

/-- Row `h` of channel `c` of a feature map of `H` rows, at column `w`; zero past the last row. -/
def rowAt {H W : ℕ} (X : FVec Ideal ⟨4, ![1, 64, H, W]⟩ .f32) (c : Fin 64) (h : ℕ) (w : Fin W) : EReal :=
  if hh : h < H then X (ix4 0 c ⟨h, hh⟩ w) else 0

/-- The numerator, over 71, of the height at which point `s` of a prior samples the maps. -/
def num (s : ℕ) : ℕ := 71 - 71 * (35 - s) / 35

/-- Two neighbouring rows blended at height `N / 71` of the map, with the level's weight `z` folded in; a height that
falls on a row takes that row alone. -/
def blend (row : ℕ → EReal) (z : EReal) (H N : ℕ) : EReal :=
  if N * (H - 1) % 71 = 0 then row (N * (H - 1) / 71) * z
  else row (N * (H - 1) / 71) * ((((71 - N * (H - 1) % 71 : ℕ) / 71 : ℝ) : EReal) * z)
    + row (N * (H - 1) / 71 + 1) * ((((N * (H - 1) % 71 : ℕ) / 71 : ℝ) : EReal) * z)

/-- One level's share of a sampled feature: the blended row against the hat at column `x (W − 1)`. -/
def share {H W : ℕ} (X : FVec Ideal ⟨4, ![1, 64, H, W]⟩ .f32) (z x : EReal) (N : ℕ) (c : Fin 64) : EReal :=
  ∑ w : Fin W, blend (fun h => rowAt X c h w) z H N * RealMath.hatE (x * (((W : ℝ) - 1 : ℝ) : EReal)) ((w : ℕ) : ℝ)

/-- Coordinate `o` of every prior. -/
def coord (X : FVec Ideal S1x512x76 .f32) (o : ℕ) (n : Fin 512) : EReal := if h : o < 76 then X (ix3 0 n ⟨o, h⟩) else 0

/-- The three levels' shares of channel `c` of point `s` of prior `n`. -/
def feature (x0 : FVec Ideal S1x64x40x100 .f32) (x1 : FVec Ideal S1x64x20x50 .f32) (x2 : FVec Ideal S1x64x10x25 .f32)
    (x3 : FVec Ideal S1x512x76 .f32) (z0 z1 z2 : FVec Ideal S36x1 .f32) (s : ℕ) (hs : s < 36) (c : Fin 64) (n : Fin 512) : EReal :=
  share x0 (z0 (ix2 ⟨s, hs⟩ 0)) (coord x3 (75 - num s) n) (num s) c
    + share x1 (z1 (ix2 ⟨s, hs⟩ 0)) (coord x3 (75 - num s) n) (num s) c
    + share x2 (z2 (ix2 ⟨s, hs⟩ 0)) (coord x3 (75 - num s) n) (num s) c

/-- The pooled features of group `g`: six points of 64 channels down, one prior across. -/
def pooled (x0 : FVec Ideal S1x64x40x100 .f32) (x1 : FVec Ideal S1x64x20x50 .f32) (x2 : FVec Ideal S1x64x10x25 .f32)
    (x3 : FVec Ideal S1x512x76 .f32) (z0 z1 z2 : FVec Ideal S36x1 .f32) (g : ℕ) (hg : g < 6) (i : S384x512.Idx) : EReal :=
  feature x0 x1 x2 x3 z0 z1 z2 (6 * g + (i 0 : ℕ) / 64) (by have : (i 0 : ℕ) < 384 := (i 0).isLt; omega)
    ⟨(i 0 : ℕ) % 64, Nat.mod_lt _ (by decide)⟩ (i 1)

/-- A fact of every pair of coordinates is a fact of every index. -/
theorem forall_ix2 {a b : ℕ} {P : (⟨2, ![a, b]⟩ : Shape).Idx → Prop} (h : ∀ i j, P (ix2 i j)) : ∀ x, P x := by
  intro x
  have e : x = ix2 (x 0) (x 1) := by funext k; fin_cases k <;> rfl
  rw [e]; exact h _ _

/-- The pooled features of a group at channel `i` of its point `l`. -/
theorem pooled_at (x0 : FVec Ideal S1x64x40x100 .f32) (x1 : FVec Ideal S1x64x20x50 .f32) (x2 : FVec Ideal S1x64x10x25 .f32)
    (x3 : FVec Ideal S1x512x76 .f32) (z0 z1 z2 : FVec Ideal S36x1 .f32) (g : ℕ) (hg : g < 6) (l o : ℕ) (hl : l < 6) (ho : o = 64 * l)
    (inb : ∀ a, (![o, 0] : Fin 2 → ℕ) a + S64x512.size a ≤ S384x512.size a) (i : Fin 64) (j : Fin 512) :
    pooled x0 x1 x2 x3 z0 z1 z2 g hg ((Rect.unit (s := S384x512) ![o, 0] S64x512.size inb).emb (ix2 i j : S64x512.Idx))
      = feature x0 x1 x2 x3 z0 z1 z2 (6 * g + l) (by omega) i j := by
  subst ho
  unfold pooled
  have h0 : ((Rect.unit (s := S384x512) ![64 * l, 0] S64x512.size inb).emb (ix2 i j : S64x512.Idx) 0 : ℕ) = 64 * l + 1 * (i : ℕ) := rfl
  have h1 : (Rect.unit (s := S384x512) ![64 * l, 0] S64x512.size inb).emb (ix2 i j : S64x512.Idx) 1 = j := by
    apply Fin.ext; show 0 + 1 * (j : ℕ) = j; omega
  have hi := i.isLt
  have e0 : 6 * g + ((Rect.unit (s := S384x512) ![64 * l, 0] S64x512.size inb).emb (ix2 i j : S64x512.Idx) 0 : ℕ) / 64 = 6 * g + l := by
    rw [h0]; omega
  have e1 : (⟨((Rect.unit (s := S384x512) ![64 * l, 0] S64x512.size inb).emb (ix2 i j : S64x512.Idx) 0 : ℕ) % 64, Nat.mod_lt _ (by decide)⟩ : Fin 64) = i := by
    apply Fin.ext; show _ % 64 = _; rw [h0]; omega
  rw [e1, h1]
  simp only [e0]

/-- Every index of the pooled scratch lies in one of the six blocks of a group. -/
theorem group_cover (p0 p1 p2 p3 p4 p5 : S64x512.Idx → Elt Ideal .f32) (i0 i1 i2 i3 i4 i5) (y : S384x512.Idx) :
    ∃ p ∈ ([⟨Rect.unit ![320, 0] S64x512.size i5, p5⟩, ⟨Rect.unit ![256, 0] S64x512.size i4, p4⟩,
      ⟨Rect.unit ![192, 0] S64x512.size i3, p3⟩, ⟨Rect.unit ![128, 0] S64x512.size i2, p2⟩,
      ⟨Rect.unit ![64, 0] S64x512.size i1, p1⟩, ⟨Rect.unit ![0, 0] S64x512.size i0, p0⟩] : List (View.Piece (Elt Ideal) S384x512 .f32)),
      y ∈ p.1.set :=
  View.cover_of_tiledBy _ ![64, 512] (by sl_kernel_rfl) y

/-- Six stores of a group's points, over whatever was stored before, read back as the group's pooled features. -/
theorem group_read {sp : Space} (v : View sig .tc sp S384x512 .f32) (L : List (View.Piece (Elt Ideal) S384x512 .f32))
    (x0 : FVec Ideal S1x64x40x100 .f32) (x1 : FVec Ideal S1x64x20x50 .f32) (x2 : FVec Ideal S1x64x10x25 .f32)
    (x3 : FVec Ideal S1x512x76 .f32) (z0 z1 z2 : FVec Ideal S36x1 .f32) (g : ℕ) (hg : g < 6)
    (p0 p1 p2 p3 p4 p5 : S64x512.Idx → Elt Ideal .f32) (i0 i1 i2 i3 i4 i5 i6)
    (h0 : ∀ i j, p0 (ix2 i j) = feature x0 x1 x2 x3 z0 z1 z2 (6 * g + 0) (by omega) i j)
    (h1 : ∀ i j, p1 (ix2 i j) = feature x0 x1 x2 x3 z0 z1 z2 (6 * g + 1) (by omega) i j)
    (h2 : ∀ i j, p2 (ix2 i j) = feature x0 x1 x2 x3 z0 z1 z2 (6 * g + 2) (by omega) i j)
    (h3 : ∀ i j, p3 (ix2 i j) = feature x0 x1 x2 x3 z0 z1 z2 (6 * g + 3) (by omega) i j)
    (h4 : ∀ i j, p4 (ix2 i j) = feature x0 x1 x2 x3 z0 z1 z2 (6 * g + 4) (by omega) i j)
    (h5 : ∀ i j, p5 (ix2 i j) = feature x0 x1 x2 x3 z0 z1 z2 (6 * g + 5) (by omega) i j) :
    v.readCov (⟨Rect.unit ![320, 0] S64x512.size i5, p5⟩ :: ⟨Rect.unit ![256, 0] S64x512.size i4, p4⟩ ::
      ⟨Rect.unit ![192, 0] S64x512.size i3, p3⟩ :: ⟨Rect.unit ![128, 0] S64x512.size i2, p2⟩ ::
      ⟨Rect.unit ![64, 0] S64x512.size i1, p1⟩ :: ⟨Rect.unit ![0, 0] S64x512.size i0, p0⟩ :: L)
      (Rect.unit ![0, 0] S384x512.size i6).toLoadRect = pooled x0 x1 x2 x3 z0 z1 z2 g hg := by
  rw [View.readCov_eq_canon']
  funext y
  refine (View.canon_append_of_piecesOf (pooled x0 x1 x2 x3 z0 z1 z2 g hg) L [_, _, _, _, _, _]
    ⟨forall_ix2 fun i j => ?_, forall_ix2 fun i j => ?_, forall_ix2 fun i j => ?_, forall_ix2 fun i j => ?_,
      forall_ix2 fun i j => ?_, forall_ix2 fun i j => ?_, trivial⟩ _ (group_cover _ _ _ _ _ _ i0 i1 i2 i3 i4 i5 _)).trans ?_
  · exact (h5 i j).trans (pooled_at x0 x1 x2 x3 z0 z1 z2 g hg 5 320 (by decide) rfl i5 i j).symm
  · exact (h4 i j).trans (pooled_at x0 x1 x2 x3 z0 z1 z2 g hg 4 256 (by decide) rfl i4 i j).symm
  · exact (h3 i j).trans (pooled_at x0 x1 x2 x3 z0 z1 z2 g hg 3 192 (by decide) rfl i3 i j).symm
  · exact (h2 i j).trans (pooled_at x0 x1 x2 x3 z0 z1 z2 g hg 2 128 (by decide) rfl i2 i j).symm
  · exact (h1 i j).trans (pooled_at x0 x1 x2 x3 z0 z1 z2 g hg 1 64 (by decide) rfl i1 i j).symm
  · exact (h0 i j).trans (pooled_at x0 x1 x2 x3 z0 z1 z2 g hg 0 0 (by decide) rfl i0 i j).symm
  · exact congrArg (pooled x0 x1 x2 x3 z0 z1 z2 g hg) (Rect.emb_unit_full (s := S384x512) i6 y)

/-- A load of a box after one store of a whole buffer reads what was stored, at the box's place. -/
theorem whole_read {sp : Space} {s : Shape} (v : View sig .tc sp s .f32) {off : Fin s.rank → ℕ} (i0 : ∀ a, off a + s.size a ≤ s.size a)
    (A : s.Idx → Elt Ideal .f32) (r : Rect s) :
    v.readCov [⟨Rect.unit off s.size i0, A⟩] r.toLoadRect = fun y => A (r.emb y) := by
  rw [View.readCov_eq_canon']
  funext y
  refine (View.canon_append_of_piecesOf A [] [_] ⟨fun x => ?_, trivial⟩ _ ⟨_, List.mem_cons_self, ?_⟩)
  · exact congrArg A (Rect.emb_unit_full i0 x).symm
  · rw [Rect.mem_set_unit]
    intro a
    have := i0 a
    have := (r.toLoadRect.idx y a).isLt
    omega

section
variable (c : Dev nD)
  (arg1 : Memref sig .tc .vmem S1x64x40x100 .f32) (harg1 : arg1.IsWhole)
  (arg2 : Memref sig .tc .vmem S1x64x20x50 .f32) (harg2 : arg2.IsWhole)
  (arg3 : Memref sig .tc .vmem S1x64x10x25 .f32) (harg3 : arg3.IsWhole)
  (arg4 : Memref sig .tc .vmem S1x512x76 .f32) (harg4 : arg4.IsWhole)
  (arg31 : Memref sig .tc .vmem S40x64x100 .f32) (arg32 : Memref sig .tc .vmem S20x64x50 .f32)
  (arg33 : Memref sig .tc .vmem S10x64x25 .f32) (arg34 : Memref sig .tc .vmem S76x512 .f32)
  (x0 : Vec Ideal S1x64x40x100 .f32) (x1 : Vec Ideal S1x64x20x50 .f32) (x2 : Vec Ideal S1x64x10x25 .f32)
  (x3 : Vec Ideal S1x512x76 .f32)

/-- The first map, its rows brought to the front. -/
theorem rows0 : kernelRun0_A.sl.v5 (F := Ideal) c arg1 harg1 x0 = fun i => x0 (ix4 0 (i 1) (i 0) (i 2)) := by
  funext i
  unfold kernelRun0_A.sl.v5 kernelRun0_A.sl.v2 kernelRun0_A.sl.v1
  simp only [View.readAt_eq_ld, harg1.read_unread]
  pointwise

/-- The second map, its rows brought to the front. -/
theorem rows1 : kernelRun0_A.sl.v11 (F := Ideal) c arg2 harg2 x1 = fun i => x1 (ix4 0 (i 1) (i 0) (i 2)) := by
  funext i
  unfold kernelRun0_A.sl.v11 kernelRun0_A.sl.v8 kernelRun0_A.sl.v7
  simp only [View.readAt_eq_ld, harg2.read_unread]
  pointwise

/-- The third map, its rows brought to the front. -/
theorem rows2 : kernelRun0_A.sl.v17 (F := Ideal) c arg3 harg3 x2 = fun i => x2 (ix4 0 (i 1) (i 0) (i 2)) := by
  funext i
  unfold kernelRun0_A.sl.v17 kernelRun0_A.sl.v14 kernelRun0_A.sl.v13
  simp only [View.readAt_eq_ld, harg3.read_unread]
  pointwise

/-- The priors, transposed. -/
theorem priorsT : kernelRun0_A.sl.v23 (F := Ideal) c arg4 harg4 x3 = fun i => x3 (ix3 0 (i 1) (i 0)) := by
  funext i
  unfold kernelRun0_A.sl.v23 kernelRun0_A.sl.v20 kernelRun0_A.sl.v19
  simp only [View.readAt_eq_ld, harg4.read_unread]
  pointwise

/-- A row of the first staged map. -/
theorem row0_read {sp : Space} (v : View sig .tc sp S40x64x100 .f32) (o : ℕ) (inb) :
    v.readCov (kernelRun0_A.sl.HS5_1 (F := Ideal) c arg1 harg1 x0) (Rect.unit (s := S40x64x100) ![o, 0, 0] (no_index S1x64x100.size) inb).toLoadRect
      = fun y => rowAt x0 (y 1) o (y 2) := by
  unfold kernelRun0_A.sl.HS5_1
  rw [rows0, whole_read]
  funext y
  have ho : o < 40 := by have h : o + 1 ≤ 40 := inb 0; omega
  simp only [rowAt, dif_pos ho]
  blk_ext

/-- A row of the second staged map. -/
theorem row1_read {sp : Space} (v : View sig .tc sp S20x64x50 .f32) (o : ℕ) (inb) :
    v.readCov (kernelRun0_A.sl.HS6_1 (F := Ideal) c arg2 harg2 x1) (Rect.unit (s := S20x64x50) ![o, 0, 0] (no_index S1x64x50.size) inb).toLoadRect
      = fun y => rowAt x1 (y 1) o (y 2) := by
  unfold kernelRun0_A.sl.HS6_1
  rw [rows1, whole_read]
  funext y
  have ho : o < 20 := by have h : o + 1 ≤ 20 := inb 0; omega
  simp only [rowAt, dif_pos ho]
  blk_ext

/-- A row of the third staged map. -/
theorem row2_read {sp : Space} (v : View sig .tc sp S10x64x25 .f32) (o : ℕ) (inb) :
    v.readCov (kernelRun0_A.sl.HS7_1 (F := Ideal) c arg3 harg3 x2) (Rect.unit (s := S10x64x25) ![o, 0, 0] (no_index S1x64x25.size) inb).toLoadRect
      = fun y => rowAt x2 (y 1) o (y 2) := by
  unfold kernelRun0_A.sl.HS7_1
  rw [rows2, whole_read]
  funext y
  have ho : o < 10 := by have h : o + 1 ≤ 10 := inb 0; omega
  simp only [rowAt, dif_pos ho]
  blk_ext

/-- A row of the staged priors. -/
theorem row3_read {sp : Space} (v : View sig .tc sp S76x512 .f32) (o : ℕ) (inb) :
    v.readCov (kernelRun0_A.sl.HS8_1 (F := Ideal) c arg4 harg4 x3) (Rect.unit (s := S76x512) ![o, 0] (no_index S1x512.size) inb).toLoadRect
      = fun y => coord x3 o (y 1) := by
  unfold kernelRun0_A.sl.HS8_1
  rw [priorsT, whole_read]
  funext y
  have ho : o < 76 := by have h : o + 1 ≤ 76 := inb 0; omega
  simp only [coord, dif_pos ho]
  blk_ext

end

/-- The absolute value is the larger of a number and its negation. -/
theorem absf_eq (x : EReal) : FloatOps.absf (F := Ideal) (φ := .f32) x = max x (-x) := rfl

/-- A column's index below 2³¹, converted to a float, is itself. -/
theorem sitofp_fin {W : ℕ} (hW : W < 2 ^ 31) (w : Fin W) :
    FloatOps.sitofp (F := Ideal) .f32 (BitVec.ofNat 32 (w : ℕ)) = (((w : ℕ) : ℝ) : EReal) := by
  have hw := w.isLt
  show ((((BitVec.ofNat 32 (w : ℕ)).toInt : ℤ) : ℝ) : EReal) = _
  have : (BitVec.ofNat 32 (w : ℕ)).toInt = ((w : ℕ) : ℤ) := by
    rw [BitVec.toInt_eq_toNat_of_lt] <;> simp only [BitVec.toNat_ofNat] <;> omega
  rw [this, Int.cast_natCast]

/-- A column's index of the first map as a float. -/
theorem col100 (w : Fin 100) : FloatOps.sitofp (F := Ideal) .f32 (BitVec.ofNat 32 (w : ℕ)) = (((w : ℕ) : ℝ) : EReal) :=
  sitofp_fin (by decide) w

/-- A column's index of the second map as a float. -/
theorem col50 (w : Fin 50) : FloatOps.sitofp (F := Ideal) .f32 (BitVec.ofNat 32 (w : ℕ)) = (((w : ℕ) : ℝ) : EReal) :=
  sitofp_fin (by decide) w

/-- A column's index of the third map as a float. -/
theorem col25 (w : Fin 25) : FloatOps.sitofp (F := Ideal) .f32 (BitVec.ofNat 32 (w : ℕ)) = (((w : ℕ) : ℝ) : EReal) :=
  sitofp_fin (by decide) w

/-- The last column of the first map. -/
theorem last100 : Ideal.ofBits .f32 0x42C60000#32 = (((100 : ℝ) - 1 : ℝ) : EReal) := by
  simp [Ideal.ofBits, Ideal.ieee, -EReal.coe_mul, -EReal.coe_sub]; norm_num

/-- The last column of the second map. -/
theorem last50 : Ideal.ofBits .f32 0x42440000#32 = (((50 : ℝ) - 1 : ℝ) : EReal) := by
  simp [Ideal.ofBits, Ideal.ieee, -EReal.coe_mul, -EReal.coe_sub]; norm_num

/-- The last column of the third map. -/
theorem last25 : Ideal.ofBits .f32 0x41C00000#32 = (((25 : ℝ) - 1 : ℝ) : EReal) := by
  simp [Ideal.ofBits, Ideal.ieee, -EReal.coe_mul, -EReal.coe_sub]; norm_num

/-- A constant stated by name has the value its name was given. -/
theorem named_eq {name : String} {b : BitVec (FTy.f32).bits} {v : EReal} (h : κ name = some v) :
    Named.named (F := Ideal) (φ := .f32) κ name b = v := IdealRules.named_const.ideal_named_scalar κ name b v h

end Cert.Rows
-- ==== Proof.Group0.lean ====
module
public import proofs.«01_k».proof.Proof.Rows
@[expose] public section
set_option maxRecDepth 16384
noncomputable section

/-! # The first group of six sampled points, as the kernel pools it -/

namespace Cert.Rows

open Idealize.ShloMosaic Idealize.ShloMosaic.TcCoe Idealize.SL.Sem Cert.KernelIdeal Cert.KernelIdeal.Gen Cert.KernelIdeal.Gen.kernelRun0_A

variable (c : Dev nD)
  (arg1 : Memref sig .tc .vmem S1x64x40x100 .f32) (harg1 : arg1.IsWhole)
  (arg2 : Memref sig .tc .vmem S1x64x20x50 .f32) (harg2 : arg2.IsWhole)
  (arg3 : Memref sig .tc .vmem S1x64x10x25 .f32) (harg3 : arg3.IsWhole)
  (arg4 : Memref sig .tc .vmem S1x512x76 .f32) (harg4 : arg4.IsWhole)
  (arg5 : Memref sig .tc .vmem S36x1 .f32) (harg5 : arg5.IsWhole)
  (arg26 : Memref sig .tc .vmem S384x512 .f32)
  (arg31 : Memref sig .tc .vmem S40x64x100 .f32) (arg32 : Memref sig .tc .vmem S20x64x50 .f32)
  (arg33 : Memref sig .tc .vmem S10x64x25 .f32) (arg34 : Memref sig .tc .vmem S76x512 .f32)
  (x0 : Vec Ideal S1x64x40x100 .f32) (x1 : Vec Ideal S1x64x20x50 .f32) (x2 : Vec Ideal S1x64x10x25 .f32)
  (x3 : Vec Ideal S1x512x76 .f32) (x4 : Vec Ideal S36x1 .f32)

set_option maxHeartbeats 4000000 in
/-- What the kernel reads back of points 0 to 5: their pooled features, with the three columns of level weights. -/
theorem group0_read : sl.v503 (F := Ideal) c arg1 harg1 arg2 harg2 arg3 harg3 arg4 harg4 arg5 harg5 arg26 arg31 arg32 arg33 arg34
      x0 x1 x2 x3 x4
    = pooled x0 x1 x2 x3 (sl.v51 c arg5 harg5 x4) (sl.v52 c arg5 harg5 x4) (sl.v53 c arg5 harg5 x4) 0 (by decide) := by
  unfold sl.v503 sl.HS0_6
  refine group_read _ _ x0 x1 x2 x3 _ _ _ 0 (by decide) _ _ _ _ _ _ _ _ _ _ _ _ _ ?_ ?_ ?_ ?_ ?_ ?_
  all_goals
    intro i j
    simp only [row0_read, row1_read, row2_read, row3_read,
      sl.cst, sl.cst_28, sl.cst_36, sl.cst_39, sl.cst_43, sl.cst_50, sl.r, sl.r_1, sl.r_2, sl.r_3, sl.r_4, sl.r_5, sl.r_6, sl.r_7, sl.r_8, sl.r_9,
      sl.r_10, sl.r_11, sl.r_12, sl.r_13, sl.r_14, sl.r_15, sl.r_16, sl.r_17, sl.r_18, sl.v54, sl.v55, sl.v56, sl.v57, sl.v58, sl.v59, sl.v60, sl.v61,
      sl.v62, sl.v63, sl.v64, sl.v65, sl.v66, sl.v67, sl.v68, sl.v69, sl.v70, sl.v71, sl.v72, sl.v73, sl.v74, sl.v75, sl.v76, sl.v77, sl.v78, sl.v79,
      sl.v80, sl.v81, sl.v82, sl.v83, sl.v84, sl.v85, sl.v86, sl.v87, sl.v88, sl.v89, sl.v90, sl.v91, sl.v92, sl.v93, sl.v94, sl.v95, sl.v96, sl.v97,
      sl.v98, sl.v99, sl.v100, sl.v101, sl.v102, sl.v103, sl.v104, sl.v105, sl.v106, sl.v107, sl.v110, sl.v111, sl.v112, sl.v113, sl.v119, sl.v137,
      sl.v143, sl.v162, sl.v168, sl.v189, sl.v197, sl.v221, sl.v267, sl.v275, sl.v345, sl.v353, sl.v377, sl.v402, sl.v423, sl.v425, sl.v431]
    pointwise [
      k0_pay26, k0_pay27, k0_pay28, k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49]
    simp only [feature, share, num, blend, Nat.reduceMul, Nat.reduceAdd, Nat.reduceSub, Nat.reduceDiv, Nat.reduceMod,
      Nat.reduceEqDiff, reduceIte, RealMath.hatE]
    repeat rw [named_eq (by rfl)]
    simp only [absf_eq, col100, col50, col25, last100, last50, last25, Nat.cast_ofNat, Nat.cast_one]
    rfl

end Cert.Rows
-- ==== Proof.Group1.lean ====
module
public import proofs.«01_k».proof.Proof.Rows
@[expose] public section
set_option maxRecDepth 16384
noncomputable section

/-! # The second group of six sampled points, as the kernel pools it -/

namespace Cert.Rows

open Idealize.ShloMosaic Idealize.ShloMosaic.TcCoe Idealize.SL.Sem Cert.KernelIdeal Cert.KernelIdeal.Gen Cert.KernelIdeal.Gen.kernelRun0_A

variable (c : Dev nD)
  (arg1 : Memref sig .tc .vmem S1x64x40x100 .f32) (harg1 : arg1.IsWhole)
  (arg2 : Memref sig .tc .vmem S1x64x20x50 .f32) (harg2 : arg2.IsWhole)
  (arg3 : Memref sig .tc .vmem S1x64x10x25 .f32) (harg3 : arg3.IsWhole)
  (arg4 : Memref sig .tc .vmem S1x512x76 .f32) (harg4 : arg4.IsWhole)
  (arg5 : Memref sig .tc .vmem S36x1 .f32) (harg5 : arg5.IsWhole)
  (arg26 : Memref sig .tc .vmem S384x512 .f32)
  (arg31 : Memref sig .tc .vmem S40x64x100 .f32) (arg32 : Memref sig .tc .vmem S20x64x50 .f32)
  (arg33 : Memref sig .tc .vmem S10x64x25 .f32) (arg34 : Memref sig .tc .vmem S76x512 .f32)
  (x0 : Vec Ideal S1x64x40x100 .f32) (x1 : Vec Ideal S1x64x20x50 .f32) (x2 : Vec Ideal S1x64x10x25 .f32)
  (x3 : Vec Ideal S1x512x76 .f32) (x4 : Vec Ideal S36x1 .f32)

set_option maxHeartbeats 4000000 in
/-- What the kernel reads back of points 6 to 11: their pooled features, with the three columns of level weights. -/
theorem group1_read : sl.v978 (F := Ideal) c arg1 harg1 arg2 harg2 arg3 harg3 arg4 harg4 arg5 harg5 arg26 arg31 arg32 arg33 arg34
      x0 x1 x2 x3 x4
    = pooled x0 x1 x2 x3 (sl.v51 c arg5 harg5 x4) (sl.v52 c arg5 harg5 x4) (sl.v53 c arg5 harg5 x4) 1 (by decide) := by
  unfold sl.v978 sl.HS0_12 sl.HS0_8
  refine group_read _ _ x0 x1 x2 x3 _ _ _ 1 (by decide) _ _ _ _ _ _ _ _ _ _ _ _ _ ?_ ?_ ?_ ?_ ?_ ?_
  all_goals
    intro i j
    simp only [row0_read, row1_read, row2_read, row3_read,
      sl.cst_342, sl.r_20, sl.r_21, sl.r_22, sl.r_23, sl.r_24, sl.r_25, sl.r_26, sl.r_27, sl.r_28, sl.r_29, sl.r_30, sl.r_31, sl.r_32, sl.r_33,
      sl.r_34, sl.r_35, sl.r_36, sl.r_37, sl.r_38, sl.r_39, sl.r_40, sl.r_41, sl.r_42, sl.r_43, sl.r_44, sl.r_45, sl.r_46, sl.r_47, sl.v54, sl.v55,
      sl.v56, sl.v57, sl.v58, sl.v59, sl.v168, sl.v377, sl.v402, sl.v431, sl.v508, sl.v516, sl.v540, sl.v586, sl.v594, sl.v618, sl.v664, sl.v672,
      sl.v721, sl.v742, sl.v750, sl.v774, sl.v820, sl.v828, sl.v898, sl.v906, sl.v930]
    pointwise [
      k0_pay52, k0_pay53, k0_pay54, k0_pay55, k0_pay56, k0_pay57, k0_pay58, k0_pay59, k0_pay60, k0_pay61, k0_pay62, k0_pay63, k0_pay64, k0_pay65,
      k0_pay66, k0_pay67, k0_pay68, k0_pay69, k0_pay70, k0_pay71, k0_pay72, k0_pay73, k0_pay74, k0_pay75, k0_pay76, k0_pay77, k0_pay78, k0_pay79,
      k0_pay80, k0_pay81, k0_pay82, k0_pay83, k0_pay84, k0_pay85, k0_pay86, k0_pay87]
    simp only [feature, share, num, blend, Nat.reduceMul, Nat.reduceAdd, Nat.reduceSub, Nat.reduceDiv, Nat.reduceMod,
      Nat.reduceEqDiff, reduceIte, RealMath.hatE]
    repeat rw [named_eq (by rfl)]
    simp only [absf_eq, col100, col50, col25, last100, last50, last25, Nat.cast_ofNat, Nat.cast_one]
    rfl

end Cert.Rows
-- ==== Proof.Group2.lean ====
module
public import proofs.«01_k».proof.Proof.Rows
@[expose] public section
set_option maxRecDepth 16384
noncomputable section

/-! # The third group of six sampled points, as the kernel pools it -/

namespace Cert.Rows

open Idealize.ShloMosaic Idealize.ShloMosaic.TcCoe Idealize.SL.Sem Cert.KernelIdeal Cert.KernelIdeal.Gen Cert.KernelIdeal.Gen.kernelRun0_A

variable (c : Dev nD)
  (arg1 : Memref sig .tc .vmem S1x64x40x100 .f32) (harg1 : arg1.IsWhole)
  (arg2 : Memref sig .tc .vmem S1x64x20x50 .f32) (harg2 : arg2.IsWhole)
  (arg3 : Memref sig .tc .vmem S1x64x10x25 .f32) (harg3 : arg3.IsWhole)
  (arg4 : Memref sig .tc .vmem S1x512x76 .f32) (harg4 : arg4.IsWhole)
  (arg5 : Memref sig .tc .vmem S36x1 .f32) (harg5 : arg5.IsWhole)
  (arg26 : Memref sig .tc .vmem S384x512 .f32)
  (arg31 : Memref sig .tc .vmem S40x64x100 .f32) (arg32 : Memref sig .tc .vmem S20x64x50 .f32)
  (arg33 : Memref sig .tc .vmem S10x64x25 .f32) (arg34 : Memref sig .tc .vmem S76x512 .f32)
  (x0 : Vec Ideal S1x64x40x100 .f32) (x1 : Vec Ideal S1x64x20x50 .f32) (x2 : Vec Ideal S1x64x10x25 .f32)
  (x3 : Vec Ideal S1x512x76 .f32) (x4 : Vec Ideal S36x1 .f32)

set_option maxHeartbeats 4000000 in
/-- What the kernel reads back of points 12 to 17: their pooled features, with the three columns of level weights. -/
theorem group2_read : sl.v1453 (F := Ideal) c arg1 harg1 arg2 harg2 arg3 harg3 arg4 harg4 arg5 harg5 arg26 arg31 arg32 arg33 arg34
      x0 x1 x2 x3 x4
    = pooled x0 x1 x2 x3 (sl.v51 c arg5 harg5 x4) (sl.v52 c arg5 harg5 x4) (sl.v53 c arg5 harg5 x4) 2 (by decide) := by
  unfold sl.v1453 sl.HS0_18
  refine group_read _ _ x0 x1 x2 x3 _ _ _ 2 (by decide) _ _ _ _ _ _ _ _ _ _ _ _ _ ?_ ?_ ?_ ?_ ?_ ?_
  all_goals
    intro i j
    simp only [row0_read, row1_read, row2_read, row3_read,
      sl.cst, sl.cst_28, sl.cst_534, sl.r_48, sl.r_49, sl.r_50, sl.r_51, sl.r_52, sl.r_53, sl.r_54, sl.r_55, sl.r_56, sl.r_57, sl.r_58, sl.r_59,
      sl.r_60, sl.r_61, sl.r_62, sl.r_63, sl.r_64, sl.r_65, sl.r_66, sl.r_67, sl.r_68, sl.r_69, sl.r_70, sl.r_71, sl.r_72, sl.r_73, sl.r_74, sl.r_75,
      sl.r_76, sl.r_77, sl.r_78, sl.r_79, sl.r_80, sl.r_81, sl.r_82, sl.r_83, sl.r_84, sl.r_85, sl.v54, sl.v55, sl.v56, sl.v57, sl.v58, sl.v59,
      sl.v721, sl.v774, sl.v906, sl.v930, sl.v983, sl.v991, sl.v1040, sl.v1061, sl.v1069, sl.v1093, sl.v1139, sl.v1147, sl.v1217, sl.v1219, sl.v1225,
      sl.v1249, sl.v1295, sl.v1303, sl.v1352, sl.v1373, sl.v1381, sl.v1405]
    pointwise [
      k0_pay89, k0_pay90, k0_pay91, k0_pay92, k0_pay93, k0_pay94, k0_pay95, k0_pay96, k0_pay97, k0_pay98, k0_pay99, k0_pay100, k0_pay101, k0_pay102,
      k0_pay103, k0_pay104, k0_pay105, k0_pay106, k0_pay107, k0_pay108, k0_pay109, k0_pay110, k0_pay111, k0_pay112, k0_pay113, k0_pay114, k0_pay115,
      k0_pay116, k0_pay117, k0_pay118, k0_pay119, k0_pay120, k0_pay121, k0_pay122, k0_pay123, k0_pay124, k0_pay125, k0_pay126, k0_pay127, k0_pay128,
      k0_pay129, k0_pay130, k0_pay131, k0_pay132, k0_pay133, k0_pay134, k0_pay135]
    simp only [feature, share, num, blend, Nat.reduceMul, Nat.reduceAdd, Nat.reduceSub, Nat.reduceDiv, Nat.reduceMod,
      Nat.reduceEqDiff, reduceIte, RealMath.hatE]
    repeat rw [named_eq (by rfl)]
    simp only [absf_eq, col100, col50, col25, last100, last50, last25, Nat.cast_ofNat, Nat.cast_one]
    rfl

end Cert.Rows
-- ==== Proof.Group3.lean ====
module
public import proofs.«01_k».proof.Proof.Rows
@[expose] public section
set_option maxRecDepth 16384
noncomputable section

/-! # The fourth group of six sampled points, as the kernel pools it -/

namespace Cert.Rows

open Idealize.ShloMosaic Idealize.ShloMosaic.TcCoe Idealize.SL.Sem Cert.KernelIdeal Cert.KernelIdeal.Gen Cert.KernelIdeal.Gen.kernelRun0_A

variable (c : Dev nD)
  (arg1 : Memref sig .tc .vmem S1x64x40x100 .f32) (harg1 : arg1.IsWhole)
  (arg2 : Memref sig .tc .vmem S1x64x20x50 .f32) (harg2 : arg2.IsWhole)
  (arg3 : Memref sig .tc .vmem S1x64x10x25 .f32) (harg3 : arg3.IsWhole)
  (arg4 : Memref sig .tc .vmem S1x512x76 .f32) (harg4 : arg4.IsWhole)
  (arg5 : Memref sig .tc .vmem S36x1 .f32) (harg5 : arg5.IsWhole)
  (arg26 : Memref sig .tc .vmem S384x512 .f32)
  (arg31 : Memref sig .tc .vmem S40x64x100 .f32) (arg32 : Memref sig .tc .vmem S20x64x50 .f32)
  (arg33 : Memref sig .tc .vmem S10x64x25 .f32) (arg34 : Memref sig .tc .vmem S76x512 .f32)
  (x0 : Vec Ideal S1x64x40x100 .f32) (x1 : Vec Ideal S1x64x20x50 .f32) (x2 : Vec Ideal S1x64x10x25 .f32)
  (x3 : Vec Ideal S1x512x76 .f32) (x4 : Vec Ideal S36x1 .f32)

set_option maxHeartbeats 4000000 in
/-- What the kernel reads back of points 18 to 23: their pooled features, with the three columns of level weights. -/
theorem group3_read : sl.v1928 (F := Ideal) c arg1 harg1 arg2 harg2 arg3 harg3 arg4 harg4 arg5 harg5 arg26 arg31 arg32 arg33 arg34
      x0 x1 x2 x3 x4
    = pooled x0 x1 x2 x3 (sl.v51 c arg5 harg5 x4) (sl.v52 c arg5 harg5 x4) (sl.v53 c arg5 harg5 x4) 3 (by decide) := by
  unfold sl.v1928 sl.HS0_24
  refine group_read _ _ x0 x1 x2 x3 _ _ _ 3 (by decide) _ _ _ _ _ _ _ _ _ _ _ _ _ ?_ ?_ ?_ ?_ ?_ ?_
  all_goals
    intro i j
    simp only [row0_read, row1_read, row2_read, row3_read,
      sl.cst_39, sl.cst_50, sl.r_86, sl.r_87, sl.r_88, sl.r_89, sl.r_90, sl.r_91, sl.r_92, sl.r_93, sl.r_94, sl.r_95, sl.r_96, sl.r_97, sl.r_98,
      sl.r_99, sl.r_100, sl.r_101, sl.r_102, sl.r_103, sl.r_104, sl.r_105, sl.r_106, sl.r_107, sl.r_108, sl.r_109, sl.r_110, sl.r_111, sl.r_112,
      sl.v54, sl.v55, sl.v56, sl.v57, sl.v58, sl.v59, sl.v1040, sl.v1249, sl.v1352, sl.v1381, sl.v1405, sl.v1458, sl.v1466, sl.v1536, sl.v1544,
      sl.v1568, sl.v1614, sl.v1622, sl.v1671, sl.v1692, sl.v1700, sl.v1724, sl.v1770, sl.v1778, sl.v1802, sl.v1848, sl.v1856]
    pointwise [
      k0_pay137, k0_pay138, k0_pay139, k0_pay140, k0_pay141, k0_pay142, k0_pay143, k0_pay144, k0_pay145, k0_pay146, k0_pay147, k0_pay148, k0_pay149,
      k0_pay150, k0_pay151, k0_pay152, k0_pay153, k0_pay154, k0_pay155, k0_pay156, k0_pay157, k0_pay158, k0_pay159, k0_pay160, k0_pay161, k0_pay162,
      k0_pay163, k0_pay164, k0_pay165, k0_pay166, k0_pay167, k0_pay168, k0_pay169, k0_pay170, k0_pay171, k0_pay172, k0_pay173]
    simp only [feature, share, num, blend, Nat.reduceMul, Nat.reduceAdd, Nat.reduceSub, Nat.reduceDiv, Nat.reduceMod,
      Nat.reduceEqDiff, reduceIte, RealMath.hatE]
    repeat rw [named_eq (by rfl)]
    simp only [absf_eq, col100, col50, col25, last100, last50, last25, Nat.cast_ofNat, Nat.cast_one]
    rfl

end Cert.Rows
-- ==== Proof.Group4.lean ====
module
public import proofs.«01_k».proof.Proof.Rows
@[expose] public section
set_option maxRecDepth 16384
noncomputable section

/-! # The fifth group of six sampled points, as the kernel pools it -/

namespace Cert.Rows

open Idealize.ShloMosaic Idealize.ShloMosaic.TcCoe Idealize.SL.Sem Cert.KernelIdeal Cert.KernelIdeal.Gen Cert.KernelIdeal.Gen.kernelRun0_A

variable (c : Dev nD)
  (arg1 : Memref sig .tc .vmem S1x64x40x100 .f32) (harg1 : arg1.IsWhole)
  (arg2 : Memref sig .tc .vmem S1x64x20x50 .f32) (harg2 : arg2.IsWhole)
  (arg3 : Memref sig .tc .vmem S1x64x10x25 .f32) (harg3 : arg3.IsWhole)
  (arg4 : Memref sig .tc .vmem S1x512x76 .f32) (harg4 : arg4.IsWhole)
  (arg5 : Memref sig .tc .vmem S36x1 .f32) (harg5 : arg5.IsWhole)
  (arg26 : Memref sig .tc .vmem S384x512 .f32)
  (arg31 : Memref sig .tc .vmem S40x64x100 .f32) (arg32 : Memref sig .tc .vmem S20x64x50 .f32)
  (arg33 : Memref sig .tc .vmem S10x64x25 .f32) (arg34 : Memref sig .tc .vmem S76x512 .f32)
  (x0 : Vec Ideal S1x64x40x100 .f32) (x1 : Vec Ideal S1x64x20x50 .f32) (x2 : Vec Ideal S1x64x10x25 .f32)
  (x3 : Vec Ideal S1x512x76 .f32) (x4 : Vec Ideal S36x1 .f32)

set_option maxHeartbeats 4000000 in
/-- What the kernel reads back of points 24 to 29: their pooled features, with the three columns of level weights. -/
theorem group4_read : sl.v2403 (F := Ideal) c arg1 harg1 arg2 harg2 arg3 harg3 arg4 harg4 arg5 harg5 arg26 arg31 arg32 arg33 arg34
      x0 x1 x2 x3 x4
    = pooled x0 x1 x2 x3 (sl.v51 c arg5 harg5 x4) (sl.v52 c arg5 harg5 x4) (sl.v53 c arg5 harg5 x4) 4 (by decide) := by
  unfold sl.v2403 sl.HS0_30
  refine group_read _ _ x0 x1 x2 x3 _ _ _ 4 (by decide) _ _ _ _ _ _ _ _ _ _ _ _ _ ?_ ?_ ?_ ?_ ?_ ?_
  all_goals
    intro i j
    simp only [row0_read, row1_read, row2_read, row3_read,
      sl.cst_28, sl.r_113, sl.r_114, sl.r_115, sl.r_116, sl.r_117, sl.r_118, sl.r_119, sl.r_120, sl.r_121, sl.r_122, sl.r_123, sl.r_124, sl.r_125,
      sl.r_126, sl.r_127, sl.r_128, sl.r_129, sl.r_130, sl.r_131, sl.r_132, sl.r_133, sl.r_134, sl.r_135, sl.r_136, sl.r_137, sl.r_138, sl.r_139,
      sl.r_140, sl.r_141, sl.r_142, sl.v54, sl.v55, sl.v56, sl.v57, sl.v58, sl.v59, sl.v1671, sl.v1802, sl.v1856, sl.v1933, sl.v1941, sl.v1965,
      sl.v1990, sl.v2011, sl.v2013, sl.v2019, sl.v2089, sl.v2097, sl.v2121, sl.v2167, sl.v2175, sl.v2245, sl.v2253, sl.v2277, sl.v2302, sl.v2323,
      sl.v2331]
    pointwise [
      k0_pay175, k0_pay176, k0_pay177, k0_pay178, k0_pay179, k0_pay180, k0_pay181, k0_pay182, k0_pay183, k0_pay184, k0_pay185, k0_pay186, k0_pay187,
      k0_pay188, k0_pay189, k0_pay190, k0_pay191, k0_pay192, k0_pay193, k0_pay194, k0_pay195, k0_pay196, k0_pay197, k0_pay198, k0_pay199, k0_pay200,
      k0_pay201, k0_pay202, k0_pay203, k0_pay204, k0_pay205, k0_pay206, k0_pay207, k0_pay208, k0_pay209, k0_pay210, k0_pay211]
    simp only [feature, share, num, blend, Nat.reduceMul, Nat.reduceAdd, Nat.reduceSub, Nat.reduceDiv, Nat.reduceMod,
      Nat.reduceEqDiff, reduceIte, RealMath.hatE]
    repeat rw [named_eq (by rfl)]
    simp only [absf_eq, col100, col50, col25, last100, last50, last25, Nat.cast_ofNat, Nat.cast_one]
    rfl

end Cert.Rows
-- ==== Proof.Group5.lean ====
module
public import proofs.«01_k».proof.Proof.Rows
@[expose] public section
set_option maxRecDepth 16384
noncomputable section

/-! # The sixth group of six sampled points, as the kernel pools it -/

namespace Cert.Rows

open Idealize.ShloMosaic Idealize.ShloMosaic.TcCoe Idealize.SL.Sem Cert.KernelIdeal Cert.KernelIdeal.Gen Cert.KernelIdeal.Gen.kernelRun0_A

variable (c : Dev nD)
  (arg1 : Memref sig .tc .vmem S1x64x40x100 .f32) (harg1 : arg1.IsWhole)
  (arg2 : Memref sig .tc .vmem S1x64x20x50 .f32) (harg2 : arg2.IsWhole)
  (arg3 : Memref sig .tc .vmem S1x64x10x25 .f32) (harg3 : arg3.IsWhole)
  (arg4 : Memref sig .tc .vmem S1x512x76 .f32) (harg4 : arg4.IsWhole)
  (arg5 : Memref sig .tc .vmem S36x1 .f32) (harg5 : arg5.IsWhole)
  (arg26 : Memref sig .tc .vmem S384x512 .f32)
  (arg31 : Memref sig .tc .vmem S40x64x100 .f32) (arg32 : Memref sig .tc .vmem S20x64x50 .f32)
  (arg33 : Memref sig .tc .vmem S10x64x25 .f32) (arg34 : Memref sig .tc .vmem S76x512 .f32)
  (x0 : Vec Ideal S1x64x40x100 .f32) (x1 : Vec Ideal S1x64x20x50 .f32) (x2 : Vec Ideal S1x64x10x25 .f32)
  (x3 : Vec Ideal S1x512x76 .f32) (x4 : Vec Ideal S36x1 .f32)

set_option maxHeartbeats 4000000 in
/-- What the kernel reads back of points 30 to 35: their pooled features, with the three columns of level weights. -/
theorem group5_read : sl.v2851 (F := Ideal) c arg1 harg1 arg2 harg2 arg3 harg3 arg4 harg4 arg5 harg5 arg26 arg31 arg32 arg33 arg34
      x0 x1 x2 x3 x4
    = pooled x0 x1 x2 x3 (sl.v51 c arg5 harg5 x4) (sl.v52 c arg5 harg5 x4) (sl.v53 c arg5 harg5 x4) 5 (by decide) := by
  unfold sl.v2851 sl.HS0_36
  refine group_read _ _ x0 x1 x2 x3 _ _ _ 5 (by decide) _ _ _ _ _ _ _ _ _ _ _ _ _ ?_ ?_ ?_ ?_ ?_ ?_
  all_goals
    intro i j
    simp only [row0_read, row1_read, row2_read, row3_read,
      sl.cst_1281, sl.r_143, sl.r_144, sl.r_145, sl.r_146, sl.r_147, sl.r_148, sl.r_149, sl.r_150, sl.r_151, sl.r_152, sl.r_153, sl.r_154, sl.r_155,
      sl.r_156, sl.r_157, sl.r_158, sl.r_159, sl.r_160, sl.r_161, sl.r_162, sl.r_163, sl.r_164, sl.r_165, sl.r_166, sl.r_167, sl.r_168, sl.r_169,
      sl.v54, sl.v55, sl.v56, sl.v57, sl.v58, sl.v59, sl.v1990, sl.v2277, sl.v2302, sl.v2331, sl.v2408, sl.v2416, sl.v2440, sl.v2486, sl.v2494,
      sl.v2564, sl.v2572, sl.v2596, sl.v2621, sl.v2642, sl.v2650, sl.v2720, sl.v2728, sl.v2752, sl.v2798, sl.v2800]
    pointwise [
      k0_pay213, k0_pay214, k0_pay215, k0_pay216, k0_pay217, k0_pay218, k0_pay219, k0_pay220, k0_pay221, k0_pay222, k0_pay223, k0_pay224, k0_pay225,
      k0_pay226, k0_pay227, k0_pay228, k0_pay229, k0_pay230, k0_pay231, k0_pay232, k0_pay233, k0_pay234, k0_pay235, k0_pay236, k0_pay237, k0_pay238,
      k0_pay239, k0_pay240, k0_pay241, k0_pay242, k0_pay243, k0_pay244, k0_pay245, k0_pay246, k0_pay247]
    simp only [feature, share, num, blend, Nat.reduceMul, Nat.reduceAdd, Nat.reduceSub, Nat.reduceDiv, Nat.reduceMod,
      Nat.reduceEqDiff, reduceIte, RealMath.hatE]
    repeat rw [named_eq (by rfl)]
    simp only [absf_eq, col100, col50, col25, last100, last50, last25, Nat.cast_ofNat, Nat.cast_one]
    rfl

end Cert.Rows
-- ==== Proof.Feat.lean ====
module
public import proofs.«01_k».proof.Proof.Group0
public import proofs.«01_k».proof.Proof.Group1
public import proofs.«01_k».proof.Proof.Group2
public import proofs.«01_k».proof.Proof.Group3
public import proofs.«01_k».proof.Proof.Group4
public import proofs.«01_k».proof.Proof.Group5
@[expose] public section
set_option maxRecDepth 16384
noncomputable section

/-! # The gathered features the kernel forms from its six groups of pooled points -/

namespace Cert.Rows

open Idealize.ShloMosaic Idealize.ShloMosaic.TcCoe Idealize.SL.Sem Cert.KernelIdeal Cert.KernelIdeal.Gen Cert.KernelIdeal.Gen.kernelRun0_A

/-- The gathered features, one output channel down and one prior across: channel `o` weighs the 384 pooled features of its
group `o / 32`. -/
def gathered (x0 : FVec Ideal S1x64x40x100 .f32) (x1 : FVec Ideal S1x64x20x50 .f32) (x2 : FVec Ideal S1x64x10x25 .f32)
    (x3 : FVec Ideal S1x512x76 .f32) (z0 z1 z2 : FVec Ideal S36x1 .f32) (x5 : FVec Ideal S192x384 .f32) (i : S192x512.Idx) : EReal :=
  ∑ m : Fin 384, x5 (ix2 (i 0) m) * pooled x0 x1 x2 x3 z0 z1 z2 ((i 0 : ℕ) / 32)
    (by have : (i 0 : ℕ) < 192 := (i 0).isLt; omega) (ix2 m (i 1))

/-- The gathered features at channel `i` of group `g`. -/
theorem gathered_at (x0 : FVec Ideal S1x64x40x100 .f32) (x1 : FVec Ideal S1x64x20x50 .f32) (x2 : FVec Ideal S1x64x10x25 .f32)
    (x3 : FVec Ideal S1x512x76 .f32) (z0 z1 z2 : FVec Ideal S36x1 .f32) (x5 : FVec Ideal S192x384 .f32) (g o : ℕ) (hg : g < 6)
    (ho : o = 32 * g) (inb : ∀ a, (![o, 0] : Fin 2 → ℕ) a + S32x512.size a ≤ S192x512.size a)
    (inb' : ∀ a, (![o, 0] : Fin 2 → ℕ) a + S32x384.size a ≤ S192x384.size a) (i : Fin 32) (j : Fin 512) :
    gathered x0 x1 x2 x3 z0 z1 z2 x5 ((Rect.unit (s := S192x512) ![o, 0] S32x512.size inb).emb (ix2 i j : S32x512.Idx))
      = ∑ m : Fin 384, View.ld (Val := Elt Ideal) (e' := .f32) x5 (Rect.unit (s := S192x384) ![o, 0] S32x384.size inb') (ix2 i m : S32x384.Idx)
          * pooled x0 x1 x2 x3 z0 z1 z2 g hg (ix2 m j) := by
  subst ho
  unfold gathered
  have h0 : ((Rect.unit (s := S192x512) ![32 * g, 0] S32x512.size inb).emb (ix2 i j : S32x512.Idx) 0 : ℕ) = 32 * g + 1 * (i : ℕ) := rfl
  have h1 : (Rect.unit (s := S192x512) ![32 * g, 0] S32x512.size inb).emb (ix2 i j : S32x512.Idx) 1 = j := by
    apply Fin.ext; show 0 + 1 * (j : ℕ) = j; omega
  have hi := i.isLt
  have e0 : ((Rect.unit (s := S192x512) ![32 * g, 0] S32x512.size inb).emb (ix2 i j : S32x512.Idx) 0 : ℕ) / 32 = g := by
    rw [h0]; omega
  rw [h1]
  simp only [e0]
  refine Finset.sum_congr rfl fun m _ => ?_
  congr 1
  show _ = x5 _
  congr 1
  funext k
  fin_cases k
  · rfl
  · apply Fin.ext; show (m : ℕ) = 0 + 1 * (m : ℕ); omega

/-- Every index of the gathered scratch lies in one of the six groups' blocks. -/
theorem gathered_cover (p0 p1 p2 p3 p4 p5 : S32x512.Idx → Elt Ideal .f32) (i0 i1 i2 i3 i4 i5) (y : S192x512.Idx) :
    ∃ p ∈ ([⟨Rect.unit ![160, 0] S32x512.size i5, p5⟩, ⟨Rect.unit ![128, 0] S32x512.size i4, p4⟩,
      ⟨Rect.unit ![96, 0] S32x512.size i3, p3⟩, ⟨Rect.unit ![64, 0] S32x512.size i2, p2⟩,
      ⟨Rect.unit ![32, 0] S32x512.size i1, p1⟩, ⟨Rect.unit ![0, 0] S32x512.size i0, p0⟩] : List (View.Piece (Elt Ideal) S192x512 .f32)),
      y ∈ p.1.set :=
  View.cover_of_tiledBy _ ![32, 512] (by sl_kernel_rfl) y

/-- A read of a whole buffer just after stores that tile it, each of them part of `G`, is `G`. -/
theorem readCov_whole {sp : Space} {s : Shape} (v : View sig .tc sp s .f32) (L : List (View.Piece (Elt Ideal) s .f32))
    (G : s.Idx → Elt Ideal .f32) (hG : View.PiecesOf G L) (hc : ∀ y, ∃ p ∈ L, y ∈ p.1.set)
    (off : Fin s.rank → ℕ) (h0 : ∀ a, off a = 0) (inb) :
    v.readCov L (Rect.unit (s := s) off s.size inb).toLoadRect = G := by
  rw [View.readCov_eq_canon']
  funext y
  have := View.canon_append_of_piecesOf G [] L hG ((Rect.unit (s := s) off s.size inb).toLoadRect.idx y) (hc _)
  rw [List.append_nil] at this
  rw [this]
  congr 1
  funext a
  apply Fin.ext
  show off a + 1 * (y a : ℕ) = y a
  rw [h0]; omega

variable (c : Dev nD)
  (arg1 : Memref sig .tc .vmem S1x64x40x100 .f32) (harg1 : arg1.IsWhole)
  (arg2 : Memref sig .tc .vmem S1x64x20x50 .f32) (harg2 : arg2.IsWhole)
  (arg3 : Memref sig .tc .vmem S1x64x10x25 .f32) (harg3 : arg3.IsWhole)
  (arg4 : Memref sig .tc .vmem S1x512x76 .f32) (harg4 : arg4.IsWhole)
  (arg5 : Memref sig .tc .vmem S36x1 .f32) (harg5 : arg5.IsWhole)
  (arg6 : Memref sig .tc .vmem S192x384 .f32) (harg6 : arg6.IsWhole)
  (arg26 : Memref sig .tc .vmem S384x512 .f32) (arg27 : Memref sig .tc .vmem S192x512 .f32)
  (arg31 : Memref sig .tc .vmem S40x64x100 .f32) (arg32 : Memref sig .tc .vmem S20x64x50 .f32)
  (arg33 : Memref sig .tc .vmem S10x64x25 .f32) (arg34 : Memref sig .tc .vmem S76x512 .f32)
  (x0 : Vec Ideal S1x64x40x100 .f32) (x1 : Vec Ideal S1x64x20x50 .f32) (x2 : Vec Ideal S1x64x10x25 .f32)
  (x3 : Vec Ideal S1x512x76 .f32) (x4 : Vec Ideal S36x1 .f32) (x5 : Vec Ideal S192x384 .f32)

/-- A group's product with its 32 rows of the gathering weights, at a point. -/
theorem dot_at (w : FVec Ideal S32x384 .f32) (p : FVec Ideal S384x512 .f32) (i : Fin 32) (j : Fin 512) :
    k0_pay88 w p (ix2 i j) = ∑ m : Fin 384, w (ix2 i m) * p (ix2 m j) := by
  pointwise [k0_pay88]

/-- What the kernel reads back of its gathered features. -/
theorem gathered_read : sl.v2856 (F := Ideal) c arg1 harg1 arg2 harg2 arg3 harg3 arg4 harg4 arg5 harg5 arg6 harg6 arg26 arg27
      arg31 arg32 arg33 arg34 x0 x1 x2 x3 x4 x5
    = gathered x0 x1 x2 x3 (sl.v51 c arg5 harg5 x4) (sl.v52 c arg5 harg5 x4) (sl.v53 c arg5 harg5 x4) x5 := by
  unfold sl.v2856 sl.HS1_6
  refine readCov_whole _ _ _ ?_ (gathered_cover _ _ _ _ _ _ _ _ _ _ _ _) _ (by decide) _
  refine ⟨forall_ix2 fun i j => ?_, forall_ix2 fun i j => ?_, forall_ix2 fun i j => ?_, forall_ix2 fun i j => ?_,
      forall_ix2 fun i j => ?_, forall_ix2 fun i j => ?_, trivial⟩
  all_goals
    simp only [sl.r_19, sl.r_170, group0_read, group1_read, group2_read, group3_read, group4_read, group5_read,
      View.readAt_eq_ld, harg6.read_unread]
  · exact (dot_at _ _ i j).trans (gathered_at x0 x1 x2 x3 _ _ _ x5 5 160 (by decide) rfl _ _ i j).symm
  · exact (dot_at _ _ i j).trans (gathered_at x0 x1 x2 x3 _ _ _ x5 4 128 (by decide) rfl _ _ i j).symm
  · exact (dot_at _ _ i j).trans (gathered_at x0 x1 x2 x3 _ _ _ x5 3 96 (by decide) rfl _ _ i j).symm
  · exact (dot_at _ _ i j).trans (gathered_at x0 x1 x2 x3 _ _ _ x5 2 64 (by decide) rfl _ _ i j).symm
  · exact (dot_at _ _ i j).trans (gathered_at x0 x1 x2 x3 _ _ _ x5 1 32 (by decide) rfl _ _ i j).symm
  · exact (dot_at _ _ i j).trans (gathered_at x0 x1 x2 x3 _ _ _ x5 0 0 (by decide) rfl _ _ i j).symm

end Cert.Rows
-- ==== Proof.Forms.lean ====
/- The head's mathematics after the sampling, as plain functions of rows and channels: what both programs' results are
   stated in. -/
module
public import Idealize.ShloMosaic.PureOps.Ideal
public import Mathlib.Algebra.BigOperators.Fin
@[expose] public section
noncomputable section

namespace Cert.Forms

open Idealize.ShloMosaic

/-- Rows `f` times the transpose of `W`. -/
def proj {k m : ℕ} (f : Fin 512 → Fin m → EReal) (W : Fin k → Fin m → EReal) (n : Fin 512) (d : Fin k) : EReal :=
  ∑ e, f n e * W d e

/-- Rows `f` times the transpose of `W`, a bias added, negative results cut to zero. -/
def hidden {k m : ℕ} (f : Fin 512 → Fin m → EReal) (W : Fin k → Fin m → EReal) (b : Fin k → EReal) (n : Fin 512) (d : Fin k) : EReal :=
  max (proj f W n d + b d) 0

/-- Channel `a` of group `g`. -/
def chan (g : Fin 6) (a : Fin 32) : Fin 192 := ⟨32 * (g : ℕ) + a, by omega⟩

/-- The group of a channel. -/
def grp (d : Fin 192) : Fin 6 := ⟨(d : ℕ) / 32, by omega⟩

/-- The unscaled score of prior `n` against prior `p` in group `g`. -/
def score (q : Fin 512 → Fin 32 → EReal) (k : Fin 512 → Fin 192 → EReal) (g : Fin 6) (n p : Fin 512) : EReal :=
  ∑ a : Fin 32, q n a * k p (chan g a)

/-- The attention weights taken with powers of two and no maximum subtracted. -/
def att2 (q : Fin 512 → Fin 32 → EReal) (k : Fin 512 → Fin 192 → EReal) (g : Fin 6) (n p : Fin 512) : EReal :=
  Ideal.div (Ideal.exp2 (score q k g n p)) (∑ p', Ideal.exp2 (score q k g n p'))

/-- The attended values. -/
def context (att : Fin 6 → Fin 512 → Fin 512 → EReal) (v : Fin 512 → Fin 192 → EReal) (n : Fin 512) (d : Fin 192) : EReal :=
  ∑ p, att (grp d) n p * v p d

/-- The features after the residual two-layer perceptron on the attended values. -/
def refined (f ctx : Fin 512 → Fin 192 → EReal) (W1 : Fin 384 → Fin 192 → EReal) (b1 : Fin 384 → EReal)
    (W2 : Fin 192 → Fin 384 → EReal) (b2 : Fin 192 → EReal) (n : Fin 512) (o : Fin 192) : EReal :=
  f n o + proj (hidden ctx W1 b1) W2 n o + b2 o

/-- A two-layer head. -/
def head {k : ℕ} (f : Fin 512 → Fin 192 → EReal) (W1 : Fin 192 → Fin 192 → EReal) (b1 : Fin 192 → EReal)
    (W2 : Fin k → Fin 192 → EReal) (b2 : Fin k → EReal) (n : Fin 512) (o : Fin k) : EReal :=
  proj (hidden f W1 b1) W2 n o + b2 o

end Cert.Forms
-- ==== Proof.Attend.lean ====
module
public import proofs.«01_k».proof.Proof.Feat
public import proofs.«01_k».proof.Proof.Forms
@[expose] public section
set_option maxRecDepth 16384
noncomputable section

/-! # The kernel's arithmetic after the sampling, point by point -/

namespace Cert.Attend

open Idealize.ShloMosaic Idealize.ShloMosaic.TcCoe Idealize.SL.Sem Cert.KernelIdeal Cert.KernelIdeal.Gen Cert.Forms Cert.Rows

/-- A table of rows and columns as a function of two coordinates. -/
def mat {a b : ℕ} (X : FVec Ideal ⟨2, ![a, b]⟩ .f32) (i : Fin a) (j : Fin b) : EReal := X (ix2 i j)

/-- The only row of a table. -/
def row {b : ℕ} (X : FVec Ideal ⟨2, ![1, b]⟩ .f32) (j : Fin b) : EReal := X (ix2 0 j)

/-- The gathered features, transposed, with the bias. -/
def feats (G : FVec Ideal S192x512 .f32) (b : FVec Ideal S1x192 .f32) (n : Fin 512) (o : Fin 192) : EReal := G (ix2 o n) + b (ix2 0 o)

/-- The query with the scale folded in. -/
def query (f : Fin 512 → Fin 192 → EReal) (W : FVec Ideal S32x192 .f32) (n : Fin 512) (a : Fin 32) : EReal :=
  proj f (mat W) n a * (((11863283 / 67108864) * (Real.log 2)⁻¹ : ℝ) : EReal)

/-- The features the body stores for later use. -/
theorem pay250_at (G b) (n : Fin 512) (o : Fin 192) : k0_pay250 (F := Ideal) G b (ix2 n o) = feats G b n o := by
  pointwise [k0_pay250]
  rfl

/-- The scaled queries. -/
theorem pay251_at (G b W) (n : Fin 512) (a : Fin 32) : k0_pay251 (F := Ideal) G b W (ix2 n a) = query (feats G b) W n a := by
  pointwise [k0_pay251, k0_pay250]
  rw [Rows.named_eq (by rfl)]
  rfl

/-- The keys. -/
theorem pay252_at (G b W) (n : Fin 512) (d : Fin 192) : k0_pay252 (F := Ideal) G b W (ix2 n d) = proj (feats G b) (mat W) n d := by
  pointwise [k0_pay252, k0_pay250]
  rfl

/-- The values. -/
theorem pay253_at (G b W) (n : Fin 512) (d : Fin 192) : k0_pay253 (F := Ideal) G b W (ix2 n d) = proj (feats G b) (mat W) n d := by
  pointwise [k0_pay253, k0_pay250]
  rfl

/-- The score's power of two, and the quotient by its row's sum, of a query table and a table of keys. -/
def pow2 (Q K : FVec Ideal S512x32 .f32) (n p : Fin 512) : EReal := Ideal.exp2 (∑ a : Fin 32, Q (ix2 n a) * K (ix2 p a))

/-- The quotient. -/
def quot (Q K : FVec Ideal S512x32 .f32) (n p : Fin 512) : EReal := Ideal.div (pow2 Q K n p) (∑ p', pow2 Q K n p')

/-- The first group's attention weights. -/
theorem pay256_at (G b W K) (n p : Fin 512) :
    k0_pay256 (F := Ideal) (k0_pay254 G b W K) (k0_pay255 G b W K) (ix2 n p) = quot (k0_pay251 G b W) K n p := by
  pointwise [k0_pay256, k0_pay255, k0_pay254]
  rfl

/-- The second group's attention weights. -/
theorem pay259_at (Q K) (n p : Fin 512) : k0_pay259 (F := Ideal) Q K (ix2 n p) = quot Q K n p := by
  pointwise [k0_pay259]
  rfl

/-- The third group's attention weights. -/
theorem pay264_at (Q K) (n p : Fin 512) : k0_pay264 (F := Ideal) (k0_pay262 Q K) (k0_pay263 Q K) (ix2 n p) = quot Q K n p := by
  pointwise [k0_pay264, k0_pay263, k0_pay262]
  rfl

/-- The fourth group's attention weights. -/
theorem pay267_at (Q K) (n p : Fin 512) : k0_pay267 (F := Ideal) Q K (ix2 n p) = quot Q K n p := by
  pointwise [k0_pay267]
  rfl

/-- The fifth group's attention weights. -/
theorem pay272_at (Q K) (n p : Fin 512) : k0_pay272 (F := Ideal) (k0_pay270 Q K) (k0_pay271 Q K) (ix2 n p) = quot Q K n p := by
  pointwise [k0_pay272, k0_pay271, k0_pay270]
  rfl

/-- The sixth group's attention weights. -/
theorem pay275_at (Q K) (n p : Fin 512) : k0_pay275 (F := Ideal) Q K (ix2 n p) = quot Q K n p := by
  pointwise [k0_pay275]
  rfl

/-- A group's attention block as it is stored. -/
theorem pay257_at (G b W K) (n p : Fin 512) :
    k0_pay257 (F := Ideal) (k0_pay254 G b W K) (k0_pay255 G b W K) (ix4 0 0 n p) = quot (k0_pay251 G b W) K n p := by
  pointwise [k0_pay257, k0_pay256, k0_pay255, k0_pay254]
  rfl

/-- A group's attention block as it is stored. -/
theorem pay260_at (Q K) (n p : Fin 512) : k0_pay260 (F := Ideal) Q K (ix4 0 0 n p) = quot Q K n p := by
  pointwise [k0_pay260, k0_pay259]
  rfl

/-- A group's attention block as it is stored. -/
theorem pay265_at (Q K) (n p : Fin 512) : k0_pay265 (F := Ideal) (k0_pay262 Q K) (k0_pay263 Q K) (ix4 0 0 n p) = quot Q K n p := by
  pointwise [k0_pay265, k0_pay264, k0_pay263, k0_pay262]
  rfl

/-- A group's attention block as it is stored. -/
theorem pay268_at (Q K) (n p : Fin 512) : k0_pay268 (F := Ideal) Q K (ix4 0 0 n p) = quot Q K n p := by
  pointwise [k0_pay268, k0_pay267]
  rfl

/-- A group's attention block as it is stored. -/
theorem pay273_at (Q K) (n p : Fin 512) : k0_pay273 (F := Ideal) (k0_pay270 Q K) (k0_pay271 Q K) (ix4 0 0 n p) = quot Q K n p := by
  pointwise [k0_pay273, k0_pay272, k0_pay271, k0_pay270]
  rfl

/-- A group's attention block as it is stored. -/
theorem pay276_at (Q K) (n p : Fin 512) : k0_pay276 (F := Ideal) Q K (ix4 0 0 n p) = quot Q K n p := by
  pointwise [k0_pay276, k0_pay275]
  rfl

/-- A group's attended values: its attention times its columns of the value table. -/
def attended (Q K V : FVec Ideal S512x32 .f32) (n : Fin 512) (a : Fin 32) : EReal := ∑ p, quot Q K n p * V (ix2 p a)

/-- A group's attended values as they are stored. -/
theorem pay258_at (G b W K V) (n : Fin 512) (a : Fin 32) :
    k0_pay258 (F := Ideal) V (k0_pay254 G b W K) (k0_pay255 G b W K) (ix2 n a) = attended (k0_pay251 G b W) K V n a := by
  simp only [attended, ← pay256_at]
  pointwise [k0_pay258]

/-- A group's attended values as they are stored. -/
theorem pay261_at (Q K V) (n : Fin 512) (a : Fin 32) : k0_pay261 (F := Ideal) Q K V (ix2 n a) = attended Q K V n a := by
  simp only [attended, ← pay259_at]
  pointwise [k0_pay261]

/-- A group's attended values as they are stored. -/
theorem pay266_at (Q K V) (n : Fin 512) (a : Fin 32) :
    k0_pay266 (F := Ideal) V (k0_pay262 Q K) (k0_pay263 Q K) (ix2 n a) = attended Q K V n a := by
  simp only [attended, ← pay264_at]
  pointwise [k0_pay266]

/-- A group's attended values as they are stored. -/
theorem pay269_at (Q K V) (n : Fin 512) (a : Fin 32) : k0_pay269 (F := Ideal) Q K V (ix2 n a) = attended Q K V n a := by
  simp only [attended, ← pay267_at]
  pointwise [k0_pay269]

/-- A group's attended values as they are stored. -/
theorem pay274_at (Q K V) (n : Fin 512) (a : Fin 32) :
    k0_pay274 (F := Ideal) V (k0_pay270 Q K) (k0_pay271 Q K) (ix2 n a) = attended Q K V n a := by
  simp only [attended, ← pay272_at]
  pointwise [k0_pay274]

/-- A group's attended values as they are stored. -/
theorem pay277_at (Q K V) (n : Fin 512) (a : Fin 32) : k0_pay277 (F := Ideal) Q K V (ix2 n a) = attended Q K V n a := by
  simp only [attended, ← pay275_at]
  pointwise [k0_pay277]

/-- The first layer's product. -/
theorem pay278_at (C W) (n : Fin 512) (h : Fin 384) : k0_pay278 (F := Ideal) C W (ix2 n h) = proj (mat C) (mat W) n h := by
  pointwise [k0_pay278]
  rfl

/-- The refined features. -/
theorem pay279_at (f C W1 b1 W2 b2) (n : Fin 512) (o : Fin 192) :
    k0_pay279 (F := Ideal) f (k0_pay278 C W1) b1 W2 b2 (ix2 n o)
      = refined (mat f) (mat C) (mat W1) (row b1) (mat W2) (row b2) n o := by
  pointwise [k0_pay279, k0_pay278]
  rfl

/-- The class scores as they are stored. -/
theorem cls_at (f P b1 W2 b2 W3 b3 W4 b4) (n : Fin 512) (o : Fin 2) :
    k0_pay1 (k0_pay280 (F := Ideal) f P b1 W2 b2 W3 b3 W4 b4) (ix3 0 n o)
      = head (mat (k0_pay279 f P b1 W2 b2)) (mat W3) (row b3) (mat W4) (row b4) n o := by
  pointwise [k0_pay1, k0_pay280]
  rfl

/-- The regressed coordinates as they are stored. -/
theorem reg_at (f P b1 W2 b2 W3 b3 W4 b4 X) (n : Fin 512) (o : Fin 74) :
    k0_pay2 (k0_pay281 (F := Ideal) f P b1 W2 b2 W3 b3) k0_pay282 W4 b4 X (ix3 0 n o)
      = X (ix3 0 n o) + head (mat (k0_pay279 f P b1 W2 b2)) (mat W3) (row b3) (mat W4) (row b4) n o := by
  pointwise [k0_pay2, k0_pay281, k0_pay282]
  rfl

end Cert.Attend
-- ==== Proof.Block.lean ====
module
public import proofs.«01_k».proof.Proof.Attend
@[expose] public section
set_option maxRecDepth 16384
noncomputable section

/-! # What the kernel's body leaves in its three output blocks, as plain functions of its input blocks -/

namespace Cert.Block

open Idealize.ShloMosaic Idealize.ShloMosaic.TcCoe Idealize.SL.Sem Cert.KernelIdeal Cert.KernelIdeal.Gen Cert.KernelIdeal.Gen.kernelRun0_A
open Cert.Forms Cert.Rows Cert.Attend

/-- The score of level `l` for a point's embedding `z`. -/
def lev (z : EReal) : Fin 3 → EReal :=
  ![Ideal.ofBits .f32 0xBF000000#32 * (z * z),
    Ideal.ofBits .f32 0xBF000000#32 * ((z - 1) * (z - 1)),
    Ideal.ofBits .f32 0xBF000000#32 * ((z - Ideal.ofBits .f32 0x40000000#32) * (z - Ideal.ofBits .f32 0x40000000#32))]

/-- Level `l`'s weights: the softmax of the three levels' scores, the largest subtracted. -/
def zcol (x4 : FVec Ideal S36x1 .f32) (l : Fin 3) (i : S36x1.Idx) : EReal :=
  Ideal.div (Ideal.exp (lev (x4 i) l - max (max (lev (x4 i) 0) (lev (x4 i) 1)) (lev (x4 i) 2)))
    (Ideal.exp (lev (x4 i) 0 - max (max (lev (x4 i) 0) (lev (x4 i) 1)) (lev (x4 i) 2))
      + Ideal.exp (lev (x4 i) 1 - max (max (lev (x4 i) 0) (lev (x4 i) 1)) (lev (x4 i) 2))
      + Ideal.exp (lev (x4 i) 2 - max (max (lev (x4 i) 0) (lev (x4 i) 1)) (lev (x4 i) 2)))

/-- The three columns of level weights the kernel computes. -/
theorem z_read (c : Dev nD) (arg5 : Memref sig .tc .vmem S36x1 .f32) (harg5 : arg5.IsWhole) (x4 : Vec Ideal S36x1 .f32) :
    sl.v51 (F := Ideal) c arg5 harg5 x4 = zcol x4 0 ∧ sl.v52 (F := Ideal) c arg5 harg5 x4 = zcol x4 1
      ∧ sl.v53 (F := Ideal) c arg5 harg5 x4 = zcol x4 2 := by
  refine ⟨funext (forall_ix2 fun a b => ?_), funext (forall_ix2 fun a b => ?_), funext (forall_ix2 fun a b => ?_)⟩
  all_goals
    fin_cases b
    simp only [sl.cst, sl.cst_27, sl.cst_28, sl.cst_30, sl.v25, sl.v26, sl.v27, sl.v28, sl.v29, sl.v30, sl.v31, sl.v32, sl.v33, sl.v35, sl.v36, sl.v37, sl.v38, sl.v40, sl.v41, sl.v42, sl.v43, sl.v44, sl.v45, sl.v46, sl.v47, sl.v48, sl.v49, sl.v50, sl.v51, sl.v52, sl.v53, View.readAt_eq_ld, harg5.read_unread]
    pointwise []
    rfl

/-- The features of every prior. -/
def featK (x0 : FVec Ideal S1x64x40x100 .f32) (x1 : FVec Ideal S1x64x20x50 .f32) (x2 : FVec Ideal S1x64x10x25 .f32)
    (x3 : FVec Ideal S1x512x76 .f32) (x4 : FVec Ideal S36x1 .f32) (x5 : FVec Ideal S192x384 .f32) (x6 : FVec Ideal S1x192 .f32) :
    Fin 512 → Fin 192 → EReal :=
  feats (gathered x0 x1 x2 x3 (zcol x4 0) (zcol x4 1) (zcol x4 2) x5) x6

/-- A load of a whole block is the block. -/
theorem ld_whole {s : Shape} (X : s.Idx → Elt Ideal .f32) (off : Fin s.rank → ℕ) (inb) (h : ∀ a, off a = 0) :
    View.ld (Val := Elt Ideal) (e' := .f32) X (Rect.unit (s := s) off (no_index s.size) inb) = X := by
  funext y
  show X _ = X y
  congr 1
  funext a
  apply Fin.ext
  show off a + 1 * (y a : ℕ) = y a
  rw [h]; omega

/-- The columns of a whole table from `o` on. -/
theorem cols_read {sp : Space} (v : View sig .tc sp S512x192 .f32) (T : S512x192.Idx → Elt Ideal .f32) (i0) (o : ℕ) (inb) :
    v.readCov [⟨Rect.unit (s := S512x192) ![0, 0] S512x192.size i0, T⟩]
        (Rect.unit (s := S512x192) ![0, o] (no_index S512x32.size) inb).toLoadRect
      = fun y => T ((Rect.unit (s := S512x192) ![0, o] S512x32.size inb).emb y) := by
  rw [View.readCov_eq_canon']
  funext y
  have hp : View.PiecesOf T [⟨Rect.unit (s := S512x192) ![0, 0] S512x192.size i0, T⟩] := by
    refine ⟨fun x => ?_, trivial⟩
    show T x = T _
    congr 1
    funext a
    apply Fin.ext
    have h0 : (![0, 0] : Fin 2 → ℕ) a = 0 := by fin_cases a <;> rfl
    show (x a : ℕ) = (![0, 0] : Fin 2 → ℕ) a + 1 * (x a : ℕ)
    rw [h0]; omega
  have h := View.canon_append_of_piecesOf T [] _ hp
    ((Rect.unit (s := S512x192) ![0, o] S512x32.size inb).toLoadRect.idx y)
    (View.cover_of_tiledBy _ ![512, 192] (by sl_kernel_rfl) _)
  exact h

/-- A group's column of a table at a point. -/
theorem emb_col (g : Fin 6) (o : ℕ) (ho : o = 32 * (g : ℕ)) (inb) (n : Fin 512) (a : Fin 32) :
    (Rect.unit (s := S512x192) ![0, o] S512x32.size inb).emb (ix2 n a : S512x32.Idx) = (ix2 n (chan g a) : S512x192.Idx) := by
  subst ho
  funext k
  fin_cases k
  · apply Fin.ext; show 0 + 1 * (n : ℕ) = n; omega
  · apply Fin.ext; show 32 * (g : ℕ) + 1 * (a : ℕ) = 32 * (g : ℕ) + a; omega

/-- A quotient of tables that hold the query and a group's keys is the group's attention. -/
theorem quot_eq (Q K : FVec Ideal S512x32 .f32) (q : Fin 512 → Fin 32 → EReal) (k : Fin 512 → Fin 192 → EReal) (g : Fin 6)
    (hQ : ∀ n a, Q (ix2 n a) = q n a) (hK : ∀ p a, K (ix2 p a) = k p (chan g a)) (n p : Fin 512) :
    quot Q K n p = att2 q k g n p := by
  simp only [quot, pow2, att2, score, hQ, hK]

/-- The attended values of tables that hold the query, a group's keys and its values. -/
theorem attended_eq (Q K V : FVec Ideal S512x32 .f32) (q : Fin 512 → Fin 32 → EReal) (k v : Fin 512 → Fin 192 → EReal) (g : Fin 6)
    (hQ : ∀ n a, Q (ix2 n a) = q n a) (hK : ∀ p a, K (ix2 p a) = k p (chan g a)) (hV : ∀ p a, V (ix2 p a) = v p (chan g a))
    (n : Fin 512) (a : Fin 32) : attended Q K V n a = context (att2 q k) v n (chan g a) := by
  have hg : grp (chan g a) = g := by
    apply Fin.ext; show (32 * (g : ℕ) + (a : ℕ)) / 32 = g; omega
  simp only [attended, context, hg, hV, quot_eq Q K q k g hQ hK]

/-- A fact of every four coordinates, the first two single, is a fact of every index. -/
theorem forall_ix4 {a b : ℕ} {P : (⟨4, ![1, 1, a, b]⟩ : Shape).Idx → Prop} (h : ∀ i j, P (ix4 0 0 i j)) : ∀ x, P x := by
  intro x
  have e : x = ix4 0 0 (x 2) (x 3) := by
    funext k
    fin_cases k
    · exact Subsingleton.elim (α := Fin 1) _ _
    · exact Subsingleton.elim (α := Fin 1) _ _
    · rfl
    · rfl
  rw [e]; exact h _ _

/-- A group's attention block in the output block. -/
theorem emb_att (g : ℕ) (hg : g < 6) (inb) (n p : Fin 512) :
    (Rect.unit (s := S1x6x512x512) ![0, g, 0, 0] S1x1x512x512.size inb).emb (ix4 0 0 n p : S1x1x512x512.Idx)
      = (ix4 0 ⟨g, hg⟩ n p : S1x6x512x512.Idx) := by
  funext k
  fin_cases k
  · rfl
  · rfl
  · apply Fin.ext; show 0 + 1 * (n : ℕ) = n; omega
  · apply Fin.ext; show 0 + 1 * (p : ℕ) = p; omega

/-- A function of rows and channels as a table. -/
def tab (f : Fin 512 → Fin 192 → EReal) (y : S512x192.Idx) : Elt Ideal .f32 := f (y 0) (y 1)

/-- A function of groups and pairs of priors as the attention block. -/
def attTab (f : Fin 6 → Fin 512 → Fin 512 → EReal) (y : S1x6x512x512.Idx) : Elt Ideal .f32 := f (y 1) (y 2) (y 3)

/-- Every index of the context scratch lies in one of the six groups' blocks. -/
theorem ctx_cover (p0 p1 p2 p3 p4 p5 : S512x32.Idx → Elt Ideal .f32) (i0 i1 i2 i3 i4 i5) (y : S512x192.Idx) :
    ∃ p ∈ ([⟨Rect.unit ![0, 160] S512x32.size i5, p5⟩, ⟨Rect.unit ![0, 128] S512x32.size i4, p4⟩,
      ⟨Rect.unit ![0, 96] S512x32.size i3, p3⟩, ⟨Rect.unit ![0, 64] S512x32.size i2, p2⟩,
      ⟨Rect.unit ![0, 32] S512x32.size i1, p1⟩, ⟨Rect.unit ![0, 0] S512x32.size i0, p0⟩] : List (View.Piece (Elt Ideal) S512x192 .f32)),
      y ∈ p.1.set :=
  View.cover_of_tiledBy _ ![512, 32] (by sl_kernel_rfl) y

variable (c : Dev nD) (i : grid0.Coords)
  (arg1 : Memref sig .tc .vmem S1x64x40x100 .f32) (harg1 : arg1.IsWhole)
  (arg2 : Memref sig .tc .vmem S1x64x20x50 .f32) (harg2 : arg2.IsWhole)
  (arg3 : Memref sig .tc .vmem S1x64x10x25 .f32) (harg3 : arg3.IsWhole)
  (arg4 : Memref sig .tc .vmem S1x512x76 .f32) (harg4 : arg4.IsWhole)
  (arg5 : Memref sig .tc .vmem S36x1 .f32) (harg5 : arg5.IsWhole)
  (arg6 : Memref sig .tc .vmem S192x384 .f32) (harg6 : arg6.IsWhole)
  (arg7 : Memref sig .tc .vmem S1x192 .f32) (harg7 : arg7.IsWhole)
  (arg8 : Memref sig .tc .vmem S32x192 .f32) (harg8 : arg8.IsWhole)
  (arg9 : Memref sig .tc .vmem S192x192 .f32) (harg9 : arg9.IsWhole)
  (arg10 : Memref sig .tc .vmem S192x192 .f32) (harg10 : arg10.IsWhole)
  (arg11 : Memref sig .tc .vmem S384x192 .f32) (harg11 : arg11.IsWhole)
  (arg12 : Memref sig .tc .vmem S1x384 .f32) (harg12 : arg12.IsWhole)
  (arg13 : Memref sig .tc .vmem S192x384 .f32) (harg13 : arg13.IsWhole)
  (arg14 : Memref sig .tc .vmem S1x192 .f32) (harg14 : arg14.IsWhole)
  (arg15 : Memref sig .tc .vmem S192x192 .f32) (harg15 : arg15.IsWhole)
  (arg16 : Memref sig .tc .vmem S1x192 .f32) (harg16 : arg16.IsWhole)
  (arg17 : Memref sig .tc .vmem S2x192 .f32) (harg17 : arg17.IsWhole)
  (arg18 : Memref sig .tc .vmem S1x2 .f32) (harg18 : arg18.IsWhole)
  (arg19 : Memref sig .tc .vmem S192x192 .f32) (harg19 : arg19.IsWhole)
  (arg20 : Memref sig .tc .vmem S1x192 .f32) (harg20 : arg20.IsWhole)
  (arg21 : Memref sig .tc .vmem S74x192 .f32) (harg21 : arg21.IsWhole)
  (arg22 : Memref sig .tc .vmem S1x74 .f32) (harg22 : arg22.IsWhole)
  (arg23 : Memref sig .tc .vmem S1x512x76 .f32) (harg23 : arg23.IsWhole)
  (arg24 : Memref sig .tc .vmem S512x192 .f32) (harg24 : arg24.IsWhole)
  (arg25 : Memref sig .tc .vmem S1x6x512x512 .f32) (harg25 : arg25.IsWhole)
  (arg26 : Memref sig .tc .vmem S384x512 .f32) (harg26 : arg26.IsWhole)
  (arg27 : Memref sig .tc .vmem S192x512 .f32) (harg27 : arg27.IsWhole)
  (arg28 : Memref sig .tc .vmem S512x192 .f32) (harg28 : arg28.IsWhole)
  (arg29 : Memref sig .tc .vmem S512x192 .f32) (harg29 : arg29.IsWhole)
  (arg30 : Memref sig .tc .vmem S512x192 .f32) (harg30 : arg30.IsWhole)
  (arg31 : Memref sig .tc .vmem S40x64x100 .f32) (harg31 : arg31.IsWhole)
  (arg32 : Memref sig .tc .vmem S20x64x50 .f32) (harg32 : arg32.IsWhole)
  (arg33 : Memref sig .tc .vmem S10x64x25 .f32) (harg33 : arg33.IsWhole)
  (arg34 : Memref sig .tc .vmem S76x512 .f32) (harg34 : arg34.IsWhole)
  (x0 : Vec Ideal S1x64x40x100 .f32)
  (x1 : Vec Ideal S1x64x20x50 .f32)
  (x2 : Vec Ideal S1x64x10x25 .f32)
  (x3 : Vec Ideal S1x512x76 .f32)
  (x4 : Vec Ideal S36x1 .f32)
  (x5 : Vec Ideal S192x384 .f32)
  (x6 : Vec Ideal S1x192 .f32)
  (x7 : Vec Ideal S32x192 .f32)
  (x8 : Vec Ideal S192x192 .f32)
  (x9 : Vec Ideal S192x192 .f32)
  (x10 : Vec Ideal S384x192 .f32)
  (x11 : Vec Ideal S1x384 .f32)
  (x12 : Vec Ideal S192x384 .f32)
  (x13 : Vec Ideal S1x192 .f32)
  (x14 : Vec Ideal S192x192 .f32)
  (x15 : Vec Ideal S1x192 .f32)
  (x16 : Vec Ideal S2x192 .f32)
  (x17 : Vec Ideal S1x2 .f32)
  (x18 : Vec Ideal S192x192 .f32)
  (x19 : Vec Ideal S1x192 .f32)
  (x20 : Vec Ideal S74x192 .f32)
  (x21 : Vec Ideal S1x74 .f32)

/-- What the kernel reads back of its features before the bias. -/
theorem G_read : sl.v2856 (F := Ideal) c arg1 harg1 arg2 harg2 arg3 harg3 arg4 harg4 arg5 harg5 arg6 harg6 arg26 arg27
      arg31 arg32 arg33 arg34 x0 x1 x2 x3 x4 x5
    = gathered x0 x1 x2 x3 (zcol x4 0) (zcol x4 1) (zcol x4 2) x5 := by
  obtain ⟨h0, h1, h2⟩ := z_read c arg5 harg5 x4
  rw [gathered_read, h0, h1, h2]

/-- The query table. -/
theorem Q_at (n : Fin 512) (a : Fin 32) :
    k0_pay251 (F := Ideal) (gathered x0 x1 x2 x3 (zcol x4 0) (zcol x4 1) (zcol x4 2) x5) x6 x7 (ix2 n a)
      = query (featK x0 x1 x2 x3 x4 x5 x6) x7 n a := pay251_at _ _ _ n a

/-- A group's keys. -/
theorem K_at {sp : Space} (v : View sig .tc sp S512x192 .f32) (g : Fin 6) (o : ℕ) (ho : o = 32 * (g : ℕ)) (inb) (n : Fin 512) (a : Fin 32) :
    v.readCov (sl.HS2_1 (F := Ideal) c arg1 harg1 arg2 harg2 arg3 harg3 arg4 harg4 arg5 harg5 arg6 harg6 arg7 harg7 arg9 harg9 arg26
        arg27 arg31 arg32 arg33 arg34 x0 x1 x2 x3 x4 x5 x6 x8)
      (Rect.unit (s := S512x192) ![0, o] S512x32.size inb).toLoadRect (ix2 n a) = proj (featK x0 x1 x2 x3 x4 x5 x6) (mat x8) n (chan g a) := by
  unfold sl.HS2_1
  rw [cols_read]
  simp only [emb_col g o ho, G_read, View.readAt_eq_ld, harg7.read_unread, harg9.read_unread]
  rw [ld_whole _ _ _ (by decide), ld_whole _ _ _ (by decide)]
  exact pay252_at _ _ _ n _

/-- A group's values. -/
theorem V_at {sp : Space} (v : View sig .tc sp S512x192 .f32) (g : Fin 6) (o : ℕ) (ho : o = 32 * (g : ℕ)) (inb) (n : Fin 512) (a : Fin 32) :
    v.readCov (sl.HS3_1 (F := Ideal) c arg1 harg1 arg2 harg2 arg3 harg3 arg4 harg4 arg5 harg5 arg6 harg6 arg7 harg7 arg10 harg10 arg26
        arg27 arg31 arg32 arg33 arg34 x0 x1 x2 x3 x4 x5 x6 x9)
      (Rect.unit (s := S512x192) ![0, o] S512x32.size inb).toLoadRect (ix2 n a) = proj (featK x0 x1 x2 x3 x4 x5 x6) (mat x9) n (chan g a) := by
  unfold sl.HS3_1
  rw [cols_read]
  simp only [emb_col g o ho, G_read, View.readAt_eq_ld, harg7.read_unread, harg10.read_unread]
  rw [ld_whole _ _ _ (by decide), ld_whole _ _ _ (by decide)]
  exact pay253_at _ _ _ n _

/-- The attention block: every group's softmax weights. -/
theorem out24 : out0_A_24 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21
    = attTab (att2 (query (featK x0 x1 x2 x3 x4 x5 x6) x7) (proj (featK x0 x1 x2 x3 x4 x5 x6) (mat x8))) := by
  unfold out0_A_24
  dsimp only
  unfold kernelRun0_A
  dsimp only
  rw [View.read_writes_junk_eq_canon]
  funext y
  refine (View.canon_append_of_piecesOf (attTab (att2 (query (featK x0 x1 x2 x3 x4 x5 x6) x7) (proj (featK x0 x1 x2 x3 x4 x5 x6) (mat x8)))) [] [_, _, _, _, _, _]
    ?_ y (View.cover_of_tiledBy _ ![1, 1, 512, 512] (by sl_kernel_rfl) y))
  refine ⟨forall_ix4 fun n p => ?_, forall_ix4 fun n p => ?_, forall_ix4 fun n p => ?_, forall_ix4 fun n p => ?_,
      forall_ix4 fun n p => ?_, forall_ix4 fun n p => ?_, trivial⟩
  all_goals
    simp only [sl.r_172, sl.r_173, sl.r_174, sl.r_175, sl.r_176, sl.r_177, sl.r_178, G_read, View.readAt_eq_ld, harg7.read_unread,
      harg8.read_unread]
    rw [emb_att _ (by decide), ld_whole _ _ _ (by decide), ld_whole _ _ _ (by decide)]
  · exact (pay276_at _ _ n p).trans (quot_eq _ _ _ _ 5 (fun n a => Q_at (n := n) (a := a) ..)
      (fun n a => K_at (g := 5) (o := 160) (ho := rfl) (n := n) (a := a) ..) n p)
  · exact (pay273_at _ _ n p).trans (quot_eq _ _ _ _ 4 (fun n a => Q_at (n := n) (a := a) ..)
      (fun n a => K_at (g := 4) (o := 128) (ho := rfl) (n := n) (a := a) ..) n p)
  · exact (pay268_at _ _ n p).trans (quot_eq _ _ _ _ 3 (fun n a => Q_at (n := n) (a := a) ..)
      (fun n a => K_at (g := 3) (o := 96) (ho := rfl) (n := n) (a := a) ..) n p)
  · exact (pay265_at _ _ n p).trans (quot_eq _ _ _ _ 2 (fun n a => Q_at (n := n) (a := a) ..)
      (fun n a => K_at (g := 2) (o := 64) (ho := rfl) (n := n) (a := a) ..) n p)
  · exact (pay260_at _ _ n p).trans (quot_eq _ _ _ _ 1 (fun n a => Q_at (n := n) (a := a) ..)
      (fun n a => K_at (g := 1) (o := 32) (ho := rfl) (n := n) (a := a) ..) n p)
  · exact (pay257_at _ _ _ _ n p).trans (quot_eq _ _ _ _ 0 (fun n a => Q_at (n := n) (a := a) ..)
      (fun n a => K_at (g := 0) (o := 0) (ho := rfl) (n := n) (a := a) ..) n p)

/-- What the kernel reads back of its attended values. -/
theorem ctx_read : sl.v2966 (F := Ideal) c arg1 harg1 arg2 harg2 arg3 harg3 arg4 harg4 arg5 harg5 arg6 harg6 arg7 harg7 arg8 harg8
      arg9 harg9 arg10 harg10 arg26 arg27 arg28 arg29 arg30 arg31 arg32 arg33 arg34 x0 x1 x2 x3 x4 x5 x6 x7 x8 x9
    = tab (context (att2 (query (featK x0 x1 x2 x3 x4 x5 x6) x7) (proj (featK x0 x1 x2 x3 x4 x5 x6) (mat x8))) (proj (featK x0 x1 x2 x3 x4 x5 x6) (mat x9))) := by
  unfold sl.v2966 sl.HS4_6
  refine readCov_whole _ _ (tab (context (att2 (query (featK x0 x1 x2 x3 x4 x5 x6) x7) (proj (featK x0 x1 x2 x3 x4 x5 x6) (mat x8))) (proj (featK x0 x1 x2 x3 x4 x5 x6) (mat x9)))) ?_ (ctx_cover _ _ _ _ _ _ _ _ _ _ _ _) _ (by decide) _
  refine ⟨forall_ix2 fun n a => ?_, forall_ix2 fun n a => ?_, forall_ix2 fun n a => ?_, forall_ix2 fun n a => ?_,
      forall_ix2 fun n a => ?_, forall_ix2 fun n a => ?_, trivial⟩
  all_goals
    simp only [sl.r_172, sl.r_173, sl.r_174, sl.r_175, sl.r_176, sl.r_177, sl.r_178, G_read, View.readAt_eq_ld, harg7.read_unread,
      harg8.read_unread]
    rw [ld_whole _ _ _ (by decide), ld_whole _ _ _ (by decide)]
  · rw [emb_col 5 160 rfl]
    exact (pay277_at _ _ _ n a).trans (attended_eq _ _ _ _ _ _ 5 (fun n a => Q_at (n := n) (a := a) ..)
      (fun n a => K_at (g := 5) (o := 160) (ho := rfl) (n := n) (a := a) ..)
      (fun n a => V_at (g := 5) (o := 160) (ho := rfl) (n := n) (a := a) ..) n a)
  · rw [emb_col 4 128 rfl]
    exact (pay274_at _ _ _ n a).trans (attended_eq _ _ _ _ _ _ 4 (fun n a => Q_at (n := n) (a := a) ..)
      (fun n a => K_at (g := 4) (o := 128) (ho := rfl) (n := n) (a := a) ..)
      (fun n a => V_at (g := 4) (o := 128) (ho := rfl) (n := n) (a := a) ..) n a)
  · rw [emb_col 3 96 rfl]
    exact (pay269_at _ _ _ n a).trans (attended_eq _ _ _ _ _ _ 3 (fun n a => Q_at (n := n) (a := a) ..)
      (fun n a => K_at (g := 3) (o := 96) (ho := rfl) (n := n) (a := a) ..)
      (fun n a => V_at (g := 3) (o := 96) (ho := rfl) (n := n) (a := a) ..) n a)
  · rw [emb_col 2 64 rfl]
    exact (pay266_at _ _ _ n a).trans (attended_eq _ _ _ _ _ _ 2 (fun n a => Q_at (n := n) (a := a) ..)
      (fun n a => K_at (g := 2) (o := 64) (ho := rfl) (n := n) (a := a) ..)
      (fun n a => V_at (g := 2) (o := 64) (ho := rfl) (n := n) (a := a) ..) n a)
  · rw [emb_col 1 32 rfl]
    exact (pay261_at _ _ _ n a).trans (attended_eq _ _ _ _ _ _ 1 (fun n a => Q_at (n := n) (a := a) ..)
      (fun n a => K_at (g := 1) (o := 32) (ho := rfl) (n := n) (a := a) ..)
      (fun n a => V_at (g := 1) (o := 32) (ho := rfl) (n := n) (a := a) ..) n a)
  · rw [emb_col 0 0 rfl]
    exact (pay258_at _ _ _ _ _ n a).trans (attended_eq _ _ _ _ _ _ 0 (fun n a => Q_at (n := n) (a := a) ..)
      (fun n a => K_at (g := 0) (o := 0) (ho := rfl) (n := n) (a := a) ..)
      (fun n a => V_at (g := 0) (o := 0) (ho := rfl) (n := n) (a := a) ..) n a)

end Cert.Block
-- ==== Proof.Block2.lean ====
module
public import proofs.«01_k».proof.Proof.Block
@[expose] public section
set_option maxRecDepth 16384
noncomputable section

/-! # The refined features and the predictions the kernel's body leaves -/

namespace Cert.Block

open Idealize.ShloMosaic Idealize.ShloMosaic.TcCoe Idealize.SL.Sem Cert.KernelIdeal Cert.KernelIdeal.Gen Cert.KernelIdeal.Gen.kernelRun0_A
open Cert.Forms Cert.Rows Cert.Attend

/-- A table read as a function of rows and channels. -/
theorem mat_tab (f : Fin 512 → Fin 192 → EReal) : mat (a := 512) (b := 192) (tab f) = f := rfl

/-- The table of the features with the bias. -/
theorem pay250_eq (G : FVec Ideal S192x512 .f32) (b : FVec Ideal S1x192 .f32) : k0_pay250 (F := Ideal) G b = tab (feats G b) :=
  funext (forall_ix2 fun n o => pay250_at G b n o)

/-- The table of the refined features. -/
theorem pay279_eq (f : FVec Ideal S512x192 .f32) (C : FVec Ideal S512x192 .f32) (W1 b1 W2 b2) :
    k0_pay279 (F := Ideal) f (k0_pay278 C W1) b1 W2 b2 = tab (refined (mat f) (mat C) (mat W1) (row b1) (mat W2) (row b2)) :=
  funext (forall_ix2 fun n o => pay279_at f C W1 b1 W2 b2 n o)

/-- The predictions: two class scores, then the priors' coordinates from the third on with the regressed offsets added. -/
def predTab (X : FVec Ideal S1x512x76 .f32) (cl : Fin 512 → Fin 2 → EReal) (rg : Fin 512 → Fin 74 → EReal) (y : S1x512x76.Idx) :
    Elt Ideal .f32 :=
  if h : (y 2 : ℕ) < 2 then cl (y 1) ⟨(y 2 : ℕ), h⟩
  else X y + rg (y 1) ⟨(y 2 : ℕ) - 2, by have : (y 2 : ℕ) < 76 := (y 2).isLt; omega⟩

/-- A fact of every three coordinates, the first single, is a fact of every index. -/
theorem forall_ix3 {a b : ℕ} {P : (⟨3, ![1, a, b]⟩ : Shape).Idx → Prop} (h : ∀ i j, P (ix3 0 i j)) : ∀ x, P x := by
  intro x
  have e : x = ix3 0 (x 1) (x 2) := by
    funext k
    fin_cases k
    · exact Subsingleton.elim (α := Fin 1) _ _
    · rfl
    · rfl
  rw [e]; exact h _ _

/-- The class scores' columns of the predictions. -/
theorem pred_cls (X cl rg inb) (n : Fin 512) (o : Fin 2) :
    predTab X cl rg ((Rect.unit (s := S1x512x76) ![0, 0, 0] S1x512x2.size inb).emb (ix3 0 n o : S1x512x2.Idx)) = cl n o := by
  have e : (Rect.unit (s := S1x512x76) ![0, 0, 0] S1x512x2.size inb).emb (ix3 0 n o : S1x512x2.Idx)
      = (ix3 0 n ⟨(o : ℕ), by omega⟩ : S1x512x76.Idx) := by
    funext k
    fin_cases k
    · rfl
    · apply Fin.ext; show 0 + 1 * (n : ℕ) = n; omega
    · apply Fin.ext; show 0 + 1 * (o : ℕ) = o; omega
  rw [e]
  exact dif_pos o.isLt

/-- The regressed columns of the predictions. -/
theorem pred_reg (X cl rg inb) (n : Fin 512) (o : Fin 74) :
    predTab X cl rg ((Rect.unit (s := S1x512x76) ![0, 0, 2] S1x512x74.size inb).emb (ix3 0 n o : S1x512x74.Idx))
      = View.ld (Val := Elt Ideal) (e' := .f32) X (Rect.unit (s := S1x512x76) ![0, 0, 2] S1x512x74.size inb) (ix3 0 n o : S1x512x74.Idx)
        + rg n o := by
  have e : (Rect.unit (s := S1x512x76) ![0, 0, 2] S1x512x74.size inb).emb (ix3 0 n o : S1x512x74.Idx)
      = (ix3 0 n ⟨2 + (o : ℕ), by omega⟩ : S1x512x76.Idx) := by
    funext k
    fin_cases k
    · rfl
    · apply Fin.ext; show 0 + 1 * (n : ℕ) = n; omega
    · apply Fin.ext; show 2 + 1 * (o : ℕ) = 2 + o; omega
  show predTab X cl rg _ = X ((Rect.unit (s := S1x512x76) ![0, 0, 2] S1x512x74.size inb).emb (ix3 0 n o : S1x512x74.Idx)) + rg n o
  rw [e]
  refine (dif_neg (by show ¬ (2 + (o : ℕ) < 2); omega)).trans ?_
  have : (⟨2 + (o : ℕ) - 2, by omega⟩ : Fin 74) = o := by apply Fin.ext; show 2 + (o : ℕ) - 2 = o; omega
  exact congrArg (fun k => X (ix3 0 n ⟨2 + (o : ℕ), by omega⟩ : S1x512x76.Idx) + rg n k) this

variable (c : Dev nD) (i : grid0.Coords)
  (arg1 : Memref sig .tc .vmem S1x64x40x100 .f32) (harg1 : arg1.IsWhole)
  (arg2 : Memref sig .tc .vmem S1x64x20x50 .f32) (harg2 : arg2.IsWhole)
  (arg3 : Memref sig .tc .vmem S1x64x10x25 .f32) (harg3 : arg3.IsWhole)
  (arg4 : Memref sig .tc .vmem S1x512x76 .f32) (harg4 : arg4.IsWhole)
  (arg5 : Memref sig .tc .vmem S36x1 .f32) (harg5 : arg5.IsWhole)
  (arg6 : Memref sig .tc .vmem S192x384 .f32) (harg6 : arg6.IsWhole)
  (arg7 : Memref sig .tc .vmem S1x192 .f32) (harg7 : arg7.IsWhole)
  (arg8 : Memref sig .tc .vmem S32x192 .f32) (harg8 : arg8.IsWhole)
  (arg9 : Memref sig .tc .vmem S192x192 .f32) (harg9 : arg9.IsWhole)
  (arg10 : Memref sig .tc .vmem S192x192 .f32) (harg10 : arg10.IsWhole)
  (arg11 : Memref sig .tc .vmem S384x192 .f32) (harg11 : arg11.IsWhole)
  (arg12 : Memref sig .tc .vmem S1x384 .f32) (harg12 : arg12.IsWhole)
  (arg13 : Memref sig .tc .vmem S192x384 .f32) (harg13 : arg13.IsWhole)
  (arg14 : Memref sig .tc .vmem S1x192 .f32) (harg14 : arg14.IsWhole)
  (arg15 : Memref sig .tc .vmem S192x192 .f32) (harg15 : arg15.IsWhole)
  (arg16 : Memref sig .tc .vmem S1x192 .f32) (harg16 : arg16.IsWhole)
  (arg17 : Memref sig .tc .vmem S2x192 .f32) (harg17 : arg17.IsWhole)
  (arg18 : Memref sig .tc .vmem S1x2 .f32) (harg18 : arg18.IsWhole)
  (arg19 : Memref sig .tc .vmem S192x192 .f32) (harg19 : arg19.IsWhole)
  (arg20 : Memref sig .tc .vmem S1x192 .f32) (harg20 : arg20.IsWhole)
  (arg21 : Memref sig .tc .vmem S74x192 .f32) (harg21 : arg21.IsWhole)
  (arg22 : Memref sig .tc .vmem S1x74 .f32) (harg22 : arg22.IsWhole)
  (arg23 : Memref sig .tc .vmem S1x512x76 .f32) (harg23 : arg23.IsWhole)
  (arg24 : Memref sig .tc .vmem S512x192 .f32) (harg24 : arg24.IsWhole)
  (arg25 : Memref sig .tc .vmem S1x6x512x512 .f32) (harg25 : arg25.IsWhole)
  (arg26 : Memref sig .tc .vmem S384x512 .f32) (harg26 : arg26.IsWhole)
  (arg27 : Memref sig .tc .vmem S192x512 .f32) (harg27 : arg27.IsWhole)
  (arg28 : Memref sig .tc .vmem S512x192 .f32) (harg28 : arg28.IsWhole)
  (arg29 : Memref sig .tc .vmem S512x192 .f32) (harg29 : arg29.IsWhole)
  (arg30 : Memref sig .tc .vmem S512x192 .f32) (harg30 : arg30.IsWhole)
  (arg31 : Memref sig .tc .vmem S40x64x100 .f32) (harg31 : arg31.IsWhole)
  (arg32 : Memref sig .tc .vmem S20x64x50 .f32) (harg32 : arg32.IsWhole)
  (arg33 : Memref sig .tc .vmem S10x64x25 .f32) (harg33 : arg33.IsWhole)
  (arg34 : Memref sig .tc .vmem S76x512 .f32) (harg34 : arg34.IsWhole)
  (x0 : Vec Ideal S1x64x40x100 .f32)
  (x1 : Vec Ideal S1x64x20x50 .f32)
  (x2 : Vec Ideal S1x64x10x25 .f32)
  (x3 : Vec Ideal S1x512x76 .f32)
  (x4 : Vec Ideal S36x1 .f32)
  (x5 : Vec Ideal S192x384 .f32)
  (x6 : Vec Ideal S1x192 .f32)
  (x7 : Vec Ideal S32x192 .f32)
  (x8 : Vec Ideal S192x192 .f32)
  (x9 : Vec Ideal S192x192 .f32)
  (x10 : Vec Ideal S384x192 .f32)
  (x11 : Vec Ideal S1x384 .f32)
  (x12 : Vec Ideal S192x384 .f32)
  (x13 : Vec Ideal S1x192 .f32)
  (x14 : Vec Ideal S192x192 .f32)
  (x15 : Vec Ideal S1x192 .f32)
  (x16 : Vec Ideal S2x192 .f32)
  (x17 : Vec Ideal S1x2 .f32)
  (x18 : Vec Ideal S192x192 .f32)
  (x19 : Vec Ideal S1x192 .f32)
  (x20 : Vec Ideal S74x192 .f32)
  (x21 : Vec Ideal S1x74 .f32)

/-- The feature block: the refined features. -/
theorem out23 : out0_A_23 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21
    = tab (refined (featK x0 x1 x2 x3 x4 x5 x6) (context (att2 (query (featK x0 x1 x2 x3 x4 x5 x6) x7) (proj (featK x0 x1 x2 x3 x4 x5 x6) (mat x8))) (proj (featK x0 x1 x2 x3 x4 x5 x6) (mat x9))) (mat x10) (row x11) (mat x12) (row x13)) := by
  unfold out0_A_23
  dsimp only
  unfold kernelRun0_A
  dsimp only
  rw [View.read_writes_junk_eq_canon]
  funext y
  refine (View.canon_append_of_piecesOf (tab (refined (featK x0 x1 x2 x3 x4 x5 x6) (context (att2 (query (featK x0 x1 x2 x3 x4 x5 x6) x7) (proj (featK x0 x1 x2 x3 x4 x5 x6) (mat x8))) (proj (featK x0 x1 x2 x3 x4 x5 x6) (mat x9))) (mat x10) (row x11) (mat x12) (row x13))) [] [_] ?_ y
    (View.cover_of_tiledBy _ ![512, 192] (by sl_kernel_rfl) y))
  refine ⟨forall_ix2 fun n o => ?_, trivial⟩
  simp only [sl.r_171, sl.r_179, sl.r_180, sl.r_181, sl.r_182, G_read, ctx_read, View.readAt_eq_ld, harg4.read_unread, harg7.read_unread, harg11.read_unread, harg12.read_unread, harg13.read_unread, harg14.read_unread, harg15.read_unread, harg16.read_unread, harg17.read_unread, harg18.read_unread, harg19.read_unread, harg20.read_unread, harg21.read_unread, harg22.read_unread]
  repeat rw [ld_whole _ _ _ (by decide)]
  rw [pay279_eq, pay250_eq, mat_tab, mat_tab]
  have e : (Rect.unit (s := S512x192) ![0, 0] S512x192.size inb_S512x192_S512x192_0_0).emb (ix2 n o : S512x192.Idx) = ix2 n o := by
    funext k
    fin_cases k
    · apply Fin.ext; show 0 + 1 * (n : ℕ) = n; omega
    · apply Fin.ext; show 0 + 1 * (o : ℕ) = o; omega
  exact congrArg _ e.symm

/-- The prediction block. -/
theorem out22 : out0_A_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21
    = predTab x3 (head (refined (featK x0 x1 x2 x3 x4 x5 x6) (context (att2 (query (featK x0 x1 x2 x3 x4 x5 x6) x7) (proj (featK x0 x1 x2 x3 x4 x5 x6) (mat x8))) (proj (featK x0 x1 x2 x3 x4 x5 x6) (mat x9))) (mat x10) (row x11) (mat x12) (row x13)) (mat x14) (row x15) (mat x16) (row x17)) (head (refined (featK x0 x1 x2 x3 x4 x5 x6) (context (att2 (query (featK x0 x1 x2 x3 x4 x5 x6) x7) (proj (featK x0 x1 x2 x3 x4 x5 x6) (mat x8))) (proj (featK x0 x1 x2 x3 x4 x5 x6) (mat x9))) (mat x10) (row x11) (mat x12) (row x13)) (mat x18) (row x19) (mat x20) (row x21)) := by
  unfold out0_A_22
  dsimp only
  unfold kernelRun0_A
  dsimp only
  rw [View.read_writes_junk_eq_canon]
  funext y
  refine (View.canon_append_of_piecesOf (predTab x3 (head (refined (featK x0 x1 x2 x3 x4 x5 x6) (context (att2 (query (featK x0 x1 x2 x3 x4 x5 x6) x7) (proj (featK x0 x1 x2 x3 x4 x5 x6) (mat x8))) (proj (featK x0 x1 x2 x3 x4 x5 x6) (mat x9))) (mat x10) (row x11) (mat x12) (row x13)) (mat x14) (row x15) (mat x16) (row x17)) (head (refined (featK x0 x1 x2 x3 x4 x5 x6) (context (att2 (query (featK x0 x1 x2 x3 x4 x5 x6) x7) (proj (featK x0 x1 x2 x3 x4 x5 x6) (mat x8))) (proj (featK x0 x1 x2 x3 x4 x5 x6) (mat x9))) (mat x10) (row x11) (mat x12) (row x13)) (mat x18) (row x19) (mat x20) (row x21))) [] [_, _]
    ?_ y (cover0_A_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 y))
  refine ⟨forall_ix3 fun n o => ?_, forall_ix3 fun n o => ?_, trivial⟩
  · simp only [sl.r_171, sl.r_179, sl.r_180, sl.r_181, sl.r_182, G_read, ctx_read, View.readAt_eq_ld, harg4.read_unread, harg7.read_unread, harg11.read_unread, harg12.read_unread, harg13.read_unread, harg14.read_unread, harg15.read_unread, harg16.read_unread, harg17.read_unread, harg18.read_unread, harg19.read_unread, harg20.read_unread, harg21.read_unread, harg22.read_unread]
    repeat rw [ld_whole _ _ _ (by decide)]
    rw [pred_reg]
    refine (reg_at _ _ _ _ _ _ _ _ _ _ n o).trans ?_
    rw [pay279_eq, pay250_eq, mat_tab, mat_tab, mat_tab]
    rfl
  · simp only [sl.r_171, sl.r_179, sl.r_180, sl.r_181, sl.r_182, G_read, ctx_read, View.readAt_eq_ld, harg4.read_unread, harg7.read_unread, harg11.read_unread, harg12.read_unread, harg13.read_unread, harg14.read_unread, harg15.read_unread, harg16.read_unread, harg17.read_unread, harg18.read_unread, harg19.read_unread, harg20.read_unread, harg21.read_unread, harg22.read_unread]
    repeat rw [ld_whole _ _ _ (by decide)]
    rw [pred_cls]
    refine (cls_at _ _ _ _ _ _ _ _ _ n o).trans ?_
    rw [pay279_eq, pay250_eq, mat_tab, mat_tab, mat_tab]
    rfl

end Cert.Block
-- ==== Proof.Entry.lean ====
/- The kernel's input blocks at a grid point, as slices and reshapes of the arguments the launch was given. -/
module
public import proofs.«01_k».proof.Proof.Block2
public import proofs.«01_k».proof.Proof.Gen.KernelIdeal.Value
public import Idealize.ShloMosaic.Lib.Pipeline.ValueKit
@[expose] public section
set_option maxRecDepth 16384
noncomputable section

namespace Cert.Entry

open Idealize.ShloMosaic Idealize.ShloMosaic.TcCoe Idealize.SL.Sem Cert.KernelIdeal Cert.KernelIdeal.Gen

/-- Batch `t` of four-axis data, as a block of one batch. -/
def cut4 {a b d : ℕ} (X : FVec Ideal ⟨4, ![16, a, b, d]⟩ .f32) (t : Fin 16) : FVec Ideal ⟨4, ![1, a, b, d]⟩ .f32 :=
  fun y => X (ix4 t (y 1) (y 2) (y 3))

/-- Batch `t` of three-axis data, as a block of one batch. -/
def cut3 {a b : ℕ} (X : FVec Ideal ⟨3, ![16, a, b]⟩ .f32) (t : Fin 16) : FVec Ideal ⟨3, ![1, a, b]⟩ .f32 :=
  fun y => X (ix3 t (y 1) (y 2))

/-- A vector as a column. -/
def col {a : ℕ} (X : FVec Ideal ⟨1, ![a]⟩ .f32) : FVec Ideal ⟨2, ![a, 1]⟩ .f32 := fun y => X (ix1 (y 0))

/-- A vector as a row. -/
def line {a : ℕ} (X : FVec Ideal ⟨1, ![a]⟩ .f32) : FVec Ideal ⟨2, ![1, a]⟩ .f32 := fun y => X (ix1 (y 1))

/-- The gathering weights with level and channel on one axis. -/
def flat (X : FVec Ideal S192x6x64 .f32) : FVec Ideal S192x384 .f32 :=
  fun y => X (ix3 (y 0) ⟨(y 1 : ℕ) / 64, by have : (y 1 : ℕ) < 384 := (y 1).isLt; omega⟩ ⟨(y 1 : ℕ) % 64, Nat.mod_lt _ (by norm_num)⟩)

/-- An index of a block at block number zero on every axis is itself. -/
theorem emb_self {S : Shape} (e j : S.Idx) (k : Fin S.rank → ℕ) (hk : ∀ a, k a = 0)
    (h : ∀ a, (e a : ℕ) = k a * S.size a + 1 * (j a : ℕ)) : e = j :=
  funext fun a => Fin.ext (by rw [h, hk]; omega)

variable (m : (ℓ : Loc nD τ sig) → Buf (Elt Ideal) ℓ)

/-- Input block 0 at point `t` is batch `t` of its argument. -/
theorem iblk0 (c : Dev nD) (t : Fin 16) : iblk m c 0 t = cut4 (m ((c : Thread nD τ).loc main_arg0)) t := by
  have hx := (by decide +kernel : ∀ t : Fin grid0.N, win0_0.index t (0 : Fin 4) = t ∧ win0_0.index t (1 : Fin 4) = 0 ∧ win0_0.index t (2 : Fin 4) = 0 ∧ win0_0.index t (3 : Fin 4) = 0) t
  obtain ⟨e0, e1, e2, e3⟩ := hx
  funext j
  show V m c main_arg0 (((cfg0.win 0).blk t).view.emb j) = _
  rw [V_main_arg0]
  refine congrArg (m ((c : Thread nD τ).loc main_arg0)) (funext fun a => Fin.ext ?_)
  have h0 : (j 0 : ℕ) < 1 := (j 0).isLt
  match a with
  | ⟨0, _⟩ => show win0_0.index t (0 : Fin 4) * 1 + 1 * (j 0).val = (t : ℕ); omega
  | ⟨1, _⟩ => show win0_0.index t (1 : Fin 4) * 64 + 1 * (j 1).val = (j 1).val; omega
  | ⟨2, _⟩ => show win0_0.index t (2 : Fin 4) * 40 + 1 * (j 2).val = (j 2).val; omega
  | ⟨3, _⟩ => show win0_0.index t (3 : Fin 4) * 100 + 1 * (j 3).val = (j 3).val; omega

/-- Input block 1 at point `t` is batch `t` of its argument. -/
theorem iblk1 (c : Dev nD) (t : Fin 16) : iblk m c 1 t = cut4 (m ((c : Thread nD τ).loc main_arg1)) t := by
  have hx := (by decide +kernel : ∀ t : Fin grid0.N, win0_1.index t (0 : Fin 4) = t ∧ win0_1.index t (1 : Fin 4) = 0 ∧ win0_1.index t (2 : Fin 4) = 0 ∧ win0_1.index t (3 : Fin 4) = 0) t
  obtain ⟨e0, e1, e2, e3⟩ := hx
  funext j
  show V m c main_arg1 (((cfg0.win 1).blk t).view.emb j) = _
  rw [V_main_arg1]
  refine congrArg (m ((c : Thread nD τ).loc main_arg1)) (funext fun a => Fin.ext ?_)
  have h0 : (j 0 : ℕ) < 1 := (j 0).isLt
  match a with
  | ⟨0, _⟩ => show win0_1.index t (0 : Fin 4) * 1 + 1 * (j 0).val = (t : ℕ); omega
  | ⟨1, _⟩ => show win0_1.index t (1 : Fin 4) * 64 + 1 * (j 1).val = (j 1).val; omega
  | ⟨2, _⟩ => show win0_1.index t (2 : Fin 4) * 20 + 1 * (j 2).val = (j 2).val; omega
  | ⟨3, _⟩ => show win0_1.index t (3 : Fin 4) * 50 + 1 * (j 3).val = (j 3).val; omega

/-- Input block 2 at point `t` is batch `t` of its argument. -/
theorem iblk2 (c : Dev nD) (t : Fin 16) : iblk m c 2 t = cut4 (m ((c : Thread nD τ).loc main_arg2)) t := by
  have hx := (by decide +kernel : ∀ t : Fin grid0.N, win0_2.index t (0 : Fin 4) = t ∧ win0_2.index t (1 : Fin 4) = 0 ∧ win0_2.index t (2 : Fin 4) = 0 ∧ win0_2.index t (3 : Fin 4) = 0) t
  obtain ⟨e0, e1, e2, e3⟩ := hx
  funext j
  show V m c main_arg2 (((cfg0.win 2).blk t).view.emb j) = _
  rw [V_main_arg2]
  refine congrArg (m ((c : Thread nD τ).loc main_arg2)) (funext fun a => Fin.ext ?_)
  have h0 : (j 0 : ℕ) < 1 := (j 0).isLt
  match a with
  | ⟨0, _⟩ => show win0_2.index t (0 : Fin 4) * 1 + 1 * (j 0).val = (t : ℕ); omega
  | ⟨1, _⟩ => show win0_2.index t (1 : Fin 4) * 64 + 1 * (j 1).val = (j 1).val; omega
  | ⟨2, _⟩ => show win0_2.index t (2 : Fin 4) * 10 + 1 * (j 2).val = (j 2).val; omega
  | ⟨3, _⟩ => show win0_2.index t (3 : Fin 4) * 25 + 1 * (j 3).val = (j 3).val; omega

/-- Input block 3 at point `t` is batch `t` of its argument. -/
theorem iblk3 (c : Dev nD) (t : Fin 16) : iblk m c 3 t = cut3 (m ((c : Thread nD τ).loc main_arg3)) t := by
  have hx := (by decide +kernel : ∀ t : Fin grid0.N, win0_3.index t (0 : Fin 3) = t ∧ win0_3.index t (1 : Fin 3) = 0 ∧ win0_3.index t (2 : Fin 3) = 0) t
  obtain ⟨e0, e1, e2⟩ := hx
  funext j
  show V m c main_arg3 (((cfg0.win 3).blk t).view.emb j) = _
  rw [V_main_arg3]
  refine congrArg (m ((c : Thread nD τ).loc main_arg3)) (funext fun a => Fin.ext ?_)
  have h0 : (j 0 : ℕ) < 1 := (j 0).isLt
  match a with
  | ⟨0, _⟩ => show win0_3.index t (0 : Fin 3) * 1 + 1 * (j 0).val = (t : ℕ); omega
  | ⟨1, _⟩ => show win0_3.index t (1 : Fin 3) * 512 + 1 * (j 1).val = (j 1).val; omega
  | ⟨2, _⟩ => show win0_3.index t (2 : Fin 3) * 76 + 1 * (j 2).val = (j 2).val; omega

/-- Input block 4 is its whole argument, reshaped. -/
theorem iblk4 (c : Dev nD) (t : Fin 16) : iblk m c 4 t = col (m ((c : Thread nD τ).loc main_arg4)) := by
  refine (funext fun j => congrArg (V m c main_call0_v0) (emb_self (((cfg0.win 4).blk t).view.emb j) j (win0_4.index t)
    ((by decide +kernel : ∀ t : Fin grid0.N, ∀ a, win0_4.index t a = 0) t) fun a => rfl)).trans ?_
  entry_read
  refine funext (Cert.Rows.forall_ix2 fun a b => ?_)
  pointwise [col]

/-- Input block 5 is its whole argument, reshaped. -/
theorem iblk5 (c : Dev nD) (t : Fin 16) : iblk m c 5 t = flat (m ((c : Thread nD τ).loc main_arg5)) := by
  refine (funext fun j => congrArg (V m c main_call0_v1) (emb_self (((cfg0.win 5).blk t).view.emb j) j (win0_5.index t)
    ((by decide +kernel : ∀ t : Fin grid0.N, ∀ a, win0_5.index t a = 0) t) fun a => rfl)).trans ?_
  entry_read
  refine funext (Cert.Rows.forall_ix2 fun a b => ?_)
  pointwise [flat]

/-- Input block 6 is its whole argument, reshaped. -/
theorem iblk6 (c : Dev nD) (t : Fin 16) : iblk m c 6 t = line (m ((c : Thread nD τ).loc main_arg6)) := by
  refine (funext fun j => congrArg (V m c main_call0_v2) (emb_self (((cfg0.win 6).blk t).view.emb j) j (win0_6.index t)
    ((by decide +kernel : ∀ t : Fin grid0.N, ∀ a, win0_6.index t a = 0) t) fun a => rfl)).trans ?_
  entry_read
  refine funext (Cert.Rows.forall_ix2 fun a b => ?_)
  pointwise [line]

/-- Input block 7 is its whole argument. -/
theorem iblk7 (c : Dev nD) (t : Fin 16) : iblk m c 7 t = m ((c : Thread nD τ).loc main_arg7) :=
  (funext fun j => congrArg (V m c main_arg7) (emb_self (((cfg0.win 7).blk t).view.emb j) j (win0_7.index t)
    ((by decide +kernel : ∀ t : Fin grid0.N, ∀ a, win0_7.index t a = 0) t) fun a => rfl)).trans (V_main_arg7 m c)

/-- Input block 8 is its whole argument. -/
theorem iblk8 (c : Dev nD) (t : Fin 16) : iblk m c 8 t = m ((c : Thread nD τ).loc main_arg8) :=
  (funext fun j => congrArg (V m c main_arg8) (emb_self (((cfg0.win 8).blk t).view.emb j) j (win0_8.index t)
    ((by decide +kernel : ∀ t : Fin grid0.N, ∀ a, win0_8.index t a = 0) t) fun a => rfl)).trans (V_main_arg8 m c)

/-- Input block 9 is its whole argument. -/
theorem iblk9 (c : Dev nD) (t : Fin 16) : iblk m c 9 t = m ((c : Thread nD τ).loc main_arg9) :=
  (funext fun j => congrArg (V m c main_arg9) (emb_self (((cfg0.win 9).blk t).view.emb j) j (win0_9.index t)
    ((by decide +kernel : ∀ t : Fin grid0.N, ∀ a, win0_9.index t a = 0) t) fun a => rfl)).trans (V_main_arg9 m c)

/-- Input block 10 is its whole argument. -/
theorem iblk10 (c : Dev nD) (t : Fin 16) : iblk m c 10 t = m ((c : Thread nD τ).loc main_arg10) :=
  (funext fun j => congrArg (V m c main_arg10) (emb_self (((cfg0.win 10).blk t).view.emb j) j (win0_10.index t)
    ((by decide +kernel : ∀ t : Fin grid0.N, ∀ a, win0_10.index t a = 0) t) fun a => rfl)).trans (V_main_arg10 m c)

/-- Input block 11 is its whole argument, reshaped. -/
theorem iblk11 (c : Dev nD) (t : Fin 16) : iblk m c 11 t = line (m ((c : Thread nD τ).loc main_arg11)) := by
  refine (funext fun j => congrArg (V m c main_call0_v3) (emb_self (((cfg0.win 11).blk t).view.emb j) j (win0_11.index t)
    ((by decide +kernel : ∀ t : Fin grid0.N, ∀ a, win0_11.index t a = 0) t) fun a => rfl)).trans ?_
  entry_read
  refine funext (Cert.Rows.forall_ix2 fun a b => ?_)
  pointwise [line]

/-- Input block 12 is its whole argument. -/
theorem iblk12 (c : Dev nD) (t : Fin 16) : iblk m c 12 t = m ((c : Thread nD τ).loc main_arg12) :=
  (funext fun j => congrArg (V m c main_arg12) (emb_self (((cfg0.win 12).blk t).view.emb j) j (win0_12.index t)
    ((by decide +kernel : ∀ t : Fin grid0.N, ∀ a, win0_12.index t a = 0) t) fun a => rfl)).trans (V_main_arg12 m c)

/-- Input block 13 is its whole argument, reshaped. -/
theorem iblk13 (c : Dev nD) (t : Fin 16) : iblk m c 13 t = line (m ((c : Thread nD τ).loc main_arg13)) := by
  refine (funext fun j => congrArg (V m c main_call0_v4) (emb_self (((cfg0.win 13).blk t).view.emb j) j (win0_13.index t)
    ((by decide +kernel : ∀ t : Fin grid0.N, ∀ a, win0_13.index t a = 0) t) fun a => rfl)).trans ?_
  entry_read
  refine funext (Cert.Rows.forall_ix2 fun a b => ?_)
  pointwise [line]

/-- Input block 14 is its whole argument. -/
theorem iblk14 (c : Dev nD) (t : Fin 16) : iblk m c 14 t = m ((c : Thread nD τ).loc main_arg14) :=
  (funext fun j => congrArg (V m c main_arg14) (emb_self (((cfg0.win 14).blk t).view.emb j) j (win0_14.index t)
    ((by decide +kernel : ∀ t : Fin grid0.N, ∀ a, win0_14.index t a = 0) t) fun a => rfl)).trans (V_main_arg14 m c)

/-- Input block 15 is its whole argument, reshaped. -/
theorem iblk15 (c : Dev nD) (t : Fin 16) : iblk m c 15 t = line (m ((c : Thread nD τ).loc main_arg15)) := by
  refine (funext fun j => congrArg (V m c main_call0_v5) (emb_self (((cfg0.win 15).blk t).view.emb j) j (win0_15.index t)
    ((by decide +kernel : ∀ t : Fin grid0.N, ∀ a, win0_15.index t a = 0) t) fun a => rfl)).trans ?_
  entry_read
  refine funext (Cert.Rows.forall_ix2 fun a b => ?_)
  pointwise [line]

/-- Input block 16 is its whole argument. -/
theorem iblk16 (c : Dev nD) (t : Fin 16) : iblk m c 16 t = m ((c : Thread nD τ).loc main_arg16) :=
  (funext fun j => congrArg (V m c main_arg16) (emb_self (((cfg0.win 16).blk t).view.emb j) j (win0_16.index t)
    ((by decide +kernel : ∀ t : Fin grid0.N, ∀ a, win0_16.index t a = 0) t) fun a => rfl)).trans (V_main_arg16 m c)

/-- Input block 17 is its whole argument, reshaped. -/
theorem iblk17 (c : Dev nD) (t : Fin 16) : iblk m c 17 t = line (m ((c : Thread nD τ).loc main_arg17)) := by
  refine (funext fun j => congrArg (V m c main_call0_v6) (emb_self (((cfg0.win 17).blk t).view.emb j) j (win0_17.index t)
    ((by decide +kernel : ∀ t : Fin grid0.N, ∀ a, win0_17.index t a = 0) t) fun a => rfl)).trans ?_
  entry_read
  refine funext (Cert.Rows.forall_ix2 fun a b => ?_)
  pointwise [line]

/-- Input block 18 is its whole argument. -/
theorem iblk18 (c : Dev nD) (t : Fin 16) : iblk m c 18 t = m ((c : Thread nD τ).loc main_arg18) :=
  (funext fun j => congrArg (V m c main_arg18) (emb_self (((cfg0.win 18).blk t).view.emb j) j (win0_18.index t)
    ((by decide +kernel : ∀ t : Fin grid0.N, ∀ a, win0_18.index t a = 0) t) fun a => rfl)).trans (V_main_arg18 m c)

/-- Input block 19 is its whole argument, reshaped. -/
theorem iblk19 (c : Dev nD) (t : Fin 16) : iblk m c 19 t = line (m ((c : Thread nD τ).loc main_arg19)) := by
  refine (funext fun j => congrArg (V m c main_call0_v7) (emb_self (((cfg0.win 19).blk t).view.emb j) j (win0_19.index t)
    ((by decide +kernel : ∀ t : Fin grid0.N, ∀ a, win0_19.index t a = 0) t) fun a => rfl)).trans ?_
  entry_read
  refine funext (Cert.Rows.forall_ix2 fun a b => ?_)
  pointwise [line]

/-- Input block 20 is its whole argument. -/
theorem iblk20 (c : Dev nD) (t : Fin 16) : iblk m c 20 t = m ((c : Thread nD τ).loc main_arg20) :=
  (funext fun j => congrArg (V m c main_arg20) (emb_self (((cfg0.win 20).blk t).view.emb j) j (win0_20.index t)
    ((by decide +kernel : ∀ t : Fin grid0.N, ∀ a, win0_20.index t a = 0) t) fun a => rfl)).trans (V_main_arg20 m c)

/-- Input block 21 is its whole argument, reshaped. -/
theorem iblk21 (c : Dev nD) (t : Fin 16) : iblk m c 21 t = line (m ((c : Thread nD τ).loc main_arg21)) := by
  refine (funext fun j => congrArg (V m c main_call0_v8) (emb_self (((cfg0.win 21).blk t).view.emb j) j (win0_21.index t)
    ((by decide +kernel : ∀ t : Fin grid0.N, ∀ a, win0_21.index t a = 0) t) fun a => rfl)).trans ?_
  entry_read
  refine funext (Cert.Rows.forall_ix2 fun a b => ?_)
  pointwise [line]

end Cert.Entry
-- ==== Proof.Arrays.lean ====
/- The three arrays the kernel's launch leaves, each as one function of the launch's arguments. -/
module
public import proofs.«01_k».proof.Proof.Entry
@[expose] public section
set_option maxRecDepth 16384
noncomputable section

namespace Cert.Entry

open Idealize.ShloMosaic Idealize.ShloMosaic.TcCoe Idealize.SL.Sem Cert.KernelIdeal Cert.KernelIdeal.Gen
open Cert.Forms Cert.Attend Cert.Block

/-- A vector's entries. -/
def vec {a : ℕ} (X : FVec Ideal ⟨1, ![a]⟩ .f32) (j : Fin a) : EReal := X (ix1 j)

/-- A row read as a vector. -/
theorem row_line {a : ℕ} (X : FVec Ideal ⟨1, ![a]⟩ .f32) : row (line X) = vec X := rfl

/-- The attention weights of every batch, as an array. -/
def attRes (A : Fin 16 → Fin 6 → Fin 512 → Fin 512 → EReal) (i : S16x6x512x512.Idx) : Elt Ideal .f32 := A (i 0) (i 1) (i 2) (i 3)

/-- The refined features of every batch, as an array of all batches' rows. -/
def fcRes (R : Fin 16 → Fin 512 → Fin 192 → EReal) (i : S8192x192.Idx) : Elt Ideal .f32 :=
  R ⟨(i 0 : ℕ) / 512, by have : (i 0 : ℕ) < 8192 := (i 0).isLt; omega⟩ ⟨(i 0 : ℕ) % 512, Nat.mod_lt _ (by norm_num)⟩ (i 1)

/-- The predictions of every batch, as an array. -/
def predRes (X : FVec Ideal S16x512x76 .f32) (cl : Fin 16 → Fin 512 → Fin 2 → EReal) (rg : Fin 16 → Fin 512 → Fin 74 → EReal)
    (i : S16x512x76.Idx) : Elt Ideal .f32 :=
  if h : (i 2 : ℕ) < 2 then cl (i 0) (i 1) ⟨(i 2 : ℕ), h⟩
  else X i + rg (i 0) (i 1) ⟨(i 2 : ℕ) - 2, by have : (i 2 : ℕ) < 76 := (i 2).isLt; omega⟩

/-- The refined features from the features and the attention weights. -/
def refine' (f : Fin 512 → Fin 192 → EReal) (A : Fin 6 → Fin 512 → Fin 512 → EReal) (VW : FVec Ideal S192x192 .f32)
    (W1 : FVec Ideal S384x192 .f32) (b1 : FVec Ideal S384 .f32) (W2 : FVec Ideal S192x384 .f32) (b2 : FVec Ideal S192 .f32) :
    Fin 512 → Fin 192 → EReal :=
  refined f (context A (proj f (mat VW))) (mat W1) (vec b1) (mat W2) (vec b2)

/-- A head on the refined features. -/
def head' {k : ℕ} (R : Fin 512 → Fin 192 → EReal) (W1 : FVec Ideal S192x192 .f32) (b1 : FVec Ideal S192 .f32)
    (W2 : FVec Ideal ⟨2, ![k, 192]⟩ .f32) (b2 : FVec Ideal ⟨1, ![k]⟩ .f32) : Fin 512 → Fin k → EReal :=
  head R (mat W1) (vec b1) (mat W2) (vec b2)

variable (m : (ℓ : Loc nD τ sig) → Buf (Elt Ideal) ℓ) (c : Dev nD)

/-- The features the kernel computes in batch `t`. -/
def kfeat (t : Fin 16) : Fin 512 → Fin 192 → EReal :=
  featK (cut4 (m ((c : Thread nD τ).loc main_arg0)) t) (cut4 (m ((c : Thread nD τ).loc main_arg1)) t)
    (cut4 (m ((c : Thread nD τ).loc main_arg2)) t) (cut3 (m ((c : Thread nD τ).loc main_arg3)) t)
    (col (m ((c : Thread nD τ).loc main_arg4))) (flat (m ((c : Thread nD τ).loc main_arg5)))
    (line (m ((c : Thread nD τ).loc main_arg6)))

/-- The attention weights the kernel computes in batch `t`. -/
def katt (t : Fin 16) : Fin 6 → Fin 512 → Fin 512 → EReal :=
  att2 (query (kfeat m c t) (m ((c : Thread nD τ).loc main_arg7))) (proj (kfeat m c t) (mat (m ((c : Thread nD τ).loc main_arg8))))

/-- The refined features the kernel computes in batch `t`. -/
def kref (t : Fin 16) : Fin 512 → Fin 192 → EReal :=
  refine' (kfeat m c t) (katt m c t) (m ((c : Thread nD τ).loc main_arg9)) (m ((c : Thread nD τ).loc main_arg10))
    (m ((c : Thread nD τ).loc main_arg11)) (m ((c : Thread nD τ).loc main_arg12)) (m ((c : Thread nD τ).loc main_arg13))

/-- The class scores the kernel computes in batch `t`. -/
def kcls (t : Fin 16) : Fin 512 → Fin 2 → EReal :=
  head' (kref m c t) (m ((c : Thread nD τ).loc main_arg14)) (m ((c : Thread nD τ).loc main_arg15))
    (m ((c : Thread nD τ).loc main_arg16)) (m ((c : Thread nD τ).loc main_arg17))

/-- The regressed offsets the kernel computes in batch `t`. -/
def kreg (t : Fin 16) : Fin 512 → Fin 74 → EReal :=
  head' (kref m c t) (m ((c : Thread nD τ).loc main_arg18)) (m ((c : Thread nD τ).loc main_arg19))
    (m ((c : Thread nD τ).loc main_arg20)) (m ((c : Thread nD τ).loc main_arg21))

/-- What grid point `t` leaves in the block of the attention weights. -/
theorem left24 (t : Fin 16) : (outsAt0 m c t).2.2 = attTab (katt m c t) := by
  simp only [outsAt0]
  rw [out24, iblk0, iblk1, iblk2, iblk3, iblk4, iblk5, iblk6, iblk7, iblk8]
  rfl

/-- What grid point `t` leaves in the block of the refined features. -/
theorem left23 (t : Fin 16) : (outsAt0 m c t).2.1 = tab (kref m c t) := by
  simp only [outsAt0]
  rw [out23, iblk0, iblk1, iblk2, iblk3, iblk4, iblk5, iblk6, iblk7, iblk8, iblk9, iblk10, iblk11, iblk12, iblk13]
  simp only [row_line]
  rfl

/-- What grid point `t` leaves in the block of the predictions. -/
theorem left22 (t : Fin 16) : (outsAt0 m c t).1 = predTab (cut3 (m ((c : Thread nD τ).loc main_arg3)) t) (kcls m c t) (kreg m c t) := by
  simp only [outsAt0]
  rw [out22, iblk0, iblk1, iblk2, iblk3, iblk4, iblk5, iblk6, iblk7, iblk8, iblk9, iblk10, iblk11, iblk12, iblk13, iblk14, iblk15, iblk16, iblk17, iblk18, iblk19, iblk20, iblk21]
  simp only [row_line]
  rfl

/-- The array of the attention weights after the launch. -/
theorem arr24 : (dats m 0 c).arrAt 24 cfg0.N = attRes (katt m c) := by
  refine (dats m 0 c).arrAt_eq_of_covers 24 _ (by decide +kernel) fun t hf y => ?_
  rw [after0_24]
  refine (congrFun (left24 m c t) _).trans ?_
  have hx := (by decide +kernel : ∀ t : Fin grid0.N, win0_24.index t (0 : Fin 4) = t ∧ win0_24.index t (1 : Fin 4) = 0
    ∧ win0_24.index t (2 : Fin 4) = 0 ∧ win0_24.index t (3 : Fin 4) = 0) t
  obtain ⟨e0, e1, e2, e3⟩ := hx
  have h0 : (y 0 : ℕ) < 1 := (y 0).isLt
  have e : (((cfg0.win 24).blk t).view.emb y : S16x6x512x512.Idx) = ix4 t (y 1) (y 2) (y 3) := by
    funext a; apply Fin.ext
    match a with
    | ⟨0, _⟩ => show win0_24.index t (0 : Fin 4) * 1 + 1 * (y 0).val = (t : ℕ); omega
    | ⟨1, _⟩ => show win0_24.index t (1 : Fin 4) * 6 + 1 * (y 1).val = (y 1).val; omega
    | ⟨2, _⟩ => show win0_24.index t (2 : Fin 4) * 512 + 1 * (y 2).val = (y 2).val; omega
    | ⟨3, _⟩ => show win0_24.index t (3 : Fin 4) * 512 + 1 * (y 3).val = (y 3).val; omega
  rw [e]
  rfl

/-- The array of the refined features after the launch. -/
theorem arr23 : (dats m 0 c).arrAt 23 cfg0.N = fcRes (kref m c) := by
  refine (dats m 0 c).arrAt_eq_of_covers 23 _ (by decide +kernel) fun t hf y => ?_
  rw [after0_23]
  refine (congrFun (left23 m c t) _).trans ?_
  have hx := (by decide +kernel : ∀ t : Fin grid0.N, win0_23.index t (0 : Fin 2) = t ∧ win0_23.index t (1 : Fin 2) = 0) t
  obtain ⟨e0, e1⟩ := hx
  have h0 : (y 0 : ℕ) < 512 := (y 0).isLt
  have e : (((cfg0.win 23).blk t).view.emb y : S8192x192.Idx) = ix2 ⟨(t : ℕ) * 512 + (y 0 : ℕ), by have : (t : ℕ) < 16 := t.isLt; omega⟩ (y 1) := by
    funext a; apply Fin.ext
    match a with
    | ⟨0, _⟩ => show win0_23.index t (0 : Fin 2) * 512 + 1 * (y 0).val = (t : ℕ) * 512 + (y 0).val; omega
    | ⟨1, _⟩ => show win0_23.index t (1 : Fin 2) * 192 + 1 * (y 1).val = (y 1).val; omega
  rw [e]
  show kref m c t (y 0) (y 1) = kref m c ⟨((t : ℕ) * 512 + (y 0 : ℕ)) / 512, _⟩ ⟨((t : ℕ) * 512 + (y 0 : ℕ)) % 512, _⟩ (y 1)
  congr 1
  · congr 1
    exact Fin.ext (show (t : ℕ) = ((t : ℕ) * 512 + (y 0 : ℕ)) / 512 by omega)
  · exact Fin.ext (show (y 0 : ℕ) = ((t : ℕ) * 512 + (y 0 : ℕ)) % 512 by omega)

/-- The array of the predictions after the launch. -/
theorem arr22 : (dats m 0 c).arrAt 22 cfg0.N = predRes (m ((c : Thread nD τ).loc main_arg3)) (kcls m c) (kreg m c) := by
  refine (dats m 0 c).arrAt_eq_of_covers 22 _ (by decide +kernel) fun t hf y => ?_
  rw [after0_22]
  refine (congrFun (left22 m c t) _).trans ?_
  have hx := (by decide +kernel : ∀ t : Fin grid0.N, win0_22.index t (0 : Fin 3) = t ∧ win0_22.index t (1 : Fin 3) = 0
    ∧ win0_22.index t (2 : Fin 3) = 0) t
  obtain ⟨e0, e1, e2⟩ := hx
  have h0 : (y 0 : ℕ) < 1 := (y 0).isLt
  have e : (((cfg0.win 22).blk t).view.emb y : S16x512x76.Idx) = ix3 t (y 1) (y 2) := by
    funext a; apply Fin.ext
    match a with
    | ⟨0, _⟩ => show win0_22.index t (0 : Fin 3) * 1 + 1 * (y 0).val = (t : ℕ); omega
    | ⟨1, _⟩ => show win0_22.index t (1 : Fin 3) * 512 + 1 * (y 1).val = (y 1).val; omega
    | ⟨2, _⟩ => show win0_22.index t (2 : Fin 3) * 76 + 1 * (y 2).val = (y 2).val; omega
  rw [e]
  rfl

end Cert.Entry
-- ==== Proof.Blend.lean ====
/- On real inputs the kernel's blended rows, level weights and shares are the bilinear samples and the softmax. -/
module
public import proofs.«01_k».proof.Proof.Arrays
public import proofs.«01_k».proof.Proof.Level
public import proofs.«01_k».proof.Proof.Softmax
@[expose] public section
set_option maxRecDepth 16384
noncomputable section

namespace Cert.Blend

open Idealize.ShloMosaic Cert.Rows Cert.RealMath Cert.Block Cert.Entry

/-- The two weighted neighbours of the kernel are the hat's sum over all the rows. -/
theorem blend_real (row : ℕ → EReal) (f : ℕ → ℝ) (ζ : ℝ) (H N : ℕ) (hr : ∀ h, row h = ((f h : ℝ) : EReal)) (hN : N ≤ 71)
    (hH : 1 ≤ H) :
    blend row (ζ : EReal) H N = ((ζ * ∑ h : Fin H, f h * hat (((N : ℝ) / 71) * ((H : ℝ) - 1)) (h : ℕ) : ℝ) : EReal) := by
  obtain ⟨K, rfl⟩ : ∃ K, H = K + 1 := ⟨H - 1, by omega⟩
  have hd := Nat.div_add_mod (N * K) 71
  have hm := Nat.mod_lt (N * K) (by norm_num : 0 < 71)
  have hle : N * K ≤ 71 * K := Nat.mul_le_mul_right K hN
  have t : ((N : ℝ) / 71) * (((K + 1 : ℕ) : ℝ) - 1) = ((N * K / 71 : ℕ) : ℝ) + ((N * K % 71 : ℕ) : ℝ) / 71 := by
    have e : (N : ℝ) * K = 71 * ((N * K / 71 : ℕ) : ℝ) + ((N * K % 71 : ℕ) : ℝ) := by exact_mod_cast hd.symm
    push_cast
    field_simp
    push_cast at e
    linarith
  have hq0 : (0 : ℝ) ≤ ((N * K % 71 : ℕ) : ℝ) / 71 := by positivity
  have hq1 : ((N * K % 71 : ℕ) : ℝ) / 71 < 1 := by
    rw [div_lt_one (by norm_num)]; exact_mod_cast hm
  have fl : ⌊((N * K / 71 : ℕ) : ℝ) + ((N * K % 71 : ℕ) : ℝ) / 71⌋ = ((N * K / 71 : ℕ) : ℤ) := by
    rw [Int.floor_eq_iff, Int.cast_natCast]
    constructor <;> linarith
  rw [hat_sum (K + 1) f, t, fl]
  have hin : inside (K + 1) ((N * K / 71 : ℕ) : ℤ) = 1 := by
    unfold inside
    rw [if_pos]
    constructor <;> push_cast <;> omega
  rw [hin]
  have n0 : (((N * K / 71 : ℕ) : ℤ)).toNat = N * K / 71 := rfl
  have n1 : (((N * K / 71 : ℕ) : ℤ) + 1).toNat = N * K / 71 + 1 := rfl
  rw [n0, n1]
  have c1 : (((N * K / 71 : ℕ) : ℤ) : ℝ) = ((N * K / 71 : ℕ) : ℝ) := by norm_cast
  rw [c1]
  unfold blend
  rw [Nat.add_sub_cancel]
  by_cases h0 : N * K % 71 = 0
  · rw [if_pos h0, h0, hr, ← EReal.coe_mul]
    congr 1
    push_cast
    ring
  · rw [if_neg h0, hr, hr, ← EReal.coe_mul, ← EReal.coe_mul, ← EReal.coe_mul, ← EReal.coe_mul, ← EReal.coe_add]
    have hin1 : inside (K + 1) (((N * K / 71 : ℕ) : ℤ) + 1) = 1 := by
      unfold inside
      rw [if_pos]
      constructor <;> push_cast <;> omega
    rw [hin1]
    have hs : ((71 - N * K % 71 : ℕ) : ℝ) = 71 - ((N * K % 71 : ℕ) : ℝ) := by
      rw [Nat.cast_sub (by omega)]; norm_num
    rw [hs]
    congr 1
    ring

/-- A batch's rows are its cells. -/
theorem rowAt_cut {H W : ℕ} (X : FVec Ideal ⟨4, ![16, 64, H, W]⟩ .f32) (hX : ∀ i, ∃ r : ℝ, X i = r) (b : Fin 16) (c : Fin 64)
    (h : ℕ) (w : Fin W) : rowAt (cut4 X b) c h w = ((Level.cell X b c h w : ℝ) : EReal) := by
  unfold rowAt Level.cell
  by_cases hh : h < H
  · rw [dif_pos hh, dif_pos ⟨hh, w.isLt⟩]
    obtain ⟨r, hr⟩ := hX (ix4 b c ⟨h, hh⟩ w)
    show X (ix4 b c ⟨h, hh⟩ w) = _
    rw [show (⟨(w : ℕ), w.isLt⟩ : Fin W) = w from rfl, hr, EReal.toReal_coe]
  · rw [dif_neg hh, dif_neg fun k => hh k.1]; rfl

/-- Sampling a row of which every entry is scaled scales the sample. -/
theorem sample_mul (W : ℕ) (ζ : ℝ) (g : ℕ → ℝ) (x : EReal) : sample W (fun w => ζ * g w) x = ζ * sample W g x := by
  unfold sample
  split
  · rw [mul_zero]
  · rw [Finset.mul_sum]
    exact Finset.sum_congr rfl fun w _ => by ring

/-- A map's sample at height `N / 71` and column `x`. -/
def samp {H W : ℕ} (X : FVec Ideal ⟨4, ![16, 64, H, W]⟩ .f32) (b : Fin 16) (c : Fin 64) (N : ℕ) (x : EReal) : ℝ :=
  sample W (fun w => ∑ h : Fin H, Level.cell X b c h w * hat (((N : ℝ) / 71) * ((H : ℝ) - 1)) (h : ℕ)) x

/-- A level's share is its weight times the sample. -/
theorem share_real {H W : ℕ} (X : FVec Ideal ⟨4, ![16, 64, H, W]⟩ .f32) (hX : ∀ i, ∃ r : ℝ, X i = r) (b : Fin 16) (ζ : ℝ)
    (x : EReal) (N : ℕ) (hN : N ≤ 71) (c : Fin 64) (hH : 1 ≤ H) (hW : 2 ≤ W) :
    share (cut4 X b) (ζ : EReal) x N c = ((ζ * samp X b c N x : ℝ) : EReal) := by
  unfold share samp
  rw [← sample_mul, ← sum_hatE W hW]
  refine Finset.sum_congr rfl fun w _ => ?_
  rw [blend_real _ (fun h => Level.cell X b c h w) ζ H N (fun h => rowAt_cut X hX b c h w) hN hH]

/-- The score of a level. -/
def levR (ζ : ℝ) (l : Fin 3) : ℝ := -((ζ - (l : ℕ)) * (ζ - (l : ℕ))) / 2

/-- The literal minus one half. -/
theorem neg_half_lit : Ideal.ofBits .f32 0xBF000000#32 = ((-(1 / 2) : ℝ) : EReal) := by
  simp [Ideal.ofBits, Ideal.ieee, -EReal.coe_mul, -EReal.coe_neg]; norm_num

/-- The literal two. -/
theorem two_lit : Ideal.ofBits .f32 0x40000000#32 = ((2 : ℝ) : EReal) := by
  simp [Ideal.ofBits, Ideal.ieee, -EReal.coe_mul, -EReal.coe_sub]; norm_num

/-- The level scores of a real embedding are real. -/
theorem lev_real (ζ : ℝ) (l : Fin 3) : lev (ζ : EReal) l = ((levR ζ l : ℝ) : EReal) := by
  unfold lev levR
  rw [neg_half_lit, two_lit, ← EReal.coe_one]
  simp only [← EReal.coe_sub, ← EReal.coe_mul]
  fin_cases l
  · show ((-(1 / 2) * (ζ * ζ) : ℝ) : EReal) = _
    congr 1; push_cast; ring
  · show ((-(1 / 2) * ((ζ - 1) * (ζ - 1)) : ℝ) : EReal) = _
    congr 1; push_cast; ring
  · show ((-(1 / 2) * ((ζ - 2) * (ζ - 2)) : ℝ) : EReal) = _
    congr 1; push_cast; ring

/-- The kernel's level weights are the softmax of the scores. -/
theorem zcol_real (x4 : FVec Ideal Cert.KernelIdeal.S36x1 .f32) (l : Fin 3) (i) (ζ : ℝ) (h : x4 i = (ζ : EReal)) :
    zcol x4 l i = ((softmax (levR ζ) l : ℝ) : EReal) := by
  unfold zcol
  rw [h]
  simp only [lev_real, coe_max]
  rw [← softmax_exp (levR ζ) (max (max (levR ζ 0) (levR ζ 1)) (levR ζ 2)) l, Fin.sum_univ_three]

end Cert.Blend
-- ==== Proof.RefLevels.lean ====
/- The reference's three sampled levels at an index. -/
module
public import proofs.«01_k».proof.Proof.RefGrid
public import proofs.«01_k».proof.Proof.Blend
@[expose] public section
set_option maxRecDepth 16384
noncomputable section

namespace Cert.RefLevels

open Idealize.ShloMosaic Idealize.ShloMosaic.TcCoe Idealize.SL.Sem Idealize.ShloMosaic.StableHlo Cert.ReferenceIdeal Cert.ReferenceIdeal.Gen Cert.ReferenceIdeal.Value
open Cert.Blend Cert.Rows Cert.Entry

variable (V0 : Valuation τ sig (Elt Ideal)) (X3 : FVec Ideal S16x512x76 .f32) (h3 : V0 (Proc.devRef .tc main_arg3) = X3)

/-- The column at which point `s` of prior `n` of batch `b` samples. -/
def xcol (b : Fin 16) (n : Fin 512) (s : ℕ) : EReal := coord (cut3 X3 b) (75 - num s) n

include h3 in
/-- A level sampled on the reference's grid. -/
theorem level_at {H W : ℕ} (hH : 0 < H) (hW : 2 ≤ W)
    (wf : GatherDims.WF ⟨4, ![16, 64, H, W]⟩ ⟨3, ![16, 18432, 3]⟩ ⟨3, ![16, 18432, 64]⟩ [2] [0, 2, 3] [] [0, 2, 3] [] 2 ![1, 64, 1, 1])
    (ht wt hn wn hl wl : BitVec 32) (X : FVec Ideal ⟨4, ![16, 64, H, W]⟩ .f32) (hX : ∀ i, ∃ r : ℝ, X i = r)
    (hht : ht.toInt = (H : ℤ) - 1) (hwt : wt.toInt = (W : ℤ) - 1) (hhl : Ideal.ofBits .f32 hl = (((H : ℝ) - 1 : ℝ) : EReal))
    (hwl : Ideal.ofBits .f32 wl = (((W : ℝ) - 1 : ℝ) : EReal)) (hHs : H < 2 ^ 30) (hWs : W < 2 ^ 30)
    (b : Fin 16) (n : Fin 512) (s : Fin 36) (c : Fin 64) :
    Level.level (Gather.featDims H W wf) ht wt hn wn hl wl X (res_main_v31 V0) (res_main_v24 V0) (ix3 b ⟨36 * (n : ℕ) + s, by omega⟩ c)
      = ((samp X b c (num s) (xcol X3 b n s) : ℝ) : EReal) := by
  have hy : 71 * (35 - (s : ℕ)) / 35 ≤ 71 := by omega
  refine Level.level_apply hH hW wf ht wt hn wn hl wl X _ _ b _ c hht hwt hhl hwl hHs hWs hX ((num s : ℝ) / 71) (xcol X3 b n s) ?_ ?_
  · rw [RefGrid.v31_at]
    congr 1
    unfold num
    rw [Nat.cast_sub hy]
    push_cast
    ring
  · rw [RefGrid.v24_at V0 X3 h3]
    unfold xcol coord cut3
    have e : 75 - num s = 4 + 71 * (35 - (s : ℕ)) / 35 := by unfold num; omega
    simp only [e]
    rw [dif_pos (by omega)]
    rfl

/-- The literal 39. -/
theorem l39 : Ideal.ofBits .f32 0x421C0000#32 = ((39 : ℝ) : EReal) := by
  simp [Ideal.ofBits, Ideal.ieee, -EReal.coe_mul, -EReal.coe_sub]; norm_num

/-- The literal 99. -/
theorem l99 : Ideal.ofBits .f32 0x42C60000#32 = ((99 : ℝ) : EReal) := by
  simp [Ideal.ofBits, Ideal.ieee, -EReal.coe_mul, -EReal.coe_sub]; norm_num

/-- The literal 19. -/
theorem l19 : Ideal.ofBits .f32 0x41980000#32 = ((19 : ℝ) : EReal) := by
  simp [Ideal.ofBits, Ideal.ieee, -EReal.coe_mul, -EReal.coe_sub]; norm_num

/-- The literal 49. -/
theorem l49 : Ideal.ofBits .f32 0x42440000#32 = ((49 : ℝ) : EReal) := by
  simp [Ideal.ofBits, Ideal.ieee, -EReal.coe_mul, -EReal.coe_sub]; norm_num

/-- The literal 9. -/
theorem l9 : Ideal.ofBits .f32 0x41100000#32 = ((9 : ℝ) : EReal) := by
  simp [Ideal.ofBits, Ideal.ieee, -EReal.coe_mul, -EReal.coe_sub]; norm_num

/-- The literal 24. -/
theorem l24 : Ideal.ofBits .f32 0x41C00000#32 = ((24 : ℝ) : EReal) := by
  simp [Ideal.ofBits, Ideal.ieee, -EReal.coe_mul, -EReal.coe_sub]; norm_num

include h3 in
/-- The first level at an index. -/
theorem v272_at (X : FVec Ideal S16x64x40x100 .f32) (h : V0 (Proc.devRef .tc main_arg0) = X) (hX : ∀ i, ∃ r : ℝ, X i = r)
    (b : Fin 16) (n : Fin 512) (s : Fin 36) (c : Fin 64) :
    res_main_v272 V0 (ix3 b ⟨36 * (n : ℕ) + s, by omega⟩ c) = ((samp X b c (num s) (xcol X3 b n s) : ℝ) : EReal) := by
  subst h
  have e : res_main_v272 V0 = Level.level (Gather.featDims 40 100 gather_S16x64x40x100_S16x18432x3_S16x18432x64_2_023_n_n_023_2_16411_wf)
    39#32 99#32 40#32 100#32 0x421C0000#32 0x42C60000#32 (V0 (Proc.devRef .tc main_arg0)) (res_main_v31 V0) (res_main_v24 V0) := rfl
  rw [e]
  exact level_at V0 X3 h3 (by norm_num) (by norm_num) _ _ _ _ _ _ _ _ hX (by decide) (by decide) (by rw [l39]; norm_num)
    (by rw [l99]; norm_num) (by norm_num) (by norm_num) b n s c

include h3 in
/-- The second level at an index. -/
theorem v498_at (X : FVec Ideal S16x64x20x50 .f32) (h : V0 (Proc.devRef .tc main_arg1) = X) (hX : ∀ i, ∃ r : ℝ, X i = r)
    (b : Fin 16) (n : Fin 512) (s : Fin 36) (c : Fin 64) :
    res_main_v498 V0 (ix3 b ⟨36 * (n : ℕ) + s, by omega⟩ c) = ((samp X b c (num s) (xcol X3 b n s) : ℝ) : EReal) := by
  subst h
  have e : res_main_v498 V0 = Level.level (Gather.featDims 20 50 gather_S16x64x20x50_S16x18432x3_S16x18432x64_2_023_n_n_023_2_16411_wf)
    19#32 49#32 20#32 50#32 0x41980000#32 0x42440000#32 (V0 (Proc.devRef .tc main_arg1)) (res_main_v31 V0) (res_main_v24 V0) := rfl
  rw [e]
  exact level_at V0 X3 h3 (by norm_num) (by norm_num) _ _ _ _ _ _ _ _ hX (by decide) (by decide) (by rw [l19]; norm_num)
    (by rw [l49]; norm_num) (by norm_num) (by norm_num) b n s c

include h3 in
/-- The third level at an index. -/
theorem v724_at (X : FVec Ideal S16x64x10x25 .f32) (h : V0 (Proc.devRef .tc main_arg2) = X) (hX : ∀ i, ∃ r : ℝ, X i = r)
    (b : Fin 16) (n : Fin 512) (s : Fin 36) (c : Fin 64) :
    res_main_v724 V0 (ix3 b ⟨36 * (n : ℕ) + s, by omega⟩ c) = ((samp X b c (num s) (xcol X3 b n s) : ℝ) : EReal) := by
  subst h
  have e : res_main_v724 V0 = Level.level (Gather.featDims 10 25 gather_S16x64x10x25_S16x18432x3_S16x18432x64_2_023_n_n_023_2_16411_wf)
    9#32 24#32 10#32 25#32 0x41100000#32 0x41C00000#32 (V0 (Proc.devRef .tc main_arg2)) (res_main_v31 V0) (res_main_v24 V0) := rfl
  rw [e]
  exact level_at V0 X3 h3 (by norm_num) (by norm_num) _ _ _ _ _ _ _ _ hX (by decide) (by decide) (by rw [l9]; norm_num)
    (by rw [l24]; norm_num) (by norm_num) (by norm_num) b n s c

end Cert.RefLevels
-- ==== Proof.RefOut.lean ====
/- The reference's features, attention and results as plain functions of rows and channels. -/
module
public import proofs.«01_k».proof.Proof.RefGrid
public import proofs.«01_k».proof.Proof.Arrays
@[expose] public section
set_option maxRecDepth 16384
noncomputable section

namespace Cert.RefOut

open Idealize.ShloMosaic Idealize.ShloMosaic.TcCoe Idealize.SL.Sem Idealize.ShloMosaic.StableHlo Cert.ReferenceIdeal Cert.ReferenceIdeal.Gen Cert.ReferenceIdeal.Value
open Cert.Forms Cert.Entry Cert.Attend

variable (V0 : Valuation τ sig (Elt Ideal))

/-- The reference's features of batch `b`. -/
def rfeat (b : Fin 16) (n : Fin 512) (o : Fin 192) : EReal := res_main_v740 V0 (ix3 b n o)

/-- The reference's attention weights of batch `b`. -/
def ratt (b : Fin 16) (g : Fin 6) (n p : Fin 512) : EReal :=
  Ideal.div (res_main_v759 V0 (ix4 b g n p)) (∑ p', res_main_v759 V0 (ix4 b g n p'))

/-- A channel written group first is channel `a` of group `g`. -/
theorem chan_eq (g : Fin 6) (a : Fin 32) (h : (g : ℕ) * 32 + a < 192) : (⟨(g : ℕ) * 32 + a, h⟩ : Fin 192) = chan g a :=
  Fin.ext (by show (g : ℕ) * 32 + a = 32 * (g : ℕ) + a; omega)

/-- The reference's scores. -/
theorem v752_at (X7 : FVec Ideal S32x192 .f32) (h7 : V0 (Proc.devRef .tc main_arg7) = X7) (X8 : FVec Ideal S192x192 .f32)
    (h8 : V0 (Proc.devRef .tc main_arg8) = X8) (b : Fin 16) (g : Fin 6) (n p : Fin 512) :
    res_main_v752 V0 (ix4 b g n p)
      = (∑ a : Fin 32, proj (rfeat V0 b) (mat X8) p (chan g a) * proj (rfeat V0 b) (mat X7) n a) * Ideal.ofBits .f32 0x3E3504F3#32 := by
  subst h7 h8
  unfold res_main_v752
  pointwise []
  simp only [chan_eq]
  rfl

/-- A maximum taken from minus infinity along the last of four axes of reals is a real. -/
theorem reduce_max_real {n0 n1 n2 n3 : ℕ} {t u : Shape} (h : (⟨4, ![n0, n1, n2, n3]⟩ : Shape).ReducesTo [3] t)
    (v : FVec Ideal ⟨4, ![n0, n1, n2, n3]⟩ .f32) (c : FVec Ideal u .f32) (hu : 0 < u.numel) (hc : c (Shape.Idx.first hu) = (⊥ : EReal))
    (hv : ∀ i, ∃ r : ℝ, v i = ((r : ℝ) : EReal)) (h3 : 0 < n3) (j : t.Idx) :
    ∃ M : ℝ, Host.reduce FloatOps.maximumf v c h hu j = ((M : ℝ) : EReal) := by
  rw [Host.reduce_eq_fold, Shape.ReducesTo.fold_fiber_r4_a3, hc]
  exact RefGrid.fold_max_real Finset.univ _ ⟨⟨0, h3⟩, Finset.mem_univ _⟩ fun i _ => hv _

/-- A table less, in every row, the greater of minus infinity and the row's entry of another table, exponentiated. -/
theorem less_row (S : FVec Ideal S16x6x512x512 .f32) (E : FVec Ideal S16x6x512 .f32)
    (b : Fin 16) (g : Fin 6) (n p : Fin 512) (M : EReal) (hr : E (ix3 b g n) = M) :
    (Host.exp (subf S (broadcastInDim S16x6x512x512 ![0, 1, 2, 3] bcast_S16x6x512x1_S16x6x512x512_0_1_2_3 (broadcastInDim S16x6x512x1 ![0, 1, 2] bcast_S16x6x512_S16x6x512x1_0_1_2 (maximumf (broadcastInDim S16x6x512 ![] bcast_S_S16x6x512 (constant S_ .f32 0xFF800000#32)) E)))) : FVec Ideal S16x6x512x512 .f32) (ix4 b g n p)
      = Ideal.exp (S (ix4 b g n p) - M) := by
  pointwise []
  rw [RefGrid.lit_bot, hr, bot_sup_eq]

/-- The maximum of a row of real scores is a real. -/
theorem row_max (S : FVec Ideal S16x6x512x512 .f32) (hS : ∀ i, ∃ r : ℝ, S i = ((r : ℝ) : EReal)) (b : Fin 16) (g : Fin 6) (n : Fin 512) :
    ∃ M : ℝ, (Host.reduce FloatOps.maximumf S (constant S_ .f32 0xFF800000#32) reducesTo_S16x6x512x512_S16x6x512_d3 h_S_ : FVec Ideal S16x6x512 .f32) (ix3 b g n)
      = ((M : ℝ) : EReal) :=
  reduce_max_real reducesTo_S16x6x512x512_S16x6x512_d3 S (constant S_ .f32 0xFF800000#32) h_S_ RefGrid.lit_bot hS (by norm_num) (ix3 b g n)

/-- Scores less their row's maximum, exponentiated, where every score is a real. -/
theorem shifted (S : FVec Ideal S16x6x512x512 .f32) (f : S16x6x512x512.Idx → ℝ) (hS : ∀ i, S i = ((f i : ℝ) : EReal))
    (b : Fin 16) (g : Fin 6) (n : Fin 512) : ∃ M : ℝ, ∀ p : Fin 512,
    (Host.exp (subf S (broadcastInDim S16x6x512x512 ![0, 1, 2, 3] bcast_S16x6x512x1_S16x6x512x512_0_1_2_3 (broadcastInDim S16x6x512x1 ![0, 1, 2] bcast_S16x6x512_S16x6x512x1_0_1_2 (maximumf (broadcastInDim S16x6x512 ![] bcast_S_S16x6x512 (constant S_ .f32 0xFF800000#32)) (Host.reduce FloatOps.maximumf S (constant S_ .f32 0xFF800000#32) reducesTo_S16x6x512x512_S16x6x512_d3 h_S_))))) : FVec Ideal S16x6x512x512 .f32) (ix4 b g n p)
      = Ideal.exp (((f (ix4 b g n p) : ℝ) : EReal) - ((M : ℝ) : EReal)) := by
  obtain ⟨r, hr⟩ := row_max S (fun i => ⟨f i, hS i⟩) b g n
  exact ⟨r, fun p => (less_row S _ b g n p _ hr).trans (by rw [hS])⟩

/-- A fact of every four coordinates is a fact of every index. -/
theorem forall_ix4 {a b c d : ℕ} {P : (⟨4, ![a, b, c, d]⟩ : Shape).Idx → Prop} (h : ∀ i j k l, P (ix4 i j k l)) : ∀ x, P x := by
  intro x
  have e : x = ix4 (x 0) (x 1) (x 2) (x 3) := by funext k; fin_cases k <;> rfl
  rw [e]; exact h _ _ _ _

/-- A fact of every three coordinates is a fact of every index. -/
theorem forall_ix3 {a b c : ℕ} {P : (⟨3, ![a, b, c]⟩ : Shape).Idx → Prop} (h : ∀ i j k, P (ix3 i j k)) : ∀ x, P x := by
  intro x
  have e : x = ix3 (x 0) (x 1) (x 2) := by funext k; fin_cases k <;> rfl
  rw [e]; exact h _ _ _

/-- The reference's attention result. -/
theorem v763_eq : (Host.divf (res_main_v759 V0) (broadcastInDim S16x6x512x512 ![0, 1, 2, 3] bcast_S16x6x512x1_S16x6x512x512_0_1_2_3 (broadcastInDim S16x6x512x1 ![0, 1, 2] bcast_S16x6x512_S16x6x512x1_0_1_2 (Host.reduceAdd (res_main_v759 V0) (constant S_ .f32 0x00000000#32) reducesTo_S16x6x512x512_S16x6x512_d3 h_S_))) : FVec Ideal S16x6x512x512 .f32)
    = attRes (ratt V0) := by
  refine funext (forall_ix4 fun b g n p => ?_)
  show _ = ratt V0 b g n p
  unfold ratt
  generalize res_main_v759 V0 = E
  pointwise []

/-- A fact of every prior of every batch is a fact of every row. -/
theorem forall_rows {P : S8192x192.Idx → Prop} (h : ∀ (b : Fin 16) (n : Fin 512) (d : Fin 192), P (ix2 ⟨512 * (b : ℕ) + n, by omega⟩ d)) :
    ∀ i, P i := by
  intro i
  have h0 : (i 0 : ℕ) < 8192 := (i 0).isLt
  have e : i = ix2 ⟨512 * ((⟨(i 0 : ℕ) / 512, by omega⟩ : Fin 16) : ℕ) + (⟨(i 0 : ℕ) % 512, by omega⟩ : Fin 512), by
      show 512 * ((i 0 : ℕ) / 512) + (i 0 : ℕ) % 512 < 8192; omega⟩ (i 1) := by
    funext k
    fin_cases k
    · exact Fin.ext (by show (i 0 : ℕ) = 512 * ((i 0 : ℕ) / 512) + (i 0 : ℕ) % 512; omega)
    · rfl
  rw [e]
  exact h _ _ _

/-- The rows of every batch read at a prior of a batch. -/
theorem fcRes_at (R : Fin 16 → Fin 512 → Fin 192 → EReal) (b : Fin 16) (n : Fin 512) (d : Fin 192) (x : ℕ) (hx : x = 512 * (b : ℕ) + n)
    (h : x < 8192) : fcRes R (ix2 ⟨x, h⟩ d) = R b n d := by
  subst hx
  exact congrArg₂ (fun u v => R u v d) (Fin.ext (by show (512 * (b : ℕ) + n) / 512 = b; omega))
    (Fin.ext (by show (512 * (b : ℕ) + n) % 512 = n; omega))

/-- The reference's refined features of batch `b`. -/
def rref (b : Fin 16) : Fin 512 → Fin 192 → EReal :=
  refine' (rfeat V0 b) (ratt V0 b) (V0 (Proc.devRef .tc main_arg9)) (V0 (Proc.devRef .tc main_arg10)) (V0 (Proc.devRef .tc main_arg11))
    (V0 (Proc.devRef .tc main_arg12)) (V0 (Proc.devRef .tc main_arg13))

/-- The reference's refined features, as an array. -/
theorem v779_eq : res_main_v779 V0 = fcRes (rref V0) := by
  refine funext (forall_rows fun b n d => ?_)
  rw [fcRes_at _ _ _ _ _ rfl]
  unfold res_main_v779 rref refine' refined
  pointwise []
  rw [← add_assoc]
  unfold proj Forms.hidden proj context
  refine congrArg₂ _ (congrArg₂ _ rfl (Finset.sum_congr rfl fun x _ => congrArg₂ _ (congrArg₂ _ (congrArg₂ _ (Finset.sum_congr rfl fun d _ => congrArg₂ _ (Finset.sum_congr rfl fun p _ => mul_comm _ _) rfl) rfl) rfl) rfl)) rfl

/-- The predictions as an array, of the refined features as an array. -/
theorem pred_eq (R : Fin 16 → Fin 512 → Fin 192 → EReal) (A3 : FVec Ideal S16x512x76 .f32) (A14 A18 : FVec Ideal S192x192 .f32)
    (A15 A19 : FVec Ideal S192 .f32) (A16 : FVec Ideal S2x192 .f32) (A17 : FVec Ideal S2 .f32) (A20 : FVec Ideal S74x192 .f32)
    (A21 : FVec Ideal S74 .f32) (T : FVec Ideal S8192x192 .f32) (hT : T = fcRes R) :
    (concatenate S16x512x76 2 [⟨S16x512x2, (shapeCast _ (addf (Host.dotGeneral dot_S8192x192_S192x2_S8192x2_1_0_0_1_n_n none (maximumf (addf (Host.dotGeneral dot_S8192x192_S192x192_S8192x192_1_0_0_1_n_n none T (transpose S192x192 [1, 0] A14 transposes_S192x192_S192x192_1_0)) (broadcastInDim S8192x192 ![0, 1] bcast_S1x192_S8192x192_0_1 (broadcastInDim S1x192 ![1] bcast_S192_S1x192_1 A15))) (broadcastInDim S8192x192 ![] bcast_S_S8192x192 (constant S_ .f32 0x00000000#32))) (transpose S192x2 [1, 0] A16 transposes_S2x192_S192x2_1_0)) (broadcastInDim S8192x2 ![0, 1] bcast_S1x2_S8192x2_0_1 (broadcastInDim S1x2 ![1] bcast_S2_S1x2_1 A17))) shapeCasts_S8192x2_S16x512x2)⟩, ⟨S16x512x74, (addf (extractStridedSlice S16x512x74 ![0, 0, 2] A3 slices_S16x512x76_S16x512x74_0_0_2) (shapeCast _ (addf (Host.dotGeneral dot_S8192x192_S192x74_S8192x74_1_0_0_1_n_n none (maximumf (addf (Host.dotGeneral dot_S8192x192_S192x192_S8192x192_1_0_0_1_n_n none T (transpose S192x192 [1, 0] A18 transposes_S192x192_S192x192_1_0)) (broadcastInDim S8192x192 ![0, 1] bcast_S1x192_S8192x192_0_1 (broadcastInDim S1x192 ![1] bcast_S192_S1x192_1 A19))) (broadcastInDim S8192x192 ![] bcast_S_S8192x192 (constant S_ .f32 0x00000000#32))) (transpose S192x74 [1, 0] A20 transposes_S74x192_S192x74_1_0)) (broadcastInDim S8192x74 ![0, 1] bcast_S1x74_S8192x74_0_1 (broadcastInDim S1x74 ![1] bcast_S74_S1x74_1 A21))) shapeCasts_S8192x74_S16x512x74))⟩] concatenates_S16x512x2_S16x512x74_S16x512x76_d2 : FVec Ideal S16x512x76 .f32)
      = predRes A3 (fun b => head' (R b) A14 A15 A16 A17) (fun b => head' (R b) A18 A19 A20 A21) := by
  subst hT
  refine funext (forall_ix3 fun b n k => ?_)
  pointwise []
  have hF : ∀ (h : (b : ℕ) * 512 + n < 8192) (x : Fin 192), fcRes R (ix2 ⟨(b : ℕ) * 512 + n, h⟩ x) = R b n x :=
    fun h x => fcRes_at R b n x _ (by omega) h
  simp only [hF]
  unfold predRes
  by_cases hk : (k : ℕ) < 2
  · rw [dif_pos hk]
    refine Eq.trans ?_ (dif_pos (c := (k : ℕ) < 2) hk).symm
    rfl
  · rw [dif_neg hk]
    refine Eq.trans ?_ (dif_neg (c := (k : ℕ) < 2) hk).symm
    exact congrArg₂ _ (congrArg (fun u => A3 (ix3 b n u)) (Fin.ext (by show 2 + ((k : ℕ) - 2) = k; omega))) rfl

end Cert.RefOut
-- ==== Proof.SameFeat.lean ====
/- The kernel's gathered features are the reference's. -/
module
public import proofs.«01_k».proof.Proof.RefLevels
public import proofs.«01_k».proof.Proof.RefOut
@[expose] public section
set_option maxRecDepth 16384
noncomputable section

namespace Cert.SameFeat

open Idealize.ShloMosaic Idealize.ShloMosaic.TcCoe Idealize.SL.Sem Idealize.ShloMosaic.StableHlo Cert.ReferenceIdeal Cert.ReferenceIdeal.Gen Cert.ReferenceIdeal.Value
open Cert.Forms Cert.Entry Cert.Attend Cert.Rows Cert.Blend Cert.RefLevels Cert.RefOut

/-- A sum over 384 entries, cut into six runs of 64, run by run within each place. -/
theorem sum_runs (f : Fin 6 → Fin 64 → EReal) :
    ∑ m : Fin 384, f ⟨(m : ℕ) / 64, by omega⟩ ⟨(m : ℕ) % 64, Nat.mod_lt _ (by norm_num)⟩ = ∑ c : Fin 64, ∑ l : Fin 6, f l c := by
  rw [Finset.sum_comm, ← Fintype.sum_prod_type' (f := f)]
  exact Fintype.sum_equiv (finProdFinEquiv (m := 6) (n := 64)).symm _ _ fun m => rfl

variable (X0 : FVec Ideal S16x64x40x100 .f32) (X1 : FVec Ideal S16x64x20x50 .f32) (X2 : FVec Ideal S16x64x10x25 .f32)
  (X3 : FVec Ideal S16x512x76 .f32) (X4 : FVec Ideal S36 .f32) (X5 : FVec Ideal S192x6x64 .f32) (X6 : FVec Ideal S192 .f32)
  (ζ : Fin 36 → ℝ)

/-- The blend of the three levels' samples at point `s` of prior `n` of batch `b`. -/
def point (b : Fin 16) (n : Fin 512) (s : Fin 36) (c : Fin 64) : ℝ :=
  RealMath.softmax (levR (ζ s)) 0 * samp X0 b c (num s) (xcol X3 b n s)
    + RealMath.softmax (levR (ζ s)) 1 * samp X1 b c (num s) (xcol X3 b n s)
    + RealMath.softmax (levR (ζ s)) 2 * samp X2 b c (num s) (xcol X3 b n s)

/-- The weighted sum of a group's points. -/
def combo (b : Fin 16) (n : Fin 512) (o : Fin 192) (g : Fin 6) : EReal :=
  ∑ c : Fin 64, ∑ l : Fin 6, X5 (ix3 o l c) * ((point X0 X1 X2 X3 ζ b n ⟨6 * (g : ℕ) + l, by omega⟩ c : ℝ) : EReal)

variable (h0 : ∀ i, ∃ r : ℝ, X0 i = r) (h1 : ∀ i, ∃ r : ℝ, X1 i = r) (h2 : ∀ i, ∃ r : ℝ, X2 i = r)
  (hz : ∀ s, X4 (ix1 s) = ((ζ s : ℝ) : EReal))

include h0 h1 h2 hz in
/-- The kernel's blend at a point. -/
theorem feature_point (b : Fin 16) (n : Fin 512) (s : Fin 36) (c : Fin 64) :
    feature (cut4 X0 b) (cut4 X1 b) (cut4 X2 b) (cut3 X3 b) (Block.zcol (col X4) 0) (Block.zcol (col X4) 1) (Block.zcol (col X4) 2) s s.isLt c n
      = ((point X0 X1 X2 X3 ζ b n s c : ℝ) : EReal) := by
  have hN : num s ≤ 71 := Nat.sub_le _ _
  have hc : ∀ l, Block.zcol (col X4) l (ix2 s 0) = ((RealMath.softmax (levR (ζ s)) l : ℝ) : EReal) :=
    fun l => zcol_real (col X4) l (ix2 s 0) (ζ s) (hz s)
  unfold feature point
  rw [EReal.coe_add, EReal.coe_add]
  refine congrArg₂ _ (congrArg₂ _ ?_ ?_) ?_
  · show share (cut4 X0 b) (Block.zcol (col X4) 0 (ix2 s 0)) _ _ _ = _
    rw [hc]
    exact share_real X0 h0 b _ _ _ hN c (by norm_num) (by norm_num)
  · show share (cut4 X1 b) (Block.zcol (col X4) 1 (ix2 s 0)) _ _ _ = _
    rw [hc]
    exact share_real X1 h1 b _ _ _ hN c (by norm_num) (by norm_num)
  · show share (cut4 X2 b) (Block.zcol (col X4) 2 (ix2 s 0)) _ _ _ = _
    rw [hc]
    exact share_real X2 h2 b _ _ _ hN c (by norm_num) (by norm_num)

include h0 h1 h2 hz in
/-- The kernel's features. -/
theorem kernel_feat (b : Fin 16) (n : Fin 512) (o : Fin 192) (g : Fin 6) (hg : (o : ℕ) / 32 = g) :
    Block.featK (cut4 X0 b) (cut4 X1 b) (cut4 X2 b) (cut3 X3 b) (col X4) (flat X5) (line X6) n o
      = combo X0 X1 X2 X3 X5 ζ b n o g + X6 (ix1 o) := by
  unfold Block.featK feats
  refine congrArg₂ (· + ·) ?_ rfl
  unfold combo
  rw [← sum_runs fun l c => X5 (ix3 o l c) * ((point X0 X1 X2 X3 ζ b n ⟨6 * (g : ℕ) + l, by omega⟩ c : ℝ) : EReal)]
  refine Finset.sum_congr rfl fun m _ => congrArg₂ _ rfl ?_
  have hs : 6 * ((o : ℕ) / 32) + (m : ℕ) / 64 < 36 := by omega
  refine (feature_point X0 X1 X2 X3 X4 ζ h0 h1 h2 hz b n ⟨_, hs⟩ _).trans ?_
  exact congrArg (fun s => ((point X0 X1 X2 X3 ζ b n s ⟨(m : ℕ) % 64, Nat.mod_lt _ (by norm_num)⟩ : ℝ) : EReal))
    (Fin.ext (by show 6 * ((o : ℕ) / 32) + (m : ℕ) / 64 = 6 * (g : ℕ) + (m : ℕ) / 64; rw [hg]))

variable (V0 : Valuation τ sig (Elt Ideal)) (e0 : V0 (Proc.devRef .tc main_arg0) = X0) (e1 : V0 (Proc.devRef .tc main_arg1) = X1)
  (e2 : V0 (Proc.devRef .tc main_arg2) = X2) (e3 : V0 (Proc.devRef .tc main_arg3) = X3) (e4 : V0 (Proc.devRef .tc main_arg4) = X4)
  (e5 : V0 (Proc.devRef .tc main_arg5) = X5) (e6 : V0 (Proc.devRef .tc main_arg6) = X6)

include h0 h1 h2 hz e0 e1 e2 e3 e4 in
/-- The reference's blend at a point. -/
theorem blend_point (A B C : FVec Ideal S16x18432x64 .f32) (W : FVec Ideal S36x3 .f32) (hA : res_main_v272 V0 = A)
    (hB : res_main_v498 V0 = B) (hC : res_main_v724 V0 = C) (hW : res_main_v52 V0 = W) (b : Fin 16) (n : Fin 512) (s : Fin 36)
    (c : Fin 64) (x : ℕ) (hx : x = 36 * (n : ℕ) + s) (h : x < 18432) :
    A (ix3 b ⟨x, h⟩ c) * W (ix2 s 0) + B (ix3 b ⟨x, h⟩ c) * W (ix2 s 1) + C (ix3 b ⟨x, h⟩ c) * W (ix2 s 2)
      = ((point X0 X1 X2 X3 ζ b n s c : ℝ) : EReal) := by
  subst hx
  have hw : ∀ l, W (ix2 s l) = ((RealMath.softmax (levR (ζ s)) l : ℝ) : EReal) :=
    fun l => (congrFun hW.symm _).trans (RefGrid.v52_at V0 ζ (fun s => (congrFun e4 (ix1 s)).trans (hz s)) s l)
  rw [hw, hw, hw, (congrFun hA.symm _).trans (v272_at V0 X3 e3 X0 e0 h0 b n s c), (congrFun hB.symm _).trans (v498_at V0 X3 e3 X1 e1 h1 b n s c),
    (congrFun hC.symm _).trans (v724_at V0 X3 e3 X2 e2 h2 b n s c)]
  rw [← EReal.coe_mul, ← EReal.coe_mul, ← EReal.coe_mul, ← EReal.coe_add, ← EReal.coe_add]
  unfold point
  simp only [mul_comm]

include h0 h1 h2 hz e0 e1 e2 e3 e4 e5 e6 in
/-- The reference's features. -/
theorem ref_feat (b : Fin 16) (n : Fin 512) (g : Fin 6) (a : Fin 32) :
    rfeat V0 b n (chan g a) = combo X0 X1 X2 X3 X5 ζ b n (chan g a) g + X6 (ix1 (chan g a)) := by
  have hb := blend_point X0 X1 X2 X3 X4 ζ h0 h1 h2 hz V0 e0 e1 e2 e3 e4 _ _ _ _ rfl rfl rfl rfl
  unfold rfeat combo
  subst e5 e6
  show res_main_v740 V0 (ix3 b n ⟨32 * (g : ℕ) + a, by omega⟩) = _
  unfold res_main_v740
  pointwise []
  simp only [chan_eq]
  refine congrArg₂ _ (Finset.sum_congr rfl fun c _ => Finset.sum_congr rfl fun l _ => congrArg₂ _ rfl ?_) rfl
  have hs : (g : ℕ) * 6 + l < 36 := by omega
  refine (hb b n ⟨(g : ℕ) * 6 + l, hs⟩ c _ (by show (n : ℕ) * 36 + ((g : ℕ) * 6 + (l : ℕ)) = 36 * (n : ℕ) + ((g : ℕ) * 6 + (l : ℕ)); omega) _).trans ?_
  exact congrArg (fun s => ((point X0 X1 X2 X3 ζ b n s c : ℝ) : EReal)) (Fin.ext (by show (g : ℕ) * 6 + (l : ℕ) = 6 * (g : ℕ) + l; omega))

include h0 h1 h2 hz e0 e1 e2 e3 e4 e5 e6 in
/-- The reference's features are the kernel's. -/
theorem feat_same (b : Fin 16) :
    rfeat V0 b = Block.featK (cut4 X0 b) (cut4 X1 b) (cut4 X2 b) (cut3 X3 b) (col X4) (flat X5) (line X6) := by
  funext n o
  have e : o = chan (grp o) ⟨(o : ℕ) % 32, Nat.mod_lt _ (by norm_num)⟩ :=
    Fin.ext (by show (o : ℕ) = 32 * ((o : ℕ) / 32) + (o : ℕ) % 32; omega)
  rw [kernel_feat X0 X1 X2 X3 X4 X5 X6 ζ h0 h1 h2 hz b n o (grp o) rfl]
  have := ref_feat X0 X1 X2 X3 X4 X5 X6 ζ h0 h1 h2 hz V0 e0 e1 e2 e3 e4 e5 e6 b n (grp o) ⟨(o : ℕ) % 32, Nat.mod_lt _ (by norm_num)⟩
  rwa [← e] at this

include h0 h1 h2 hz in
/-- The kernel's features are real where the gathering weights and bias are. -/
theorem feat_real (h5 : ∀ i, ∃ r : ℝ, X5 i = r) (h6 : ∀ i, ∃ r : ℝ, X6 i = r) (b : Fin 16) (n : Fin 512) (o : Fin 192) :
    ∃ r : ℝ, Block.featK (cut4 X0 b) (cut4 X1 b) (cut4 X2 b) (cut3 X3 b) (col X4) (flat X5) (line X6) n o = r := by
  rw [kernel_feat X0 X1 X2 X3 X4 X5 X6 ζ h0 h1 h2 hz b n o (grp o) rfl]
  choose w hw using h5
  choose u hu using h6
  refine ⟨(∑ c : Fin 64, ∑ l : Fin 6, w (ix3 o l c) * point X0 X1 X2 X3 ζ b n ⟨6 * (grp o : ℕ) + l, by omega⟩ c) + u (ix1 o), ?_⟩
  unfold combo
  rw [EReal.coe_add, RealMath.coe_sum, hu]
  refine congrArg₂ _ (Finset.sum_congr rfl fun c _ => ?_) rfl
  rw [RealMath.coe_sum]
  exact Finset.sum_congr rfl fun l _ => by rw [hw, EReal.coe_mul]

end Cert.SameFeat
-- ==== Proof.SameAtt.lean ====
/- The kernel's attention weights are the reference's. -/
module
public import proofs.«01_k».proof.Proof.RefOut
public import proofs.«01_k».proof.Proof.Softmax
@[expose] public section
set_option maxRecDepth 16384
noncomputable section

namespace Cert.SameAtt

open Idealize.ShloMosaic Idealize.ShloMosaic.TcCoe Idealize.SL.Sem Idealize.ShloMosaic.StableHlo Cert.ReferenceIdeal Cert.ReferenceIdeal.Gen Cert.ReferenceIdeal.Value
open Cert.Forms Cert.Entry Cert.Attend Cert.RefOut

/-- Real rows times the transpose of a real table is real. -/
theorem proj_real {k m : ℕ} (f : Fin 512 → Fin m → EReal) (F : Fin 512 → Fin m → ℝ) (hf : ∀ n e, f n e = ((F n e : ℝ) : EReal))
    (X : FVec Ideal ⟨2, ![k, m]⟩ .f32) (W : Fin k → Fin m → ℝ) (hW : ∀ d e, X (ix2 d e) = ((W d e : ℝ) : EReal)) (n : Fin 512) (d : Fin k) :
    proj f (mat X) n d = ((∑ e, F n e * W d e : ℝ) : EReal) := by
  unfold proj mat
  rw [RealMath.coe_sum]
  exact Finset.sum_congr rfl fun e _ => by rw [hf, hW, EReal.coe_mul]

/-- The attention's scale, the float nearest to the inverse root of 32, as a rational. -/
theorem scale_lit : Ideal.ofBits .f32 0x3E3504F3#32 = ((11863283 / 67108864 : ℝ) : EReal) := by
  simp [Ideal.ofBits, Ideal.ieee, -EReal.coe_mul, -EReal.coe_sub]; norm_num

/-- The reference's attention weights are the kernel's of the reference's features. -/
theorem att_same (V0 : Valuation τ sig (Elt Ideal)) (X7 : FVec Ideal S32x192 .f32) (e7 : V0 (Proc.devRef .tc main_arg7) = X7)
    (X8 : FVec Ideal S192x192 .f32) (e8 : V0 (Proc.devRef .tc main_arg8) = X8) (h7 : ∀ i, ∃ r : ℝ, X7 i = r)
    (h8 : ∀ i, ∃ r : ℝ, X8 i = r) (hf : ∀ b n o, ∃ r : ℝ, rfeat V0 b n o = r) (b : Fin 16) :
    ratt V0 b = att2 (query (rfeat V0 b) X7) (proj (rfeat V0 b) (mat X8)) := by
  choose F hF using hf
  choose Q hQ using h7
  choose K hK using h8
  have hk : ∀ b n d, proj (rfeat V0 b) (mat X8) n d = ((∑ e, F b n e * K (ix2 d e) : ℝ) : EReal) :=
    fun b => proj_real _ (F b) (hF b) X8 (fun d e => K (ix2 d e)) fun d e => hK _
  have hq : ∀ b n a, proj (rfeat V0 b) (mat X7) n a = ((∑ e, F b n e * Q (ix2 a e) : ℝ) : EReal) :=
    fun b => proj_real _ (F b) (hF b) X7 (fun d e => Q (ix2 d e)) fun d e => hQ _
  generalize hkr : (fun (b : Fin 16) (n : Fin 512) (d : Fin 192) => ∑ e, F b n e * K (ix2 d e)) = kr
  generalize hqr : (fun (b : Fin 16) (n : Fin 512) (a : Fin 32) => ∑ e, F b n e * Q (ix2 a e)) = qr
  replace hk : ∀ b n d, proj (rfeat V0 b) (mat X8) n d = ((kr b n d : ℝ) : EReal) := fun b n d => by rw [hk, ← hkr]
  replace hq : ∀ b n a, proj (rfeat V0 b) (mat X7) n a = ((qr b n a : ℝ) : EReal) := fun b n a => by rw [hq, ← hqr]
  have hS : ∀ b g n p, res_main_v752 V0 (ix4 b g n p)
      = (((∑ a : Fin 32, kr b p (chan g a) * qr b n a) * (11863283 / 67108864) : ℝ) : EReal) := by
    intro b g n p
    rw [v752_at V0 X7 e7 X8 e8, scale_lit, EReal.coe_mul, RealMath.coe_sum]
    exact congrArg₂ _ (Finset.sum_congr rfl fun a _ => by rw [hk, hq, EReal.coe_mul]) rfl
  have hT : ∀ g n p, score (query (rfeat V0 b) X7) (proj (rfeat V0 b) (mat X8)) g n p
      = ((∑ a : Fin 32, qr b n a * ((11863283 / 67108864) * (Real.log 2)⁻¹) * kr b p (chan g a) : ℝ) : EReal) := by
    intro g n p
    unfold score query
    rw [RealMath.coe_sum]
    exact Finset.sum_congr rfl fun a _ => by rw [hk, hq, ← EReal.coe_mul, ← EReal.coe_mul]
  funext g n p
  obtain ⟨M, hM⟩ := shifted (res_main_v752 V0)
    (fun i => (∑ a : Fin 32, kr (i 0) (i 3) (chan (i 1) a) * qr (i 0) (i 2) a) * (11863283 / 67108864))
    (forall_ix4 fun b g n p => hS b g n p) b g n
  have hE : ∀ p, res_main_v759 V0 (ix4 b g n p)
      = Ideal.exp ((((∑ a : Fin 32, kr b p (chan g a) * qr b n a) * (11863283 / 67108864) : ℝ) : EReal) - ((M : ℝ) : EReal)) := hM
  unfold ratt att2
  simp only [hE, hT]
  rw [RealMath.softmax_exp (fun p => (∑ a : Fin 32, kr b p (chan g a) * qr b n a) * (11863283 / 67108864)) M p]
  refine (RealMath.softmax_exp2 _ _ (fun p => ?_) p).symm
  have hl : Real.log 2 ≠ 0 := (Real.log_pos (by norm_num)).ne'
  rw [Finset.sum_mul, Finset.sum_mul]
  refine Finset.sum_congr rfl fun a _ => ?_
  field_simp

end Cert.SameAtt
-- ==== Proof.Main.lean ====
/- The kernel's three results and the reference's are the same arrays. -/
module
public import proofs.«01_k».proof.Defs
public import proofs.«01_k».proof.Proof.SameFeat
public import proofs.«01_k».proof.Proof.SameAtt
@[expose] public section
set_option maxRecDepth 16384
noncomputable section

namespace Cert.Main

open Idealize.ShloMosaic Idealize.ShloMosaic.TcCoe Idealize.SL.Sem Idealize.ShloMosaic.StableHlo Cert.ReferenceIdeal.Gen Cert.ReferenceIdeal.Value
open Cert.Entry Cert.RefOut

/-- The side conditions of the precondition. -/
instance preFacts : Cert.Pre_finite_inputs.Facts :=
  ⟨by decide, by decide, by decide, by decide, by decide, by decide, by decide, by decide⟩

/-- The literal infinity. -/
theorem inf_lit : Ideal.ofBits .f32 0x7F800000#32 = (⊤ : EReal) := by
  simp [Ideal.ofBits, Ideal.ieee]

/-- An extended real whose absolute value is below infinity is a real. -/
theorem real_of_abs (x : EReal) (h : max x (-x) < ⊤) : ∃ r : ℝ, x = r := by
  induction x with
  | bot => simp at h
  | coe r => exact ⟨r, rfl⟩
  | top => simp at h

/-- A table whose absolute values all compare below infinity is real. -/
theorem real_of_pre {s : Shape} (X : FVec Ideal s .f32) (hb : (⟨0, ![]⟩ : Shape).BroadcastsInDim s (![] : Fin 0 → Fin s.rank))
    (h : cmpf .olt (Host.absf X) (broadcastInDim s ![] hb (constant (⟨0, ![]⟩ : Shape) .f32 0x7F800000#32)) = fun _ => 1#1) (i : s.Idx) :
    ∃ r : ℝ, X i = r := by
  refine real_of_abs (X i) ?_
  have h' : Ideal.cmp .olt (max (X i) (-X i)) (Ideal.ofBits .f32 0x7F800000#32) = 1#1 := congrFun h i
  rw [inf_lit] at h'
  change BitVec.ofBool (decide (max (X i) (-X i) < ⊤)) = 1#1 at h'
  by_contra hn
  rw [decide_eq_false hn] at h'
  exact absurd h' (by decide)

/-- Every entry is a real number. -/
def Reals {S : Shape} (X : FVec Ideal S .f32) : Prop := ∀ i, ∃ r : ℝ, X i = r

variable (m : (ℓ : Loc Cert.KernelIdeal.nD Cert.KernelIdeal.τ Cert.KernelIdeal.sig) → Buf (Elt Ideal) ℓ) (c : Dev Cert.KernelIdeal.nD)

/-- What an argument of the kernel holds at launch. -/
abbrev arg (b : Ref Cert.KernelIdeal.sig .tc) := m ((c.tc : Thread Cert.KernelIdeal.nD Cert.KernelIdeal.τ).loc b)

/-- The arguments the precondition speaks of are real. -/
theorem reals (h : Cert.Pre_KernelIdeal_finite_inputs m) :
    Reals (S := Cert.KernelIdeal.S16x64x40x100) (arg m c Cert.KernelIdeal.main_arg0)
    ∧ Reals (S := Cert.KernelIdeal.S16x64x20x50) (arg m c Cert.KernelIdeal.main_arg1)
    ∧ Reals (S := Cert.KernelIdeal.S16x64x10x25) (arg m c Cert.KernelIdeal.main_arg2)
    ∧ Reals (S := Cert.KernelIdeal.S36) (arg m c Cert.KernelIdeal.main_arg4)
    ∧ Reals (S := Cert.KernelIdeal.S192x6x64) (arg m c Cert.KernelIdeal.main_arg5)
    ∧ Reals (S := Cert.KernelIdeal.S192) (arg m c Cert.KernelIdeal.main_arg6)
    ∧ Reals (S := Cert.KernelIdeal.S32x192) (arg m c Cert.KernelIdeal.main_arg7)
    ∧ Reals (S := Cert.KernelIdeal.S192x192) (arg m c Cert.KernelIdeal.main_arg8) := by
  obtain ⟨p0, p1, p2, p4, p5, p6, p7, p8⟩ := h c
  exact ⟨real_of_pre _ _ p0, real_of_pre _ _ p1, real_of_pre _ _ p2, real_of_pre _ _ p4, real_of_pre _ _ p5, real_of_pre _ _ p6,
    real_of_pre _ _ p7, real_of_pre _ _ p8⟩

variable (V0 : Valuation Cert.ReferenceIdeal.τ Cert.ReferenceIdeal.sig (Elt Ideal)) (h : Cert.Pre_KernelIdeal_finite_inputs m)
  (e0 : V0 (Proc.devRef .tc Cert.ReferenceIdeal.main_arg0) = arg m c Cert.KernelIdeal.main_arg0)
  (e1 : V0 (Proc.devRef .tc Cert.ReferenceIdeal.main_arg1) = arg m c Cert.KernelIdeal.main_arg1)
  (e2 : V0 (Proc.devRef .tc Cert.ReferenceIdeal.main_arg2) = arg m c Cert.KernelIdeal.main_arg2)
  (e3 : V0 (Proc.devRef .tc Cert.ReferenceIdeal.main_arg3) = arg m c Cert.KernelIdeal.main_arg3)
  (e4 : V0 (Proc.devRef .tc Cert.ReferenceIdeal.main_arg4) = arg m c Cert.KernelIdeal.main_arg4)
  (e5 : V0 (Proc.devRef .tc Cert.ReferenceIdeal.main_arg5) = arg m c Cert.KernelIdeal.main_arg5)
  (e6 : V0 (Proc.devRef .tc Cert.ReferenceIdeal.main_arg6) = arg m c Cert.KernelIdeal.main_arg6)
  (e7 : V0 (Proc.devRef .tc Cert.ReferenceIdeal.main_arg7) = arg m c Cert.KernelIdeal.main_arg7)
  (e8 : V0 (Proc.devRef .tc Cert.ReferenceIdeal.main_arg8) = arg m c Cert.KernelIdeal.main_arg8)
  (e9 : V0 (Proc.devRef .tc Cert.ReferenceIdeal.main_arg9) = arg m c Cert.KernelIdeal.main_arg9)
  (e10 : V0 (Proc.devRef .tc Cert.ReferenceIdeal.main_arg10) = arg m c Cert.KernelIdeal.main_arg10)
  (e11 : V0 (Proc.devRef .tc Cert.ReferenceIdeal.main_arg11) = arg m c Cert.KernelIdeal.main_arg11)
  (e12 : V0 (Proc.devRef .tc Cert.ReferenceIdeal.main_arg12) = arg m c Cert.KernelIdeal.main_arg12)
  (e13 : V0 (Proc.devRef .tc Cert.ReferenceIdeal.main_arg13) = arg m c Cert.KernelIdeal.main_arg13)
  (e14 : V0 (Proc.devRef .tc Cert.ReferenceIdeal.main_arg14) = arg m c Cert.KernelIdeal.main_arg14)
  (e15 : V0 (Proc.devRef .tc Cert.ReferenceIdeal.main_arg15) = arg m c Cert.KernelIdeal.main_arg15)
  (e16 : V0 (Proc.devRef .tc Cert.ReferenceIdeal.main_arg16) = arg m c Cert.KernelIdeal.main_arg16)
  (e17 : V0 (Proc.devRef .tc Cert.ReferenceIdeal.main_arg17) = arg m c Cert.KernelIdeal.main_arg17)
  (e18 : V0 (Proc.devRef .tc Cert.ReferenceIdeal.main_arg18) = arg m c Cert.KernelIdeal.main_arg18)
  (e19 : V0 (Proc.devRef .tc Cert.ReferenceIdeal.main_arg19) = arg m c Cert.KernelIdeal.main_arg19)
  (e20 : V0 (Proc.devRef .tc Cert.ReferenceIdeal.main_arg20) = arg m c Cert.KernelIdeal.main_arg20)
  (e21 : V0 (Proc.devRef .tc Cert.ReferenceIdeal.main_arg21) = arg m c Cert.KernelIdeal.main_arg21)

include h e0 e1 e2 e3 e4 e5 e6 in
/-- The features agree, and are real. -/
theorem feats (b : Fin 16) : rfeat V0 b = kfeat m c b ∧ ∀ n o, ∃ r : ℝ, rfeat V0 b n o = r := by
  obtain ⟨r0, r1, r2, r4, r5, r6, r7, r8⟩ := reals m c h
  choose ζ hζ using r4
  have hz := fun s => hζ (ix1 s)
  have hs := SameFeat.feat_same _ _ _ _ _ _ _ (fun s => ζ (ix1 s)) r0 r1 r2 hz V0 e0 e1 e2 e3 e4 e5 e6 b
  refine ⟨hs, fun n o => ?_⟩
  rw [hs]
  exact SameFeat.feat_real _ _ _ _ _ _ _ (fun s => ζ (ix1 s)) r0 r1 r2 hz r5 r6 b n o

include h e0 e1 e2 e3 e4 e5 e6 e7 e8 in
/-- The attention weights agree. -/
theorem atts (b : Fin 16) : ratt V0 b = katt m c b := by
  obtain ⟨r0, r1, r2, r4, r5, r6, r7, r8⟩ := reals m c h
  have hf := feats m c V0 h e0 e1 e2 e3 e4 e5 e6
  rw [SameAtt.att_same V0 _ e7 _ e8 r7 r8 (fun b => (hf b).2) b, (hf b).1]
  rfl

include h e0 e1 e2 e3 e4 e5 e6 e7 e8 e9 e10 e11 e12 e13 in
/-- The refined features agree. -/
theorem refs : rref V0 = kref m c := by
  funext b
  unfold rref kref
  rw [atts m c V0 h e0 e1 e2 e3 e4 e5 e6 e7 e8 b, (feats m c V0 h e0 e1 e2 e3 e4 e5 e6 b).1, e9, e10, e11, e12, e13]

include h e0 e1 e2 e3 e4 e5 e6 e7 e8 in
/-- The attention results agree. -/
theorem res_att : attRes (ratt V0) = attRes (katt m c) := congrArg attRes (funext (atts m c V0 h e0 e1 e2 e3 e4 e5 e6 e7 e8))

include h e0 e1 e2 e3 e4 e5 e6 e7 e8 e9 e10 e11 e12 e13 in
/-- The refined feature results agree. -/
theorem res_fc : res_main_v779 V0 = fcRes (kref m c) :=
  (v779_eq V0).trans (congrArg fcRes (refs m c V0 h e0 e1 e2 e3 e4 e5 e6 e7 e8 e9 e10 e11 e12 e13))

include e14 e15 e16 e17 e18 e19 e20 e21 e3 in
/-- The predictions of equal refined features agree. -/
theorem res_pred (R : Fin 16 → Fin 512 → Fin 192 → EReal) (hR : R = kref m c) :
    predRes (V0 (Proc.devRef .tc Cert.ReferenceIdeal.main_arg3))
        (fun b => head' (R b) (V0 (Proc.devRef .tc Cert.ReferenceIdeal.main_arg14)) (V0 (Proc.devRef .tc Cert.ReferenceIdeal.main_arg15))
          (V0 (Proc.devRef .tc Cert.ReferenceIdeal.main_arg16)) (V0 (Proc.devRef .tc Cert.ReferenceIdeal.main_arg17)))
        (fun b => head' (R b) (V0 (Proc.devRef .tc Cert.ReferenceIdeal.main_arg18)) (V0 (Proc.devRef .tc Cert.ReferenceIdeal.main_arg19))
          (V0 (Proc.devRef .tc Cert.ReferenceIdeal.main_arg20)) (V0 (Proc.devRef .tc Cert.ReferenceIdeal.main_arg21)))
      = predRes (arg m c Cert.KernelIdeal.main_arg3) (kcls m c) (kreg m c) := by
  subst hR
  rw [e3, e14, e15, e16, e17, e18, e19, e20, e21]
  rfl

end Cert.Main
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Main
public import Idealize.ShloMosaic.Adequacy
public import Idealize.ShloMosaic.Init

@[expose] public section

noncomputable section

namespace Cert.Proof

open Idealize.ShloMosaic Idealize.ShloMosaic.TcCoe Idealize.SL.Sem Idealize.ShloMosaic.StableHlo
open Cert.Entry Cert.RefOut

/-- The kernel runs, keeps its arguments and ends quiescent. -/
theorem frame_kernel : Cert.quiescent_Kernel := fun m g _ => Cert.Kernel.Gen.frame m g

/-- So does its idealization. -/
theorem frame_ideal : Cert.quiescent_KernelIdeal := fun m g _ => Cert.KernelIdeal.Gen.frame m g

/-- So does its idealization from a memory with finite inputs. -/
theorem frame_ideal_finite : Cert.quiescent_KernelIdeal_pre_finite_inputs := fun m g _ => Cert.KernelIdeal.Gen.frame m g

/-- So does the reference. -/
theorem frame_reference : Cert.quiescent_ReferenceIdeal := fun m g _ =>
  (θ_run _ _ _).mono (fun r h => ⟨fun c => (h c).2.2.2, sem_eq_zero_of_no_sems (by decide) r.2⟩) (Cert.ReferenceIdeal.Value.run m g)

/-- So does the reference from a memory with finite inputs. -/
theorem frame_reference_finite : Cert.quiescent_ReferenceIdeal_pre_finite_inputs := fun m g _ => frame_reference m g trivial

/-- Every constant the idealization names is within rounding of the real it stands for. -/
theorem preserved : Cert.preserves_Kernel_KernelIdeal := by
  unfold Cert.preserves_Kernel_KernelIdeal
  repeat' first | exact IdealRules.named_const.statement _ _ _ _ _ rfl | apply And.intro

/-- The idealized kernel and the reference compute equal results. -/
theorem equal : Cert.algebraic_KernelIdeal_ReferenceIdeal_pre_finite_inputs := by
  intro m g m' g' hp ha
  refine ⟨fun c => predRes (m ((c.tc : Thread Cert.KernelIdeal.nD Cert.KernelIdeal.τ).loc Cert.KernelIdeal.main_arg3)) (kcls m c) (kreg m c),
    fun c => fcRes (kref m c), fun c => attRes (katt m c), ?_, ?_⟩
  · refine (θ_run _ _ _).mono (fun r h c => ?_) (Cert.KernelIdeal.Value.run_blocks m g)
    obtain ⟨h0, h1, h2, hk⟩ := h c
    exact ⟨h0.trans (arr22 m c), h1.trans (arr23 m c), h2.trans (arr24 m c), hk⟩
  · refine (θ_run _ _ _).mono (fun r h c => ?_) (Cert.ReferenceIdeal.Value.run m' g')
    obtain ⟨h0, h1, h2, hk⟩ := h c
    obtain ⟨e0, e1, e2, e3, e4, e5, e6, e7, e8, e9, e10, e11, e12, e13, e14, e15, e16, e17, e18, e19, e20, e21⟩ := ha c
    refine ⟨h0.trans ?_, h1.trans ?_, h2.trans ?_, hk⟩
    · refine (pred_eq (rref (launchContents m' c)) _ _ _ _ _ _ _ _ _ _ (v779_eq (launchContents m' c))).trans ?_
      exact Main.res_pred m c (launchContents m' c) e3 e14 e15 e16 e17 e18 e19 e20 e21
        _ (Main.refs m c (launchContents m' c) hp e0 e1 e2 e3 e4 e5 e6 e7 e8 e9 e10 e11 e12 e13)
    · exact Main.res_fc m c (launchContents m' c) hp e0 e1 e2 e3 e4 e5 e6 e7 e8 e9 e10 e11 e12 e13
    · exact (v763_eq (launchContents m' c)).trans (Main.res_att m c (launchContents m' c) hp e0 e1 e2 e3 e4 e5 e6 e7 e8)

/-- Everything claimed. -/
theorem claim : Cert.Claim :=
  ⟨Cert.Kernel.Gen.facts, Cert.KernelIdeal.Gen.facts, Cert.ReferenceIdeal.Gen.facts, Cert.Main.preFacts,
    frame_kernel, frame_ideal, frame_ideal_finite, frame_reference, frame_reference_finite, preserved, equal⟩

end Cert.Proof

end
